-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4 (m : (ℓ : Loc Cert.Reference4.nD Cert.Reference4.τ Cert.Reference4.sig) → Buf (Elt Bits) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5 (m : (ℓ : Loc Cert.Reference5.nD Cert.Reference5.τ Cert.Reference5.sig) → Buf (Elt Bits) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6 (m : (ℓ : Loc Cert.Reference6.nD Cert.Reference6.τ Cert.Reference6.sig) → Buf (Elt Bits) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7 (m : (ℓ : Loc Cert.Reference7.nD Cert.Reference7.τ Cert.Reference7.sig) → Buf (Elt Bits) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3)
      ∧ r.2.mem ((c.tc : Thread Cert.Reference5.nD Cert.Reference5.τ).loc Cert.Reference5.main_arg4) = m ((c.tc : Thread Cert.Reference5.nD Cert.Reference5.τ).loc Cert.Reference5.main_arg4)
      ∧ r.2.mem ((c.tc : Thread Cert.Reference5.nD Cert.Reference5.τ).loc Cert.Reference5.main_arg5) = m ((c.tc : Thread Cert.Reference5.nD Cert.Reference5.τ).loc Cert.Reference5.main_arg5)
      ∧ r.2.mem ((c.tc : Thread Cert.Reference5.nD Cert.Reference5.τ).loc Cert.Reference5.main_arg6) = m ((c.tc : Thread Cert.Reference5.nD Cert.Reference5.τ).loc Cert.Reference5.main_arg6)
      ∧ r.2.mem ((c.tc : Thread Cert.Reference5.nD Cert.Reference5.τ).loc Cert.Reference5.main_arg7) = m ((c.tc : Thread Cert.Reference5.nD Cert.Reference5.τ).loc Cert.Reference5.main_arg7)
      ∧ r.2.mem ((c.tc : Thread Cert.Reference5.nD Cert.Reference5.τ).loc Cert.Reference5.main_arg8) = m ((c.tc : Thread Cert.Reference5.nD Cert.Reference5.τ).loc Cert.Reference5.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6 [hReference6 : Cert.Reference6.Facts] : Prop :=
  ∀ (m : (ℓ : Loc Cert.Reference6.nD Cert.Reference6.τ Cert.Reference6.sig) → Buf (Elt Bits) ℓ) (g : Dev Cert.Reference6.nD → PrngReg), Pre_Reference6 m →
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3)
      ∧ r.2.mem ((c.tc : Thread Cert.Reference6.nD Cert.Reference6.τ).loc Cert.Reference6.main_arg4) = m ((c.tc : Thread Cert.Reference6.nD Cert.Reference6.τ).loc Cert.Reference6.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7 [hReference7 : Cert.Reference7.Facts] : Prop :=
  ∀ (m : (ℓ : Loc Cert.Reference7.nD Cert.Reference7.τ Cert.Reference7.sig) → Buf (Elt Bits) ℓ) (g : Dev Cert.Reference7.nD → PrngReg), Pre_Reference7 m →
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1)
      ∧ r.2.mem ((c.tc : Thread Cert.Reference7.nD Cert.Reference7.τ).loc Cert.Reference7.main_arg2) = m ((c.tc : Thread Cert.Reference7.nD Cert.Reference7.τ).loc Cert.Reference7.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)) (v3 : (c : Dev Cert.KernelIdeal.nD) → Buf (Elt Ideal) ((c.tc : Thread Cert.KernelIdeal.nD Cert.KernelIdeal.τ).loc Cert.KernelIdeal.main_v50_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_v50_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v31) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)) (v3 : (c : Dev Cert.Kernel5Ideal.nD) → Buf (Elt Ideal) ((c.tc : Thread Cert.Kernel5Ideal.nD Cert.Kernel5Ideal.τ).loc Cert.Kernel5Ideal.main_v22_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_v22_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v92) = v1 c
          ∧ r.2.mem ((c.tc : Thread Cert.Reference5Ideal.nD Cert.Reference5Ideal.τ).loc Cert.Reference5Ideal.main_v79) = v2 c
          ∧ r.2.mem ((c.tc : Thread Cert.Reference5Ideal.nD Cert.Reference5Ideal.τ).loc Cert.Reference5Ideal.main_v84) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v16) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4 : Cert.Reference4.Facts) (hReference4Ideal : Cert.Reference4Ideal.Facts) (hKernel5 : Cert.Kernel5.Facts) (hKernel5Ideal : Cert.Kernel5Ideal.Facts) (hReference5 : Cert.Reference5.Facts) (hReference5Ideal : Cert.Reference5Ideal.Facts) (hKernel6 : Cert.Kernel6.Facts) (hKernel6Ideal : Cert.Kernel6Ideal.Facts) (hReference6 : Cert.Reference6.Facts) (hReference6Ideal : Cert.Reference6Ideal.Facts) (hKernel7 : Cert.Kernel7.Facts) (hKernel7Ideal : Cert.Kernel7Ideal.Facts) (hReference7 : Cert.Reference7.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4 (hReference4 := hReference4)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5 (hReference5 := hReference5)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6 (hReference6 := hReference6)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7 (hReference7 := hReference7)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg5 : FVec F S1x5632 .f32) (main_arg6 : FVec F S2816x1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S1x5632 .f32 := broadcastInDim S1x5632 ![] bcast_S_S1x5632 main_cst_13
  let main_v35 : IVec S1x5632 1 := cmpf .olt main_arg5 main_v34
  let main_cst_14 : FVec F S_ .f32 := constant S_ .f32 0xFF800000#32
  let main_v36 : FVec F S1x5632 .f32 := broadcastInDim S1x5632 ![] bcast_S_S1x5632 main_cst_14
  let main_v37 : IVec S1x5632 1 := cmpf .ogt main_arg5 main_v36
  let main_v38 : IVec S1x5632 1 := andi main_v35 main_v37
  let main_c_15 : IVec S_ 1 := constantI S_ 1 1#1
  let main_v39 : IVec S_ 1 := (fun x v => Host.reduce IntOp.andi x v reducesTo_S1x5632_S_d0_1 h_S_) main_v38 main_c_15
  let main_v40 : IVec S_ 1 := andi main_v33 main_v39
  let main_cst_16 : FVec F S_ .f32 := constant S_ .f32 0x7F800000#32
  let main_v41 : FVec F S2816x1024 .f32 := broadcastInDim S2816x1024 ![] bcast_S_S2816x1024 main_cst_16
  let main_v42 : IVec S2816x1024 1 := cmpf .olt main_arg6 main_v41
  let main_cst_17 : FVec F S_ .f32 := constant S_ .f32 0xFF800000#32
  let main_v43 : FVec F S2816x1024 .f32 := broadcastInDim S2816x1024 ![] bcast_S_S2816x1024 main_cst_17
  let main_v44 : IVec S2816x1024 1 := cmpf .ogt main_arg6 main_v43
  let main_v45 : IVec S2816x1024 1 := andi main_v42 main_v44
  let main_c_18 : IVec S_ 1 := constantI S_ 1 1#1
  let main_v46 : IVec S_ 1 := (fun x v => Host.reduce IntOp.andi x v reducesTo_S2816x1024_S_d0_1 h_S_) main_v45 main_c_18
  let main_v47 : IVec S_ 1 := andi main_v40 main_v46
  main_v47

def fn_part1 {F : FTy → Type} [FloatOps F] (main_arg2 : FVec F S1x1024 .f32) (main_arg3 : FVec F S1024x5632 .f32) (main_arg4 : FVec F S3x5632 .f32) (main_arg5 : FVec F S1x5632 .f32) (main_arg6 : FVec F S2816x1024 .f32) (main_v12 : IVec S_ 1) (main_v14 : IVec S1x1024 1) (main_v15 : FVec F S1x1024 .f32) : IVec S_ 1 :=
  let main_v16 : IVec S1x1024 1 := cmpf .ogt main_arg2 main_v15
  let main_v17 : IVec S1x1024 1 := andi main_v14 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v12 main_v18
  let main_cst_7 : FVec F S_ .f32 := constant S_ .f32 0x7F800000#32
  let main_v20 : FVec F S1024x5632 .f32 := broadcastInDim S1024x5632 ![] bcast_S_S1024x5632 main_cst_7
  let main_v21 : IVec S1024x5632 1 := cmpf .olt main_arg3 main_v20
  let main_cst_8 : FVec F S_ .f32 := constant S_ .f32 0xFF800000#32
  let main_v22 : FVec F S1024x5632 .f32 := broadcastInDim S1024x5632 ![] bcast_S_S1024x5632 main_cst_8
  let main_v23 : IVec S1024x5632 1 := cmpf .ogt main_arg3 main_v22
  let main_v24 : IVec S1024x5632 1 := andi main_v21 main_v23
  let main_c_9 : IVec S_ 1 := constantI S_ 1 1#1
  let main_v25 : IVec S_ 1 := (fun x v => Host.reduce IntOp.andi x v reducesTo_S1024x5632_S_d0_1 h_S_) main_v24 main_c_9
  let main_v26 : IVec S_ 1 := andi main_v19 main_v25
  let main_cst_10 : FVec F S_ .f32 := constant S_ .f32 0x7F800000#32
  let main_v27 : FVec F S3x5632 .f32 := broadcastInDim S3x5632 ![] bcast_S_S3x5632 main_cst_10
  let main_v28 : IVec S3x5632 1 := cmpf .olt main_arg4 main_v27
  let main_cst_11 : FVec F S_ .f32 := constant S_ .f32 0xFF800000#32
  let main_v29 : FVec F S3x5632 .f32 := broadcastInDim S3x5632 ![] bcast_S_S3x5632 main_cst_11
  let main_v30 : IVec S3x5632 1 := cmpf .ogt main_arg4 main_v29
  let main_v31 : IVec S3x5632 1 := andi main_v28 main_v30
  let main_c_12 : IVec S_ 1 := constantI S_ 1 1#1
  let main_v32 : IVec S_ 1 := (fun x v => Host.reduce IntOp.andi x v reducesTo_S3x5632_S_d0_1 h_S_) main_v31 main_c_12
  fn_part2 (F := F) main_arg5 main_arg6 main_v26 main_v32

def fn {F : FTy → Type} [FloatOps F] (main_arg0 : FVec F S8192x1024 .f32) (main_arg1 : FVec F S8192x1024 .f32) (main_arg2 : FVec F S1x1024 .f32) (main_arg3 : FVec F S1024x5632 .f32) (main_arg4 : FVec F S3x5632 .f32) (main_arg5 : FVec F S1x5632 .f32) (main_arg6 : FVec F S2816x1024 .f32) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_arg1 main_v6
  let main_cst_2 : FVec F S_ .f32 := constant S_ .f32 0xFF800000#32
  let main_v8 : FVec F S8192x1024 .f32 := broadcastInDim S8192x1024 ![] bcast_S_S8192x1024 main_cst_2
  let main_v9 : IVec S8192x1024 1 := cmpf .ogt main_arg1 main_v8
  let main_v10 : IVec S8192x1024 1 := andi main_v7 main_v9
  let main_c_3 : IVec S_ 1 := constantI S_ 1 1#1
  let main_v11 : IVec S_ 1 := (fun x v => Host.reduce IntOp.andi x v reducesTo_S8192x1024_S_d0_1 h_S_) main_v10 main_c_3
  let main_v12 : IVec S_ 1 := andi main_v5 main_v11
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_arg2 main_v13
  let main_cst_5 : FVec F S_ .f32 := constant S_ .f32 0xFF800000#32
  let main_v15 : FVec F S1x1024 .f32 := broadcastInDim S1x1024 ![] bcast_S_S1x1024 main_cst_5
  fn_part1 (F := F) main_arg2 main_arg3 main_arg4 main_arg5 main_arg6 main_v12 main_v14 main_v15
-- ==== Kernel.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S3x8x704 : Shape := ⟨3, ![3, 8, 704]⟩
abbrev S8x3x704 : Shape := ⟨3, ![8, 3, 704]⟩
abbrev S_ : Shape := ⟨0, ![]⟩
abbrev S8x3x768 : Shape := ⟨3, ![8, 3, 768]⟩
abbrev S3x8x768 : Shape := ⟨3, ![3, 8, 768]⟩
abbrev S3x6144 : Shape := ⟨2, ![3, 6144]⟩
abbrev S8x704 : Shape := ⟨2, ![8, 704]⟩
abbrev S8x768 : Shape := ⟨2, ![8, 768]⟩
abbrev S1x6144 : Shape := ⟨2, ![1, 6144]⟩
abbrev S4x6144 : Shape := ⟨2, ![4, 6144]⟩
abbrev S8x6144 : Shape := ⟨2, ![8, 6144]⟩
abbrev S1024x8x704 : Shape := ⟨3, ![1024, 8, 704]⟩
abbrev S8x704x1024 : Shape := ⟨3, ![8, 704, 1024]⟩
abbrev S8x768x1024 : Shape := ⟨3, ![8, 768, 1024]⟩
abbrev S4x704x1024 : Shape := ⟨3, ![4, 704, 1024]⟩
abbrev S4x768x1024 : Shape := ⟨3, ![4, 768, 1024]⟩
abbrev S7x1024 : Shape := ⟨2, ![7, 1024]⟩
abbrev S8x1024 : Shape := ⟨2, ![8, 1024]⟩
abbrev S16x1024 : Shape := ⟨2, ![16, 1024]⟩
abbrev S1024x8192 : Shape := ⟨2, ![1024, 8192]⟩
abbrev S8192x5632 : Shape := ⟨2, ![8192, 5632]⟩
abbrev S2x5632 : Shape := ⟨2, ![2, 5632]⟩
abbrev S8190x5632 : Shape := ⟨2, ![8190, 5632]⟩
abbrev S8191x5632 : Shape := ⟨2, ![8191, 5632]⟩
abbrev S8192x8x704 : Shape := ⟨3, ![8192, 8, 704]⟩
abbrev S8192x8x768 : Shape := ⟨3, ![8192, 8, 768]⟩
abbrev S8192x6144 : Shape := ⟨2, ![8192, 6144]⟩
abbrev S4x8192x1024 : Shape := ⟨3, ![4, 8192, 1024]⟩
abbrev S2x4x1024x704 : Shape := ⟨4, ![2, 4, 1024, 704]⟩
abbrev S2x4x8x768 : Shape := ⟨4, ![2, 4, 8, 768]⟩
abbrev S512x1024 : Shape := ⟨2, ![512, 1024]⟩
abbrev S512x768 : Shape := ⟨2, ![512, 768]⟩
abbrev S1024x512 : Shape := ⟨2, ![1024, 512]⟩
abbrev S1x768x1024 : Shape := ⟨3, ![1, 768, 1024]⟩
abbrev S1x512x1024 : Shape := ⟨3, ![1, 512, 1024]⟩
abbrev S2x1x1024x704 : Shape := ⟨4, ![2, 1, 1024, 704]⟩
abbrev S1x704x1024 : Shape := ⟨3, ![1, 704, 1024]⟩
abbrev S2x1x8x768 : Shape := ⟨4, ![2, 1, 8, 768]⟩
abbrev S8x1536 : Shape := ⟨2, ![8, 1536]⟩
abbrev S2x1024x704 : Shape := ⟨3, ![2, 1024, 704]⟩
abbrev S704x1024 : Shape := ⟨2, ![704, 1024]⟩
abbrev S2x8x768 : Shape := ⟨3, ![2, 8, 768]⟩
abbrev S768x1024 : Shape := ⟨2, ![768, 1024]⟩
abbrev S768x512 : Shape := ⟨2, ![768, 512]⟩
abbrev S520x768 : Shape := ⟨2, ![520, 768]⟩
abbrev S1x1x1x768 : Shape := ⟨4, ![1, 1, 1, 768]⟩
abbrev S1x768 : Shape := ⟨2, ![1, 768]⟩
abbrev S768 : Shape := ⟨1, ![768]⟩
abbrev S1x1x1024x704 : Shape := ⟨4, ![1, 1, 1024, 704]⟩
abbrev S1024x704 : Shape := ⟨2, ![1024, 704]⟩
abbrev S1024x768 : Shape := ⟨2, ![1024, 768]⟩

abbrev nBuf : Space → Nat
  | .hbm => 78
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S1x5632, .f32⟩
  | .hbm, ⟨6, _⟩ => ⟨S2816x1024, .f32⟩
  | .hbm, ⟨7, _⟩ => ⟨S3x8x704, .f32⟩
  | .hbm, ⟨8, _⟩ => ⟨S8x3x704, .f32⟩
  | .hbm, ⟨9, _⟩ => ⟨S_, .i32⟩
  | .hbm, ⟨10, _⟩ => ⟨S_, .f32⟩
  | .hbm, ⟨11, _⟩ => ⟨S8x3x768, .f32⟩
  | .hbm, ⟨12, _⟩ => ⟨S3x8x768, .f32⟩
  | .hbm, ⟨13, _⟩ => ⟨S3x6144, .f32⟩
  | .hbm, ⟨14, _⟩ => ⟨S8x704, .f32⟩
  | .hbm, ⟨15, _⟩ => ⟨S_, .i32⟩
  | .hbm, ⟨16, _⟩ => ⟨S_, .f32⟩
  | .hbm, ⟨17, _⟩ => ⟨S8x768, .f32⟩
  | .hbm, ⟨18, _⟩ => ⟨S1x6144, .f32⟩
  | .hbm, ⟨19, _⟩ => ⟨S_, .f32⟩
  | .hbm, ⟨20, _⟩ => ⟨S4x6144, .f32⟩
  | .hbm, ⟨21, _⟩ => ⟨S8x6144, .f32⟩
  | .hbm, ⟨22, _⟩ => ⟨S1024x8x704, .f32⟩
  | .hbm, ⟨23, _⟩ => ⟨S8x704x1024, .f32⟩
  | .hbm, ⟨24, _⟩ => ⟨S8x704x1024, .bf16⟩
  | .hbm, ⟨25, _⟩ => ⟨S_, .i32⟩
  | .hbm, ⟨26, _⟩ => ⟨S_, .bf16⟩
  | .hbm, ⟨27, _⟩ => ⟨S8x768x1024, .bf16⟩
  | .hbm, ⟨28, _⟩ => ⟨S2816x1024, .bf16⟩
  | .hbm, ⟨29, _⟩ => ⟨S4x704x1024, .bf16⟩
  | .hbm, ⟨30, _⟩ => ⟨S_, .i32⟩
  | .hbm, ⟨31, _⟩ => ⟨S_, .bf16⟩
  | .hbm, ⟨32, _⟩ => ⟨S4x768x1024, .bf16⟩
  | .hbm, ⟨33, _⟩ => ⟨S_, .f32⟩
  | .hbm, ⟨34, _⟩ => ⟨S7x1024, .f32⟩
  | .hbm, ⟨35, _⟩ => ⟨S_, .f32⟩
  | .hbm, ⟨36, _⟩ => ⟨S8x1024, .f32⟩
  | .hbm, ⟨37, _⟩ => ⟨S16x1024, .f32⟩
  | .hbm, ⟨38, _⟩ => ⟨S1024x8192, .f32⟩
  | .hbm, ⟨39, _⟩ => ⟨S1024x8192, .bf16⟩
  | .hbm, ⟨40, _⟩ => ⟨S8192x5632, .f32⟩
  | .hbm, ⟨41, _⟩ => ⟨S1x5632, .f32⟩
  | .hbm, ⟨42, _⟩ => ⟨S_, .f32⟩
  | .hbm, ⟨43, _⟩ => ⟨S2x5632, .f32⟩
  | .hbm, ⟨44, _⟩ => ⟨S8190x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S1x5632, .f32⟩
  | .hbm, ⟨49, _⟩ => ⟨S_, .f32⟩
  | .hbm, ⟨50, _⟩ => ⟨S1x5632, .f32⟩
  | .hbm, ⟨51, _⟩ => ⟨S8191x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S1x5632, .f32⟩
  | .hbm, ⟨57, _⟩ => ⟨S8192x5632, .f32⟩
  | .hbm, ⟨58, _⟩ => ⟨S8192x5632, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S8192x8x704, .f32⟩
  | .hbm, ⟨63, _⟩ => ⟨S_, .i32⟩
  | .hbm, ⟨64, _⟩ => ⟨S_, .f32⟩
  | .hbm, ⟨65, _⟩ => ⟨S8192x8x768, .f32⟩
  | .hbm, ⟨66, _⟩ => ⟨S8192x6144, .f32⟩
  | .hbm, ⟨67, _⟩ => ⟨S8192x6144, .bf16⟩
  | .hbm, ⟨68, _⟩ => ⟨S8192x8x704, .f32⟩
  | .hbm, ⟨69, _⟩ => ⟨S_, .i32⟩
  | .hbm, ⟨70, _⟩ => ⟨S_, .f32⟩
  | .hbm, ⟨71, _⟩ => ⟨S8192x8x768, .f32⟩
  | .hbm, ⟨72, _⟩ => ⟨S8192x6144, .f32⟩
  | .hbm, ⟨73, _⟩ => ⟨S8192x6144, .bf16⟩
  | .hbm, ⟨74, _⟩ => ⟨S4x8192x1024, .f32⟩
  | .hbm, ⟨75, _⟩ => ⟨S2x4x1024x704, .f32⟩
  | .hbm, ⟨76, _⟩ => ⟨S4x704x1024, .f32⟩
  | .hbm, ⟨77, _⟩ => ⟨S2x4x8x768, .f32⟩
  | .local _ .vmem, ⟨0, _⟩ => ⟨S512x1024, .f32⟩
  | .local _ .vmem, ⟨1, _⟩ => ⟨S512x1024, .f32⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S512x768, .bf16⟩
  | .local _ .vmem, ⟨10, _⟩ => ⟨S1024x512, .bf16⟩
  | .local _ .vmem, ⟨11, _⟩ => ⟨S1024x512, .bf16⟩
  | .local _ .vmem, ⟨12, _⟩ => ⟨S16x1024, .f32⟩
  | .local _ .vmem, ⟨13, _⟩ => ⟨S8x768, .f32⟩
  | .local _ .vmem, ⟨14, _⟩ => ⟨S8x768, .f32⟩
  | .local _ .vmem, ⟨15, _⟩ => ⟨S8x768, .f32⟩
  | .local _ .vmem, ⟨16, _⟩ => ⟨S8x768, .f32⟩
  | .local _ .vmem, ⟨17, _⟩ => ⟨S1x768x1024, .bf16⟩
  | .local _ .vmem, ⟨18, _⟩ => ⟨S1x768x1024, .bf16⟩
  | .local _ .vmem, ⟨19, _⟩ => ⟨S1x768x1024, .bf16⟩
  | .local _ .vmem, ⟨20, _⟩ => ⟨S1x768x1024, .bf16⟩
  | .local _ .vmem, ⟨21, _⟩ => ⟨S1x768x1024, .bf16⟩
  | .local _ .vmem, ⟨22, _⟩ => ⟨S1x768x1024, .bf16⟩
  | .local _ .vmem, ⟨23, _⟩ => ⟨S1x512x1024, .f32⟩
  | .local _ .vmem, ⟨24, _⟩ => ⟨S1x512x1024, .f32⟩
  | .local _ .vmem, ⟨25, _⟩ => ⟨S2x1x1024x704, .f32⟩
  | .local _ .vmem, ⟨26, _⟩ => ⟨S2x1x1024x704, .f32⟩
  | .local _ .vmem, ⟨27, _⟩ => ⟨S1x704x1024, .f32⟩
  | .local _ .vmem, ⟨28, _⟩ => ⟨S1x704x1024, .f32⟩
  | .local _ .vmem, ⟨29, _⟩ => ⟨S2x1x8x768, .f32⟩
  | .local _ .vmem, ⟨30, _⟩ => ⟨S2x1x8x768, .f32⟩
  | .local _ .vmem, ⟨31, _⟩ => ⟨S8x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_call3_v0 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_call4_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_call5_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let v1 : BitVec 32 := Scalar.addi c4_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x768x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x768x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1x1024x704 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x704x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x1x8x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S4x8192x1024 : Shape := ⟨3, ![4, 8192, 1024]⟩
abbrev S1024x2x4x704 : Shape := ⟨4, ![1024, 2, 4, 704]⟩
abbrev S4x2x704x8192 : Shape := ⟨4, ![4, 2, 704, 8192]⟩
abbrev S8192x2x4x704 : Shape := ⟨4, ![8192, 2, 4, 704]⟩
abbrev S8192x5632 : Shape := ⟨2, ![8192, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S8192x2816 : Shape := ⟨2, ![8192, 2816]⟩
abbrev S1024x2816 : Shape := ⟨2, ![1024, 2816]⟩
abbrev S5632 : Shape := ⟨1, ![5632]⟩
abbrev S4x2x704x1024 : Shape := ⟨4, ![4, 2, 704, 1024]⟩
abbrev S4x5632 : Shape := ⟨2, ![4, 5632]⟩
abbrev S8x5632 : Shape := ⟨2, ![8, 5632]⟩
abbrev S8x2x4x704 : Shape := ⟨4, ![8, 2, 4, 704]⟩
abbrev S2x4x8x704 : Shape := ⟨4, ![2, 4, 8, 704]⟩
abbrev S2x4x8x768 : Shape := ⟨4, ![2, 4, 8, 768]⟩
abbrev S2x4x1024x704 : Shape := ⟨4, ![2, 4, 1024, 704]⟩
abbrev S4x704x1024 : Shape := ⟨3, ![4, 704, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x5632, .f32⟩
  | .hbm, ⟨4, _⟩ => ⟨S3x5632, .f32⟩
  | .hbm, ⟨5, _⟩ => ⟨S1x5632, .f32⟩
  | .hbm, ⟨6, _⟩ => ⟨S2816x1024, .f32⟩
  | .hbm, ⟨7, _⟩ => ⟨S4x8192x1024, .f32⟩
  | .hbm, ⟨8, _⟩ => ⟨S1024x2x4x704, .f32⟩
  | .hbm, ⟨9, _⟩ => ⟨S4x2x704x8192, .f32⟩
  | .hbm, ⟨10, _⟩ => ⟨S8192x2x4x704, .f32⟩
  | .hbm, ⟨11, _⟩ => ⟨S8192x5632, .f32⟩
  | .hbm, ⟨12, _⟩ => ⟨S1x5632, .f32⟩
  | .hbm, ⟨13, _⟩ => ⟨S_, .f32⟩
  | .hbm, ⟨14, _⟩ => ⟨S2x5632, .f32⟩
  | .hbm, ⟨15, _⟩ => ⟨S8190x5632, .f32⟩
  | .hbm, ⟨16, _⟩ => ⟨S8192x5632, .f32⟩
  | .hbm, ⟨17, _⟩ => ⟨S_, .f32⟩
  | .hbm, ⟨18, _⟩ => ⟨S2x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S_, .f32⟩
  | .hbm, ⟨23, _⟩ => ⟨S1x5632, .f32⟩
  | .hbm, ⟨24, _⟩ => ⟨S8191x5632, .f32⟩
  | .hbm, ⟨25, _⟩ => ⟨S8192x5632, .f32⟩
  | .hbm, ⟨26, _⟩ => ⟨S_, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1024x2816, .f32⟩
  | .hbm, ⟨59, _⟩ => ⟨S2816x1024, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S8192x5632, .f32⟩
  | .hbm, ⟨72, _⟩ => ⟨S8192x5632, .f32⟩
  | .hbm, ⟨73, _⟩ => ⟨S8192x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S_, .f32⟩
  | .hbm, ⟨78, _⟩ => ⟨S3x5632, .f32⟩
  | .hbm, ⟨79, _⟩ => ⟨S8192x5632, .f32⟩
  | .hbm, ⟨80, _⟩ => ⟨S8192x5632, .f32⟩
  | .hbm, ⟨81, _⟩ => ⟨S8192x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S1x5632, .f32⟩
  | .hbm, ⟨86, _⟩ => ⟨S8191x5632, .f32⟩
  | .hbm, ⟨87, _⟩ => ⟨S_, .f32⟩
  | .hbm, ⟨88, _⟩ => ⟨S8192x5632, .f32⟩
  | .hbm, ⟨89, _⟩ => ⟨S8192x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S8192x5632, .f32⟩
  | .hbm, ⟨94, _⟩ => ⟨S8192x5632, .f32⟩
  | .hbm, ⟨95, _⟩ => ⟨S8192x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S2x5632, .f32⟩
  | .hbm, ⟨100, _⟩ => ⟨S8190x5632, .f32⟩
  | .hbm, ⟨101, _⟩ => ⟨S_, .f32⟩
  | .hbm, ⟨102, _⟩ => ⟨S8192x5632, .f32⟩
  | .hbm, ⟨103, _⟩ => ⟨S8192x5632, .f32⟩
  | .hbm, ⟨104, _⟩ => ⟨S_, .f32⟩
  | .hbm, ⟨105, _⟩ => ⟨S3x5632, .f32⟩
  | .hbm, ⟨106, _⟩ => ⟨S3x5632, .f32⟩
  | .hbm, ⟨107, _⟩ => ⟨S8192x2x4x704, .f32⟩
  | .hbm, ⟨108, _⟩ => ⟨S4x2x704x8192, .f32⟩
  | .hbm, ⟨109, _⟩ => ⟨S4x8192x1024, .f32⟩
  | .hbm, ⟨110, _⟩ => ⟨S4x2x704x1024, .f32⟩
  | .hbm, ⟨111, _⟩ => ⟨S1024x2x4x704, .f32⟩
  | .hbm, ⟨112, _⟩ => ⟨S1024x5632, .f32⟩
  | .hbm, ⟨113, _⟩ => ⟨S_, .f32⟩
  | .hbm, ⟨114, _⟩ => ⟨S4x5632, .f32⟩
  | .hbm, ⟨115, _⟩ => ⟨S8x5632, .f32⟩
  | .hbm, ⟨116, _⟩ => ⟨S8x2x4x704, .f32⟩
  | .hbm, ⟨117, _⟩ => ⟨S2x4x8x704, .f32⟩
  | .hbm, ⟨118, _⟩ => ⟨S_, .i32⟩
  | .hbm, ⟨119, _⟩ => ⟨S_, .f32⟩
  | .hbm, ⟨120, _⟩ => ⟨S2x4x8x768, .f32⟩
  | .hbm, ⟨121, _⟩ => ⟨S1024x2x4x704, .f32⟩
  | .hbm, ⟨122, _⟩ => ⟨S2x4x1024x704, .f32⟩
  | .hbm, ⟨123, _⟩ => ⟨S4x704x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v28_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v28_1 : Ref sig .tc := ⟨.hbm, 50, rfl⟩
abbrev main_v28_0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v40 : Ref sig .tc := ⟨.hbm, 66, rfl⟩
abbrev main_v41 : Ref sig .tc := ⟨.hbm, 67, rfl⟩
abbrev main_cst_3 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_7 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_10 : Ref sig .tc := ⟨.hbm, 101, rfl⟩
abbrev main_v68 : Ref sig .tc := ⟨.hbm, 102, rfl⟩
abbrev main_v69 : Ref sig .tc := ⟨.hbm, 103, rfl⟩
abbrev main_cst_11 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_12 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c : Ref sig .tc := ⟨.hbm, 118, rfl⟩
abbrev main_call2_v0 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S1024x8192 : Shape := ⟨2, ![1024, 8192]⟩
abbrev S_ : Shape := ⟨0, ![]⟩
abbrev S8x128 : Shape := ⟨2, ![8, 128]⟩
abbrev S8x1024x256 : Shape := ⟨3, ![8, 1024, 256]⟩
abbrev S1024x2048 : Shape := ⟨2, ![1024, 2048]⟩
abbrev S2048x2048 : Shape := ⟨2, ![2048, 2048]⟩
abbrev S1x1024x256 : Shape := ⟨3, ![1, 1024, 256]⟩
abbrev S1024x256 : Shape := ⟨2, ![1024, 256]⟩

abbrev nBuf : Space → Nat
  | .hbm => 8
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x8192, .f32⟩
  | .hbm, ⟨3, _⟩ => ⟨S1024x8192, .bf16⟩
  | .hbm, ⟨4, _⟩ => ⟨S8192x2048, .bf16⟩
  | .hbm, ⟨5, _⟩ => ⟨S_, .f32⟩
  | .hbm, ⟨6, _⟩ => ⟨S8x128, .f32⟩
  | .hbm, ⟨7, _⟩ => ⟨S8x1024x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S8x1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S1024x8192 : Shape := ⟨2, ![1024, 8192]⟩
abbrev S_ : Shape := ⟨0, ![]⟩
abbrev S8x128 : Shape := ⟨2, ![8, 128]⟩
abbrev S1x1024x1024 : Shape := ⟨3, ![1, 1024, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x8192, .bf16⟩
  | .hbm, ⟨4, _⟩ => ⟨S8192x1024, .bf16⟩
  | .hbm, ⟨5, _⟩ => ⟨S_, .f32⟩
  | .hbm, ⟨6, _⟩ => ⟨S8x128, .f32⟩
  | .hbm, ⟨7, _⟩ => ⟨S1x1024x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S_ : Shape := ⟨0, ![]⟩
abbrev S13x1024 : Shape := ⟨2, ![13, 1024]⟩
abbrev S16x1024 : Shape := ⟨2, ![16, 1024]⟩
abbrev S8192x2048 : Shape := ⟨2, ![8192, 2048]⟩
abbrev S8192x512 : Shape := ⟨2, ![8192, 512]⟩
abbrev S1024x8192 : Shape := ⟨2, ![1024, 8192]⟩
abbrev S512x1024 : Shape := ⟨2, ![512, 1024]⟩
abbrev S512x2048 : Shape := ⟨2, ![512, 2048]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 14
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S1024x8x256, .f32⟩
  | .hbm, ⟨6, _⟩ => ⟨S8x1024x256, .f32⟩
  | .hbm, ⟨7, _⟩ => ⟨S8x1024x256, .bf16⟩
  | .hbm, ⟨8, _⟩ => ⟨S_, .f32⟩
  | .hbm, ⟨9, _⟩ => ⟨S13x1024, .f32⟩
  | .hbm, ⟨10, _⟩ => ⟨S16x1024, .f32⟩
  | .hbm, ⟨11, _⟩ => ⟨S8192x2048, .f32⟩
  | .hbm, ⟨12, _⟩ => ⟨S8192x512, .f32⟩
  | .hbm, ⟨13, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S8x1024x256, .bf16⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | .local _ .vmem, ⟨8, _⟩ => ⟨S1024x512, .bf16⟩
  | .local _ .vmem, ⟨9, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x512 : Shape := ⟨2, ![8192, 512]⟩
abbrev S1024x8192 : Shape := ⟨2, ![1024, 8192]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S1024x8192, .f32⟩
  | .hbm, ⟨42, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S3x8x704 : Shape := ⟨3, ![3, 8, 704]⟩
abbrev S8x3x704 : Shape := ⟨3, ![8, 3, 704]⟩
abbrev S_ : Shape := ⟨0, ![]⟩
abbrev S8x3x768 : Shape := ⟨3, ![8, 3, 768]⟩
abbrev S3x8x768 : Shape := ⟨3, ![3, 8, 768]⟩
abbrev S3x6144 : Shape := ⟨2, ![3, 6144]⟩
abbrev S8x704 : Shape := ⟨2, ![8, 704]⟩
abbrev S8x768 : Shape := ⟨2, ![8, 768]⟩
abbrev S1x6144 : Shape := ⟨2, ![1, 6144]⟩
abbrev S4x6144 : Shape := ⟨2, ![4, 6144]⟩
abbrev S8x6144 : Shape := ⟨2, ![8, 6144]⟩
abbrev S1024x8x704 : Shape := ⟨3, ![1024, 8, 704]⟩
abbrev S8x704x1024 : Shape := ⟨3, ![8, 704, 1024]⟩
abbrev S8x768x1024 : Shape := ⟨3, ![8, 768, 1024]⟩
abbrev S4x704x1024 : Shape := ⟨3, ![4, 704, 1024]⟩
abbrev S4x768x1024 : Shape := ⟨3, ![4, 768, 1024]⟩
abbrev S7x1024 : Shape := ⟨2, ![7, 1024]⟩
abbrev S6x1024 : Shape := ⟨2, ![6, 1024]⟩
abbrev S16x1024 : Shape := ⟨2, ![16, 1024]⟩
abbrev S8192x6144 : Shape := ⟨2, ![8192, 6144]⟩
abbrev S8x1024 : Shape := ⟨2, ![8, 1024]⟩
abbrev S256x1024 : Shape := ⟨2, ![256, 1024]⟩
abbrev S256x6144 : Shape := ⟨2, ![256, 6144]⟩
abbrev S8x1024x768 : Shape := ⟨3, ![8, 1024, 768]⟩
abbrev S768x1024 : Shape := ⟨2, ![768, 1024]⟩
abbrev S1x768x1024 : Shape := ⟨3, ![1, 768, 1024]⟩
abbrev S1024x768 : Shape := ⟨2, ![1024, 768]⟩
abbrev S1x1024x768 : Shape := ⟨3, ![1, 1024, 768]⟩
abbrev S256x768 : Shape := ⟨2, ![256, 768]⟩
abbrev S264x768 : Shape := ⟨2, ![264, 768]⟩
abbrev S1x768 : Shape := ⟨2, ![1, 768]⟩
abbrev S256 : Shape := ⟨1, ![256]⟩
abbrev S256x1 : Shape := ⟨2, ![256, 1]⟩
abbrev S1024 : Shape := ⟨1, ![1024]⟩

abbrev nBuf : Space → Nat
  | .hbm => 47
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S3x5632, .f32⟩
  | .hbm, ⟨7, _⟩ => ⟨S1x5632, .f32⟩
  | .hbm, ⟨8, _⟩ => ⟨S2816x1024, .f32⟩
  | .hbm, ⟨9, _⟩ => ⟨S3x8x704, .f32⟩
  | .hbm, ⟨10, _⟩ => ⟨S8x3x704, .f32⟩
  | .hbm, ⟨11, _⟩ => ⟨S_, .i32⟩
  | .hbm, ⟨12, _⟩ => ⟨S_, .f32⟩
  | .hbm, ⟨13, _⟩ => ⟨S8x3x768, .f32⟩
  | .hbm, ⟨14, _⟩ => ⟨S3x8x768, .f32⟩
  | .hbm, ⟨15, _⟩ => ⟨S3x6144, .f32⟩
  | .hbm, ⟨16, _⟩ => ⟨S8x704, .f32⟩
  | .hbm, ⟨17, _⟩ => ⟨S_, .i32⟩
  | .hbm, ⟨18, _⟩ => ⟨S_, .f32⟩
  | .hbm, ⟨19, _⟩ => ⟨S8x768, .f32⟩
  | .hbm, ⟨20, _⟩ => ⟨S1x6144, .f32⟩
  | .hbm, ⟨21, _⟩ => ⟨S_, .f32⟩
  | .hbm, ⟨22, _⟩ => ⟨S4x6144, .f32⟩
  | .hbm, ⟨23, _⟩ => ⟨S8x6144, .f32⟩
  | .hbm, ⟨24, _⟩ => ⟨S1024x8x704, .f32⟩
  | .hbm, ⟨25, _⟩ => ⟨S8x704x1024, .f32⟩
  | .hbm, ⟨26, _⟩ => ⟨S8x704x1024, .bf16⟩
  | .hbm, ⟨27, _⟩ => ⟨S_, .i32⟩
  | .hbm, ⟨28, _⟩ => ⟨S_, .bf16⟩
  | .hbm, ⟨29, _⟩ => ⟨S8x768x1024, .bf16⟩
  | .hbm, ⟨30, _⟩ => ⟨S2816x1024, .bf16⟩
  | .hbm, ⟨31, _⟩ => ⟨S4x704x1024, .bf16⟩
  | .hbm, ⟨32, _⟩ => ⟨S_, .i32⟩
  | .hbm, ⟨33, _⟩ => ⟨S_, .bf16⟩
  | .hbm, ⟨34, _⟩ => ⟨S4x768x1024, .bf16⟩
  | .hbm, ⟨35, _⟩ => ⟨S_, .f32⟩
  | .hbm, ⟨36, _⟩ => ⟨S7x1024, .f32⟩
  | .hbm, ⟨37, _⟩ => ⟨S_, .f32⟩
  | .hbm, ⟨38, _⟩ => ⟨S1x1024, .f32⟩
  | .hbm, ⟨39, _⟩ => ⟨S_, .f32⟩
  | .hbm, ⟨40, _⟩ => ⟨S6x1024, .f32⟩
  | .hbm, ⟨41, _⟩ => ⟨S16x1024, .f32⟩
  | .hbm, ⟨42, _⟩ => ⟨S8192x1024, .bf16⟩
  | .hbm, ⟨43, _⟩ => ⟨S8192x6144, .bf16⟩
  | .hbm, ⟨44, _⟩ => ⟨S8192x6144, .bf16⟩
  | .hbm, ⟨45, _⟩ => ⟨S8192x1024, .f32⟩
  | .hbm, ⟨46, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S8x6144, .f32⟩
  | .local _ .vmem, ⟨8, _⟩ => ⟨S256x6144, .bf16⟩
  | .local _ .vmem, ⟨9, _⟩ => ⟨S256x6144, .bf16⟩
  | .local _ .vmem, ⟨10, _⟩ => ⟨S256x6144, .bf16⟩
  | .local _ .vmem, ⟨11, _⟩ => ⟨S256x6144, .bf16⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x1024x768, .bf16⟩
  | .local _ .vmem, ⟨16, _⟩ => ⟨S4x768x1024, .bf16⟩
  | .local _ .vmem, ⟨17, _⟩ => ⟨S8x6144, .f32⟩
  | .local _ .vmem, ⟨18, _⟩ => ⟨S768x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_call3_v0 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v22_2 : Ref sig .tc := ⟨.hbm, 45, rfl⟩
abbrev main_v22_3 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩
abbrev S8192x8x704 : Shape := ⟨3, ![8192, 8, 704]⟩
abbrev S8192x8x768 : Shape := ⟨3, ![8192, 8, 768]⟩
abbrev S8192x6144 : Shape := ⟨2, ![8192, 6144]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1x1024, .f32⟩
  | 4 => ⟨S1x1024, .f32⟩
  | 5 => ⟨S1024x5632, .f32⟩
  | 6 => ⟨S3x5632, .f32⟩
  | 7 => ⟨S1x5632, .f32⟩
  | 8 => ⟨S2816x1024, .f32⟩
  | 9 => ⟨S8192x5632, .f32⟩
  | 10 => ⟨S1x5632, .f32⟩
  | 11 => ⟨S_, .f32⟩
  | 12 => ⟨S2x5632, .f32⟩
  | 13 => ⟨S8190x5632, .f32⟩
  | 14 => ⟨S8192x5632, .f32⟩
  | 15 => ⟨S8192x5632, .f32⟩
  | 16 => ⟨S8192x5632, .f32⟩
  | 17 => ⟨S1x5632, .f32⟩
  | 18 => ⟨S_, .f32⟩
  | 19 => ⟨S1x5632, .f32⟩
  | 20 => ⟨S8191x5632, .f32⟩
  | 21 => ⟨S8192x5632, .f32⟩
  | 22 => ⟨S8192x5632, .f32⟩
  | 23 => ⟨S8192x5632, .f32⟩
  | 24 => ⟨S8192x5632, .f32⟩
  | 25 => ⟨S1x5632, .f32⟩
  | 26 => ⟨S8192x5632, .f32⟩
  | 27 => ⟨S8192x5632, .f32⟩
  | 28 => ⟨S8192x5632, .f32⟩
  | 29 => ⟨S8192x5632, .f32⟩
  | 30 => ⟨S8192x5632, .f32⟩
  | 31 => ⟨S8192x2816, .f32⟩
  | 32 => ⟨S8192x2816, .f32⟩
  | 33 => ⟨S8192x2816, .f32⟩
  | 34 => ⟨S8192x2816, .f32⟩
  | 35 => ⟨S_, .f32⟩
  | 36 => ⟨S8192x2816, .f32⟩
  | 37 => ⟨S8192x2816, .f32⟩
  | 38 => ⟨S_, .f32⟩
  | 39 => ⟨S8192x2816, .f32⟩
  | 40 => ⟨S8192x2816, .f32⟩
  | 41 => ⟨S8192x2816, .f32⟩
  | 42 => ⟨S8192x2816, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S_, .f32⟩
  | 89 => ⟨S1024, .f32⟩
  | 90 => ⟨S8192x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S8192x1024, .f32⟩
  | 97 => ⟨S8192x1024, .f32⟩
  | 98 => ⟨S8192x1024, .f32⟩
  | 99 => ⟨S_, .f32⟩
  | 100 => ⟨S8192, .f32⟩
  | 101 => ⟨S8192x1, .f32⟩
  | 102 => ⟨S8192x1024, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S1024, .f32⟩
  | 118 => ⟨S1x1024, .f32⟩
  | 119 => ⟨S_, .f32⟩
  | 120 => ⟨S5x1024, .f32⟩
  | 121 => ⟨S8x1024, .f32⟩
  | 122 => ⟨S8192x8x704, .f32⟩
  | 123 => ⟨S_, .i32⟩
  | 124 => ⟨S_, .f32⟩
  | 125 => ⟨S8192x8x768, .f32⟩
  | 126 => ⟨S8192x6144, .f32⟩
  | 127 => ⟨S8192x6144, .bf16⟩
  | _ => ⟨S8192x1024, .f32⟩

abbrev hbmTy0_1 (i : Nat) : BufTy := match i % 128 with
  | 0 => ⟨S8192x8x704, .f32⟩
  | 1 => ⟨S_, .i32⟩
  | 2 => ⟨S_, .f32⟩
  | 3 => ⟨S8192x8x768, .f32⟩
  | 4 => ⟨S8192x6144, .f32⟩
  | 5 => ⟨S8192x6144, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_cst_3 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_cst_10 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_cst_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_cst_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c : Ref sig .tc := ⟨.hbm, 123, rfl⟩
abbrev main_call1_v0 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_19 : Ref sig .tc := ⟨.hbm, 129, rfl⟩
abbrev main_call2_v0 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]
-- ==== Kernel6.lean ====
abbrev S8x1024 : Shape := ⟨2, ![8, 1024]⟩
abbrev S8x768 : Shape := ⟨2, ![8, 768]⟩
abbrev S1x1024x768 : Shape := ⟨3, ![1, 1024, 768]⟩
abbrev S1024x8 : Shape := ⟨2, ![1024, 8]⟩
abbrev S256x8 : Shape := ⟨2, ![256, 8]⟩
abbrev S1x256x768 : Shape := ⟨3, ![1, 256, 768]⟩
abbrev S256x768 : Shape := ⟨2, ![256, 768]⟩
abbrev S256x1 : Shape := ⟨2, ![256, 1]⟩
abbrev S1x768 : Shape := ⟨2, ![1, 768]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1024x8, .f32⟩
  | .hbm, ⟨6, _⟩ => ⟨S1x1024x768, .f32⟩
  | .hbm, ⟨7, _⟩ => ⟨S1x1024x768, .f32⟩
  | .hbm, ⟨8, _⟩ => ⟨S1x1024x768, .f32⟩
  | .hbm, ⟨9, _⟩ => ⟨S1x1024x768, .f32⟩
  | .local _ .vmem, ⟨0, _⟩ => ⟨S256x8, .f32⟩
  | .local _ .vmem, ⟨1, _⟩ => ⟨S256x8, .f32⟩
  | .local _ .vmem, ⟨2, _⟩ => ⟨S8x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | .local _ .vmem, ⟨16, _⟩ => ⟨S1x256x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6.lean ====
abbrev S8x1024 : Shape := ⟨2, ![8, 1024]⟩
abbrev S8x768 : Shape := ⟨2, ![8, 768]⟩
abbrev S1x1024x768 : Shape := ⟨3, ![1, 1024, 768]⟩
abbrev S_ : Shape := ⟨0, ![]⟩
abbrev S1024x768 : Shape := ⟨2, ![1024, 768]⟩
abbrev S768x1024 : Shape := ⟨2, ![768, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S1024x768, .f32⟩
  | .hbm, ⟨15, _⟩ => ⟨S8x768, .f32⟩
  | .hbm, ⟨16, _⟩ => ⟨S768x1024, .f32⟩
  | .hbm, ⟨17, _⟩ => ⟨S1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | .hbm, ⟨40, _⟩ => ⟨S1x1024x768, .f32⟩
  | .hbm, ⟨41, _⟩ => ⟨S_, .f32⟩
  | .hbm, ⟨42, _⟩ => ⟨S1x1024x768, .f32⟩
  | .hbm, ⟨43, _⟩ => ⟨S1x1024x768, .f32⟩
  | .hbm, ⟨44, _⟩ => ⟨S1x1024x768, .f32⟩
  | .hbm, ⟨45, _⟩ => ⟨S_, .f32⟩
  | .hbm, ⟨46, _⟩ => ⟨S1x1024x768, .f32⟩
  | .hbm, ⟨47, _⟩ => ⟨S1x1024x768, .f32⟩
  | .hbm, ⟨48, _⟩ => ⟨S1x1024x768, .f32⟩
  | .hbm, ⟨49, _⟩ => ⟨S_, .f32⟩
  | .hbm, ⟨50, _⟩ => ⟨S1x1024x768, .f32⟩
  | .hbm, ⟨51, _⟩ => ⟨S1x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel7.lean ====
abbrev S8x1024 : Shape := ⟨2, ![8, 1024]⟩
abbrev S1x1024x768 : Shape := ⟨3, ![1, 1024, 768]⟩
abbrev S1x768 : Shape := ⟨2, ![1, 768]⟩
abbrev S8x1x1024 : Shape := ⟨3, ![8, 1, 1024]⟩
abbrev S8x768 : Shape := ⟨2, ![8, 768]⟩
abbrev S1024x768 : Shape := ⟨2, ![1024, 768]⟩

abbrev nBuf : Space → Nat
  | .hbm => 5
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1x768, .f32⟩
  | .hbm, ⟨3, _⟩ => ⟨S8x1x1024, .f32⟩
  | .hbm, ⟨4, _⟩ => ⟨S8x768, .f32⟩
  | .local _ .vmem, ⟨0, _⟩ => ⟨S8x1x1024, .f32⟩
  | .local _ .vmem, ⟨1, _⟩ => ⟨S1x1024x768, .f32⟩
  | .local _ .vmem, ⟨2, _⟩ => ⟨S1x768, .f32⟩
  | .local _ .vmem, ⟨3, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference7.lean ====
abbrev S8x1024 : Shape := ⟨2, ![8, 1024]⟩
abbrev S1x1024x768 : Shape := ⟨3, ![1, 1024, 768]⟩
abbrev S1x768 : Shape := ⟨2, ![1, 768]⟩
abbrev S_ : Shape := ⟨0, ![]⟩
abbrev S1024x768 : Shape := ⟨2, ![1024, 768]⟩
abbrev S8x768 : Shape := ⟨2, ![8, 768]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x768, .f32⟩
  | .hbm, ⟨2, _⟩ => ⟨S1x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x768, .f32⟩
  | .hbm, ⟨13, _⟩ => ⟨S8x768, .f32⟩
  | .hbm, ⟨14, _⟩ => ⟨S8x768, .f32⟩
  | .hbm, ⟨15, _⟩ => ⟨S8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Spec.lean ====
module

public import Idealize.ShloMosaic.PureOps.Ideal
public import Idealize.ShloMosaic.Lib.Pointwise

@[expose] public section

set_option maxRecDepth 16384
noncomputable section

/-! The gradient of the ConvFFN, entry by entry, over the extended reals. -/
namespace Cert.FfnGrad

open Idealize.ShloMosaic

/-- The arguments: the incoming gradient, the normalised input, the gate row, and the four weights. -/
structure Args where
  X0 : (⟨2, ![8192, 1024]⟩ : Shape).Idx → EReal
  X1 : (⟨2, ![8192, 1024]⟩ : Shape).Idx → EReal
  X2 : (⟨2, ![1, 1024]⟩ : Shape).Idx → EReal
  X3 : (⟨2, ![1024, 5632]⟩ : Shape).Idx → EReal
  X4 : (⟨2, ![3, 5632]⟩ : Shape).Idx → EReal
  X5 : (⟨2, ![1, 5632]⟩ : Shape).Idx → EReal
  X6 : (⟨2, ![2816, 1024]⟩ : Shape).Idx → EReal

variable (A : Args)

/-- Column `l` of group `j` of the half `a` of the hidden columns. -/
def col (a : Fin 2) (j : Fin 4) (l : Fin 704) : Fin 5632 := ⟨a.val * 2816 + j.val * 704 + l.val, by omega⟩
/-- Column `l` of group `j` of the gated hidden columns. -/
def fcol (j : Fin 4) (l : Fin 704) : Fin 2816 := ⟨j.val * 704 + l.val, by omega⟩

/-- The up projection. -/
def up (s : Fin 8192) (n : Fin 5632) : EReal := ∑ k : Fin 1024, A.X1 (ix2 s k) * A.X3 (ix2 k n)
/-- The up projection `k` tokens earlier, zero before the first token. -/
def back (k : ℕ) (s : Fin 8192) (n : Fin 5632) : EReal := if h : s.val < k then 0 else up A ⟨s.val - k, by omega⟩ n
/-- The causal convolution over three tokens, with its bias. -/
def cv (s : Fin 8192) (n : Fin 5632) : EReal :=
  A.X4 (ix2 0 n) * back A 2 s n + A.X4 (ix2 1 n) * back A 1 s n + A.X4 (ix2 2 n) * up A s n + A.X5 (ix2 0 n)
/-- The value half. -/
def vl (s : Fin 8192) (f : Fin 2816) : EReal := cv A s ⟨f.val, by omega⟩
/-- The gate half. -/
def gt (s : Fin 8192) (f : Fin 2816) : EReal := cv A s ⟨2816 + f.val, by omega⟩
/-- The gradient of the down projection's result. -/
def do2 (s : Fin 8192) (d : Fin 1024) : EReal := A.X0 (ix2 s d) * A.X2 (ix2 0 d)
/-- The gradient of the gated hidden columns. -/
def df (s : Fin 8192) (f : Fin 2816) : EReal := ∑ d : Fin 1024, do2 A s d * A.X6 (ix2 f d)
/-- The gradient of the value half. -/
def du0 (s : Fin 8192) (f : Fin 2816) : EReal := df A s f * (gt A s f * Ideal.logistic (gt A s f))
/-- The gradient of the gate half. -/
def du1 (s : Fin 8192) (f : Fin 2816) : EReal :=
  df A s f * vl A s f * (Ideal.logistic (gt A s f) * (1 + gt A s f * (1 - Ideal.logistic (gt A s f))))
/-- The gradient of the convolution's result. -/
def dup (s : Fin 8192) (n : Fin 5632) : EReal :=
  if h : n.val < 2816 then du0 A s ⟨n.val, h⟩ else du1 A s ⟨n.val - 2816, by omega⟩
/-- That gradient `k` tokens later, zero after the last token. -/
def nx (k : ℕ) (s : Fin 8192) (n : Fin 5632) : EReal := if h : s.val + k < 8192 then dup A ⟨s.val + k, h⟩ n else 0
/-- The gradient of the up projection. -/
def dpre (s : Fin 8192) (n : Fin 5632) : EReal :=
  A.X4 (ix2 0 n) * nx A 2 s n + A.X4 (ix2 1 n) * nx A 1 s n + A.X4 (ix2 2 n) * dup A s n
/-- The gated hidden columns. -/
def fv (s : Fin 8192) (f : Fin 2816) : EReal := gt A s f * Ideal.logistic (gt A s f) * vl A s f

/-- Result 0: the gradient of the input through group `j`. -/
def dh (j : Fin 4) (s : Fin 8192) (d : Fin 1024) : EReal :=
  ∑ a : Fin 2, ∑ l : Fin 704, dpre A s (col a j l) * A.X3 (ix2 d (col a j l))
/-- Result 1: the gradient of the up projection's weights. -/
def dwu (a : Fin 2) (j : Fin 4) (k : Fin 1024) (l : Fin 704) : EReal :=
  ∑ s : Fin 8192, A.X1 (ix2 s k) * dpre A s (col a j l)
/-- Result 2: the gradient of the down projection's weights. -/
def dwd (j : Fin 4) (l : Fin 704) (d : Fin 1024) : EReal :=
  ∑ s : Fin 8192, fv A s (fcol j l) * do2 A s d
/-- Result 3: the gradients of the convolution's weights and bias, and four rows of zeros. -/
def acc (r : ℕ) (n : Fin 5632) : EReal :=
  if r < 3 then ∑ s : Fin 8192, nx A (2 - r) s n * up A s n else if r = 3 then ∑ s : Fin 8192, dup A s n else 0
/-- Result 3 with its 64 columns of padding. -/
def accP (a : Fin 2) (j : Fin 4) (r : ℕ) (l : ℕ) : EReal := if h : l < 704 then acc A r (col a j ⟨l, h⟩) else 0

/-- A row over the hidden columns, at column `l` of group `j` of half `a` with 64 columns of padding. -/
def pc (f : Fin 5632 → EReal) (a : Fin 2) (j : Fin 4) (l : ℕ) : EReal := if h : l < 704 then f (col a j ⟨l, h⟩) else 0
/-- A row over the gated hidden columns, at column `l` of group `j` with 64 columns of padding. -/
def pf (f : Fin 2816 → EReal) (j : Fin 4) (l : ℕ) : EReal := if h : l < 704 then f (fcol j ⟨l, h⟩) else 0
/-- A row over the hidden columns, column `q` of the eight groups with their padding. -/
def pq (f : Fin 5632 → EReal) (q : Fin 6144) : EReal :=
  if h : q.val % 768 < 704 then f ⟨q.val / 768 * 704 + q.val % 768, by omega⟩ else 0

theorem pq_eq (f : Fin 5632 → EReal) (q : Fin 6144) (a : Fin 2) (j : Fin 4) (l : Fin 768)
    (hq : q.val = (a.val * 4 + j.val) * 768 + l.val) : pq f q = pc f a j l.val := by
  have h1 : q.val % 768 = l.val := by omega
  have h2 : q.val / 768 = a.val * 4 + j.val := by omega
  unfold pq pc
  by_cases h : l.val < 704
  · rw [dif_pos (by omega), dif_pos h]
    congr 1
    apply Fin.ext
    show q.val / 768 * 704 + q.val % 768 = a.val * 2816 + j.val * 704 + l.val
    omega
  · rw [dif_neg (by omega), dif_neg h]

theorem vl_col (s : Fin 8192) (j : Fin 4) (l : Fin 704) : cv A s (col 0 j l) = vl A s (fcol j l) := by
  unfold vl
  refine congrArg (cv A s) (Fin.ext ?_)
  show 0 * 2816 + j.val * 704 + l.val = j.val * 704 + l.val
  omega
theorem gt_col (s : Fin 8192) (j : Fin 4) (l : Fin 704) : cv A s (col 1 j l) = gt A s (fcol j l) := by
  unfold gt
  refine congrArg (cv A s) (Fin.ext ?_)
  show 1 * 2816 + j.val * 704 + l.val = 2816 + (j.val * 704 + l.val)
  omega
theorem dup_col0 (s : Fin 8192) (j : Fin 4) (l : Fin 704) : dup A s (col 0 j l) = du0 A s (fcol j l) := by
  have e : (col 0 j l).val = j.val * 704 + l.val := by
    show 0 * 2816 + j.val * 704 + l.val = _
    omega
  unfold dup
  rw [dif_pos (show (col 0 j l).val < 2816 by omega)]
  exact congrArg (du0 A s) (Fin.ext e)
theorem dup_col1 (s : Fin 8192) (j : Fin 4) (l : Fin 704) : dup A s (col 1 j l) = du1 A s (fcol j l) := by
  have e : (col 1 j l).val = 2816 + (j.val * 704 + l.val) := by
    show 1 * 2816 + j.val * 704 + l.val = _
    omega
  unfold dup
  rw [dif_neg (show ¬ (col 1 j l).val < 2816 by omega)]
  refine congrArg (du1 A s) (Fin.ext ?_)
  show (col 1 j l).val - 2816 = j.val * 704 + l.val
  omega

/-- The first half's gradient, with the padding columns. -/
theorem pc_dup0 (s : Fin 8192) (j : Fin 4) (l : ℕ) :
    pf (df A s) j l * (pc (cv A s) 1 j l * Ideal.logistic (pc (cv A s) 1 j l)) = pc (dup A s) 0 j l := by
  unfold pf pc
  by_cases h : l < 704
  · simp only [dif_pos h, gt_col, dup_col0, du0]
  · simp only [dif_neg h, zero_mul]
/-- The second half's gradient, with the padding columns. -/
theorem pc_dup1 (s : Fin 8192) (j : Fin 4) (l : ℕ) :
    pf (df A s) j l * pc (cv A s) 0 j l * (Ideal.logistic (pc (cv A s) 1 j l)
        * (1 + pc (cv A s) 1 j l * (1 - Ideal.logistic (pc (cv A s) 1 j l)))) = pc (dup A s) 1 j l := by
  unfold pf pc
  by_cases h : l < 704
  · simp only [dif_pos h, gt_col, vl_col, dup_col1, du1]
  · simp only [dif_neg h, zero_mul]
/-- The gated hidden columns, with the padding columns. -/
theorem pf_fv (s : Fin 8192) (j : Fin 4) (l : ℕ) :
    pc (cv A s) 1 j l * Ideal.logistic (pc (cv A s) 1 j l) * pc (cv A s) 0 j l = pf (fv A s) j l := by
  unfold pf pc
  by_cases h : l < 704
  · simp only [dif_pos h, gt_col, vl_col, fv]
  · simp only [dif_neg h, mul_zero]
/-- The gradient of the gated hidden columns, with the padding columns. -/
theorem pf_df (s : Fin 8192) (j : Fin 4) (l : ℕ) :
    ∑ d : Fin 1024, A.X0 (ix2 s d) * A.X2 (ix2 0 d) * pf (fun f => A.X6 (ix2 f d)) j l = pf (df A s) j l := by
  unfold pf
  by_cases h : l < 704
  · simp only [dif_pos h, df, do2]
  · simp only [dif_neg h, mul_zero, Finset.sum_const_zero]

/-! ## Sums that run over shifted tokens -/

/-- A function on the first `N` numbers, continued by zero. -/
def ext0 {N : ℕ} (f : Fin N → EReal) (i : ℕ) : EReal := if h : i < N then f ⟨i, h⟩ else 0

theorem sum_shift {N : ℕ} (k : ℕ) (f g : Fin N → EReal) :
    ∑ s : Fin N, f s * (if h : s.val < k then 0 else g ⟨s.val - k, by omega⟩)
      = ∑ s : Fin N, (if h : s.val + k < N then f ⟨s.val + k, h⟩ else 0) * g s := by
  have e1 : ∑ s : Fin N, f s * (if h : s.val < k then 0 else g ⟨s.val - k, by omega⟩)
      = ∑ i ∈ Finset.range N, ext0 f i * (if i < k then 0 else ext0 g (i - k)) := by
    rw [← Fin.sum_univ_eq_sum_range (fun i => ext0 f i * (if i < k then 0 else ext0 g (i - k)))]
    refine Finset.sum_congr rfl fun s _ => ?_
    unfold ext0
    rw [dif_pos s.isLt]
    by_cases h : s.val < k
    · rw [dif_pos h, if_pos h]
    · rw [dif_neg h, if_neg h, dif_pos (by omega)]
  have e2 : ∑ s : Fin N, (if h : s.val + k < N then f ⟨s.val + k, h⟩ else 0) * g s
      = ∑ i ∈ Finset.range N, ext0 f (k + i) * ext0 g i := by
    rw [← Fin.sum_univ_eq_sum_range (fun i => ext0 f (k + i) * ext0 g i)]
    refine Finset.sum_congr rfl fun s _ => ?_
    unfold ext0
    rw [dif_pos s.isLt]
    by_cases h : s.val + k < N
    · rw [dif_pos h, dif_pos (by omega)]
      congr 3; omega
    · rw [dif_neg h, dif_neg (by omega)]
  rw [e1, e2]
  have a := Finset.sum_range_add (fun i => ext0 f i * (if i < k then 0 else ext0 g (i - k))) N k
  have b := Finset.sum_range_add (fun i => ext0 f i * (if i < k then 0 else ext0 g (i - k))) k N
  have z1 : ∑ i ∈ Finset.range k, ext0 f (N + i) * (if N + i < k then 0 else ext0 g (N + i - k)) = 0 :=
    Finset.sum_eq_zero fun i _ => by unfold ext0; rw [dif_neg (by omega), zero_mul]
  have z2 : ∑ i ∈ Finset.range k, ext0 f i * (if i < k then 0 else ext0 g (i - k)) = 0 :=
    Finset.sum_eq_zero fun i hi => by rw [if_pos (Finset.mem_range.mp hi), mul_zero]
  have z3 : ∑ i ∈ Finset.range N, ext0 f (k + i) * (if k + i < k then 0 else ext0 g (k + i - k))
      = ∑ i ∈ Finset.range N, ext0 f (k + i) * ext0 g i :=
    Finset.sum_congr rfl fun i _ => by rw [if_neg (by omega), show k + i - k = i by omega]
  rw [z1, add_zero] at a
  rw [z2, zero_add, z3] at b
  rw [← a, ← b, add_comm N k]

/-- A sum over tokens against the shifted projection is the sum of the shifted factor against the projection. -/
theorem sum_back (k : ℕ) (n : Fin 5632) :
    ∑ s : Fin 8192, dup A s n * back A k s n = ∑ s : Fin 8192, nx A k s n * up A s n :=
  sum_shift k (fun s => dup A s n) (fun s => up A s n)

theorem nx_zero (s : Fin 8192) (n : Fin 5632) : nx A 0 s n = dup A s n := by
  unfold nx
  exact dif_pos (show s.val + 0 < 8192 by omega)

/-- The gradient of the convolution's result at token `i`, with the padding columns, zero after the last token. -/
def En (a : Fin 2) (j : Fin 4) (i : ℕ) (l : ℕ) : EReal := if h : i < 8192 then pc (dup A ⟨i, h⟩) a j l else 0

theorem En_nx (k : ℕ) (s : Fin 8192) (a : Fin 2) (j : Fin 4) (l : ℕ) : pc (nx A k s) a j l = En A a j (s.val + k) l := by
  unfold pc En nx pc
  by_cases h : l < 704
  · simp only [dif_pos h]
  · simp only [dif_neg h, dite_eq_ite, ite_self]
theorem En_dup (s : Fin 8192) (a : Fin 2) (j : Fin 4) (l : ℕ) : pc (dup A s) a j l = En A a j s.val l := by
  unfold En
  rw [dif_pos s.isLt]

/-- The padding columns add nothing to a sum over a group's columns. -/
theorem sum_pc (f g : Fin 5632 → EReal) (a : Fin 2) (j : Fin 4) :
    ∑ l : Fin 768, pc f a j l.val * pc g a j l.val = ∑ l : Fin 704, f (col a j l) * g (col a j l) := by
  rw [Fin.sum_univ_two_halves 704 64 rfl]
  have h2 : ∀ l : Fin 64, pc f a j (704 + l.val) * pc g a j (704 + l.val) = 0 := fun l => by
    unfold pc
    rw [dif_neg (by omega), zero_mul]
  simp only [h2, Finset.sum_const_zero, add_zero]
  refine Finset.sum_congr rfl fun l _ => ?_
  unfold pc
  rw [dif_pos l.isLt, dif_pos l.isLt]

/-- The gradient of the up projection, with the padding columns. -/
theorem pc_dpre (s : Fin 8192) (a : Fin 2) (j : Fin 4) (l : ℕ) :
    pc (fun n => A.X4 (ix2 0 n)) a j l * pc (nx A 2 s) a j l + pc (fun n => A.X4 (ix2 1 n)) a j l * pc (nx A 1 s) a j l
      + pc (fun n => A.X4 (ix2 2 n)) a j l * pc (dup A s) a j l = pc (dpre A s) a j l := by
  unfold pc
  by_cases h : l < 704
  · simp only [dif_pos h, dpre]
  · simp only [dif_neg h, mul_zero, add_zero]

/-! ## Real values -/

/-- The extended real is a real number. -/
def Rl (x : EReal) : Prop := ∃ r : ℝ, x = r

theorem Rl.zero : Rl 0 := ⟨0, rfl⟩
theorem Rl.add {x y : EReal} (hx : Rl x) (hy : Rl y) : Rl (x + y) := by
  obtain ⟨a, rfl⟩ := hx; obtain ⟨b, rfl⟩ := hy; exact ⟨a + b, (EReal.coe_add a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩
theorem Rl.sum {N : ℕ} {f : Fin N → EReal} (h : ∀ i, Rl (f i)) : Rl (∑ i, f i) :=
  Finset.sum_induction f Rl (fun _ _ => Rl.add) Rl.zero fun i _ => h i

/-- Every entry of every argument is a real number. -/
structure Real (A : Args) : Prop where
  h0 : ∀ i, Rl (A.X0 i)
  h1 : ∀ i, Rl (A.X1 i)
  h2 : ∀ i, Rl (A.X2 i)
  h3 : ∀ i, Rl (A.X3 i)
  h4 : ∀ i, Rl (A.X4 i)
  h5 : ∀ i, Rl (A.X5 i)
  h6 : ∀ i, Rl (A.X6 i)

variable {A}

theorem up_real (hA : Real A) (s : Fin 8192) (n : Fin 5632) : Rl (up A s n) :=
  Rl.sum fun k => (hA.h1 _).mul (hA.h3 _)
theorem back_real (hA : Real A) (k : ℕ) (s : Fin 8192) (n : Fin 5632) : Rl (back A k s n) := by
  unfold back
  split
  · exact Rl.zero
  · exact up_real hA _ _
theorem cv_real (hA : Real A) (s : Fin 8192) (n : Fin 5632) : Rl (cv A s n) :=
  ((((hA.h4 _).mul (back_real hA _ _ _)).add ((hA.h4 _).mul (back_real hA _ _ _))).add ((hA.h4 _).mul (up_real hA _ _))).add (hA.h5 _)
theorem vl_real (hA : Real A) (s : Fin 8192) (f : Fin 2816) : Rl (vl A s f) := cv_real hA _ _
theorem gt_real (hA : Real A) (s : Fin 8192) (f : Fin 2816) : Rl (gt A s f) := cv_real hA _ _
theorem df_real (hA : Real A) (s : Fin 8192) (f : Fin 2816) : Rl (df A s f) :=
  Rl.sum fun k => ((hA.h0 _).mul (hA.h2 _)).mul (hA.h6 _)

/-- The gradient of the gate as the chain rule gives it is the gradient in one product, at real values. -/
theorem silu_grad {p g : EReal} (hp : Rl p) (hg : Rl g) :
    p * Ideal.logistic g + g * p * (Ideal.logistic g * (1 - Ideal.logistic g))
      = p * (Ideal.logistic g * (1 + g * (1 - Ideal.logistic g))) := by
  obtain ⟨p, rfl⟩ := hp
  obtain ⟨g, rfl⟩ := hg
  rw [Ideal.logistic_coe]
  norm_cast
  ring

/-- The kernel's sigmoid, through the hyperbolic tangent, is the logistic function. -/
theorem sigmoid_tanh (x : EReal) (c : EReal) (hc : c = ((1 / 2 : ℝ) : EReal)) : c * Ideal.tanh (c * x) + c = Ideal.logistic x := by
  subst hc
  induction x with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq, show -r = -(1/2*r) + -(1/2*r) by ring, Real.exp_add]
    have h1 : Real.exp (1/2*r) = (Real.exp (-(1/2*r)))⁻¹ := by rw [Real.exp_neg, inv_inv]
    have h2 := Real.exp_pos (-(1/2*r))
    rw [h1]
    field_simp
    ring

end Cert.FfnGrad
-- ==== Proof.Ref.lean ====
module

public import proofs.«01_k».proof.Proof.Gen.ReferenceIdeal.Read
public import proofs.«01_k».proof.Proof.Spec

@[expose] public section

set_option maxRecDepth 16384
noncomputable section

/-! The reference's values at an index. -/
namespace Cert.ReferenceIdeal.At

open Idealize.ShloMosaic Idealize.ShloMosaic.TcCoe Idealize.SL.Sem
open Cert.ReferenceIdeal Cert.ReferenceIdeal.Gen Cert.ReferenceIdeal.Read Cert.FfnGrad

variable (x0 x1 : FVec Ideal S8192x1024 .f32) (x2 : FVec Ideal S1x1024 .f32) (x3 : FVec Ideal S1024x5632 .f32)
  (x4 : FVec Ideal S3x5632 .f32) (x5 : FVec Ideal S1x5632 .f32) (x6 : FVec Ideal S2816x1024 .f32)

/-- The reference's arguments. -/
abbrev ra : Args := ⟨x0, x1, x2, x3, x4, x5, x6⟩

theorem v4_at (s : Fin 8192) (n : Fin 5632) : val_main_v4 (F := Ideal) x1 x3 (ix2 s n) = up (ra x0 x1 x2 x3 x4 x5 x6) s n := by
  unfold val_main_v4 val_main_v3 val_main_v2 val_main_v1 val_main_v0 up
  pointwise
  exact Finset.sum_congr rfl fun k _ => mul_comm _ _

theorem v8_at (s : Fin 8192) (n : Fin 5632) : val_main_v8 (F := Ideal) x1 x3 (ix2 s n) = back (ra x0 x1 x2 x3 x4 x5 x6) 2 s n := by
  unfold val_main_v8 val_main_v7 val_main_v6 val_main_cst
  pointwise
  simp only [v4_at x0 x1 x2 x3 x4 x5 x6]
  rfl

theorem v15_at (s : Fin 8192) (n : Fin 5632) : val_main_v15 (F := Ideal) x1 x3 (ix2 s n) = back (ra x0 x1 x2 x3 x4 x5 x6) 1 s n := by
  unfold val_main_v15 val_main_v14 val_main_v13 val_main_cst_1
  pointwise
  simp only [v4_at x0 x1 x2 x3 x4 x5 x6]
  rfl

theorem v25_at (s : Fin 8192) (n : Fin 5632) : val_main_v25 (F := Ideal) x1 x3 x4 x5 (ix2 s n) = cv (ra x0 x1 x2 x3 x4 x5 x6) s n := by
  unfold val_main_v25 val_main_v24 val_main_v23 val_main_v22 val_main_v21 val_main_v20 val_main_v19 val_main_v18 val_main_v17 val_main_v12 val_main_v11 val_main_v10 val_main_v5 cv
  pointwise
  simp only [v4_at x0 x1 x2 x3 x4 x5 x6, v8_at x0 x1 x2 x3 x4 x5 x6, v15_at x0 x1 x2 x3 x4 x5 x6]

theorem v26_at (s : Fin 8192) (f : Fin 2816) : val_main_v26 (F := Ideal) x1 x3 x4 x5 (ix2 s f) = vl (ra x0 x1 x2 x3 x4 x5 x6) s f := by
  unfold val_main_v26
  pointwise
  exact v25_at x0 x1 x2 x3 x4 x5 x6 s _

theorem v27_at (s : Fin 8192) (f : Fin 2816) : val_main_v27 (F := Ideal) x1 x3 x4 x5 (ix2 s f) = gt (ra x0 x1 x2 x3 x4 x5 x6) s f := by
  unfold val_main_v27
  pointwise
  exact v25_at x0 x1 x2 x3 x4 x5 x6 s _

theorem v28_2_at (s : Fin 8192) (f : Fin 2816) :
    val_main_v28_2 (F := Ideal) x1 x3 x4 x5 (ix2 s f) = Ideal.logistic (gt (ra x0 x1 x2 x3 x4 x5 x6) s f) := by
  unfold val_main_v28_2 val_main_call0_v4 val_main_call0_v3 val_main_call0_v2 val_main_call0_v1 val_main_call0_v0 val_main_call0_cst_0 val_main_call0_cst
  pointwise
  simp only [v27_at x0 x1 x2 x3 x4 x5 x6]
  rfl

theorem v28_1_at (s : Fin 8192) (f : Fin 2816) :
    val_main_v28_1 (F := Ideal) x1 x3 x4 x5 (ix2 s f) = Ideal.logistic (gt (ra x0 x1 x2 x3 x4 x5 x6) s f) * (1 - Ideal.logistic (gt (ra x0 x1 x2 x3 x4 x5 x6) s f)) := by
  unfold val_main_v28_1 val_main_call0_v7 val_main_call0_v6 val_main_call0_cst_1
  pointwise
  simp only [v28_2_at x0 x1 x2 x3 x4 x5 x6]

theorem v28_0_at (s : Fin 8192) (f : Fin 2816) :
    val_main_v28_0 (F := Ideal) x1 x3 x4 x5 (ix2 s f) = gt (ra x0 x1 x2 x3 x4 x5 x6) s f * Ideal.logistic (gt (ra x0 x1 x2 x3 x4 x5 x6) s f) := by
  unfold val_main_v28_0
  pointwise
  simp only [v28_2_at x0 x1 x2 x3 x4 x5 x6, v27_at x0 x1 x2 x3 x4 x5 x6]

theorem v29_at (s : Fin 8192) (f : Fin 2816) :
    val_main_v29 (F := Ideal) x1 x3 x4 x5 (ix2 s f) = fv (ra x0 x1 x2 x3 x4 x5 x6) s f := by
  unfold val_main_v29 fv
  pointwise
  simp only [v28_0_at x0 x1 x2 x3 x4 x5 x6, v26_at x0 x1 x2 x3 x4 x5 x6]

theorem v34_at (s : Fin 8192) (d : Fin 1024) :
    val_main_v34 (F := Ideal) x0 x2 (ix2 s d) = do2 (ra x0 x1 x2 x3 x4 x5 x6) s d := by
  unfold val_main_v34 val_main_v33 do2
  pointwise
  rw [mul_comm]

theorem v37_at (s : Fin 8192) (f : Fin 2816) :
    val_main_v37 (F := Ideal) x0 x2 x6 (ix2 s f) = df (ra x0 x1 x2 x3 x4 x5 x6) s f := by
  unfold val_main_v37 df
  pointwise
  simp only [v34_at x0 x1 x2 x3 x4 x5 x6]

theorem v38_at (s : Fin 8192) (f : Fin 2816) :
    val_main_v38 (F := Ideal) x0 x1 x2 x3 x4 x5 x6 (ix2 s f) = du0 (ra x0 x1 x2 x3 x4 x5 x6) s f := by
  unfold val_main_v38 du0
  pointwise
  simp only [v28_0_at x0 x1 x2 x3 x4 x5 x6, v37_at x0 x1 x2 x3 x4 x5 x6]
  rw [mul_comm]

theorem v40_at (hA : Real (ra x0 x1 x2 x3 x4 x5 x6)) (s : Fin 8192) (f : Fin 2816) :
    val_main_v40 (F := Ideal) x0 x1 x2 x3 x4 x5 x6 (ix2 s f) = du1 (ra x0 x1 x2 x3 x4 x5 x6) s f := by
  unfold val_main_v40 val_main_call1_v2 val_main_call1_v1 val_main_call1_v0 val_main_v39 du1
  pointwise
  simp only [v28_1_at x0 x1 x2 x3 x4 x5 x6, v28_2_at x0 x1 x2 x3 x4 x5 x6, v27_at x0 x1 x2 x3 x4 x5 x6, v26_at x0 x1 x2 x3 x4 x5 x6, v37_at x0 x1 x2 x3 x4 x5 x6]
  exact silu_grad ((df_real hA s f).mul (vl_real hA s f)) (gt_real hA s f)

theorem v41_at (hA : Real (ra x0 x1 x2 x3 x4 x5 x6)) (s : Fin 8192) (n : Fin 5632) :
    val_main_v41 (F := Ideal) x0 x1 x2 x3 x4 x5 x6 (ix2 s n) = dup (ra x0 x1 x2 x3 x4 x5 x6) s n := by
  unfold val_main_v41 dup
  pointwise
  simp only [v38_at x0 x1 x2 x3 x4 x5 x6, v40_at x0 x1 x2 x3 x4 x5 x6 hA]

theorem v69_at (hA : Real (ra x0 x1 x2 x3 x4 x5 x6)) (s : Fin 8192) (n : Fin 5632) :
    val_main_v69 (F := Ideal) x0 x1 x2 x3 x4 x5 x6 (ix2 s n) = dpre (ra x0 x1 x2 x3 x4 x5 x6) s n := by
  unfold val_main_v69 val_main_v68 val_main_v67 val_main_v62 val_main_v61 val_main_v58 val_main_v57 val_main_v56 val_main_v51 val_main_v50 val_main_v45 val_main_v44 val_main_v20 val_main_v12 val_main_v5 val_main_cst_7 val_main_cst_10 dpre
  pointwise
  simp only [v41_at x0 x1 x2 x3 x4 x5 x6 hA]
  have e1 : (if h : s.val < 8191 then x4 (ix2 1 n) * dup (ra x0 x1 x2 x3 x4 x5 x6) ⟨1 + s.val, by omega⟩ n else 0)
      = x4 (ix2 1 n) * nx (ra x0 x1 x2 x3 x4 x5 x6) 1 s n := by
    unfold nx
    by_cases h : s.val < 8191
    · rw [dif_pos h, dif_pos (show s.val + 1 < 8192 by omega)]
      congr 3; omega
    · rw [dif_neg h, dif_neg (show ¬ s.val + 1 < 8192 by omega), mul_zero]
  have e2 : (if h : s.val < 8190 then x4 (ix2 0 n) * dup (ra x0 x1 x2 x3 x4 x5 x6) ⟨2 + s.val, by omega⟩ n else 0)
      = x4 (ix2 0 n) * nx (ra x0 x1 x2 x3 x4 x5 x6) 2 s n := by
    unfold nx
    by_cases h : s.val < 8190
    · rw [dif_pos h, dif_pos (show s.val + 2 < 8192 by omega)]
      congr 3; omega
    · rw [dif_neg h, dif_neg (show ¬ s.val + 2 < 8192 by omega), mul_zero]
  rw [e1, e2]
  ac_rfl

theorem v74_at (hA : Real (ra x0 x1 x2 x3 x4 x5 x6)) (j : Fin 4) (s : Fin 8192) (d : Fin 1024) :
    val_main_v74 (F := Ideal) x0 x1 x2 x3 x4 x5 x6 (ix3 j s d) = dh (ra x0 x1 x2 x3 x4 x5 x6) j s d := by
  unfold val_main_v74 val_main_v73 val_main_v72 val_main_v1 dh
  pointwise
  simp only [v69_at x0 x1 x2 x3 x4 x5 x6 hA]
  rfl

theorem v84_at (hA : Real (ra x0 x1 x2 x3 x4 x5 x6)) (a : Fin 2) (j : Fin 4) (k : Fin 1024) (l : Fin 704) :
    val_main_v84 (F := Ideal) x0 x1 x2 x3 x4 x5 x6 (ix4 a j k l) = dwu (ra x0 x1 x2 x3 x4 x5 x6) a j k l := by
  unfold val_main_v84 val_main_v83 val_main_v77 val_main_v76 val_main_v75 val_main_v73 val_main_v72 val_main_v0 dwu
  pointwise
  simp only [v69_at x0 x1 x2 x3 x4 x5 x6 hA]
  exact Finset.sum_congr rfl fun k _ => mul_comm _ _

theorem v85_at (j : Fin 4) (l : Fin 704) (d : Fin 1024) :
    val_main_v85 (F := Ideal) x0 x1 x2 x3 x4 x5 (ix3 j l d) = dwd (ra x0 x1 x2 x3 x4 x5 x6) j l d := by
  unfold val_main_v85 val_main_v36 val_main_v35 dwd
  pointwise
  simp only [v34_at x0 x1 x2 x3 x4 x5 x6, v29_at x0 x1 x2 x3 x4 x5 x6]
  exact Finset.sum_congr rfl fun k _ => mul_comm _ _

theorem v71_at (hA : Real (ra x0 x1 x2 x3 x4 x5 x6)) (r : Fin 3) (n : Fin 5632) :
    val_main_v71 (F := Ideal) x0 x1 x2 x3 x4 x5 x6 (ix2 r n) = acc (ra x0 x1 x2 x3 x4 x5 x6) r.val n := by
  unfold val_main_v71 val_main_v70 val_main_v65 val_main_v64 val_main_v63 val_main_v60 val_main_v59 val_main_v54 val_main_v53 val_main_v52 val_main_v49 val_main_v48 val_main_v47 val_main_v46 val_main_cst_4 val_main_cst_5 val_main_cst_6 val_main_cst_8 val_main_cst_9 val_main_cst_11 acc
  pointwise
  simp only [v41_at x0 x1 x2 x3 x4 x5 x6 hA, v4_at x0 x1 x2 x3 x4 x5 x6, v8_at x0 x1 x2 x3 x4 x5 x6, v15_at x0 x1 x2 x3 x4 x5 x6]
  have b := fun k => sum_back (ra x0 x1 x2 x3 x4 x5 x6) k n
  have z : ∀ s, nx (ra x0 x1 x2 x3 x4 x5 x6) 0 s n = dup (ra x0 x1 x2 x3 x4 x5 x6) s n := fun s => nx_zero _ s n
  obtain ⟨r, hr⟩ := r
  interval_cases r
  · simp [b]
  · simp [b]
  · simp [z]

theorem v82_at (hA : Real (ra x0 x1 x2 x3 x4 x5 x6)) (a : Fin 2) (j : Fin 4) (r : Fin 8) (l : Fin 768) :
    val_main_v82 (F := Ideal) x0 x1 x2 x3 x4 x5 x6 (ix4 a j r l) = accP (ra x0 x1 x2 x3 x4 x5 x6) a j r.val l.val := by
  unfold val_main_v82 val_main_v81 val_main_v80 val_main_v79 val_main_v78 val_main_v43 val_main_v42 val_main_cst_12 val_main_cst_3 val_main_call2_v0 val_main_c accP
  pointwise
  simp only [v41_at x0 x1 x2 x3 x4 x5 x6 hA, v71_at x0 x1 x2 x3 x4 x5 x6 hA]
  by_cases h : l.val < 704
  · rw [dif_pos h, dif_pos h]
    unfold acc
    by_cases h3 : r.val < 3
    · rw [dif_pos h3, if_pos h3, if_pos h3]; rfl
    · rw [dif_neg h3, if_neg h3]
      by_cases h4 : r.val = 3
      · rw [dif_pos (by omega), if_pos h4]; rfl
      · rw [dif_neg (by omega), if_neg h4]
  · rw [dif_neg h, dif_neg h]; exact by simp [FloatOps.sitofp]

end Cert.ReferenceIdeal.At
-- ==== Proof.Host.lean ====
module

public import proofs.«01_k».proof.Proof.Gen.KernelIdeal.Frame
public import Idealize.ShloMosaic.Lib.Pipeline.ValueKit
public import Idealize.ShloMosaic.Lib.Pointwise
public import Idealize.ShloMosaic.Lib.StableHlo.ReadAt
public import Idealize.ShloMosaic.Lib.Claim
public import proofs.«01_k».proof.Proof.Spec

@[expose] public section

set_option maxRecDepth 16384
noncomputable section

open Idealize.ShloMosaic Idealize.ShloMosaic.TcCoe Idealize.SL.Sem
open Idealize.ShloMosaic.Pipeline (Dat)

namespace Cert.KernelIdeal.HostAt

open Cert.KernelIdeal Cert.KernelIdeal.Gen Cert.FfnGrad

variable (m : (ℓ : Loc nD τ sig) → Buf (Elt Ideal) ℓ)

/-- The arguments on one device. -/
abbrev aX0 (c : Dev nD) : FVec Ideal S8192x1024 .f32 := m ((c : Thread nD τ).loc main_arg0)
abbrev aX1 (c : Dev nD) : FVec Ideal S8192x1024 .f32 := m ((c : Thread nD τ).loc main_arg1)
abbrev aX2 (c : Dev nD) : FVec Ideal S1x1024 .f32 := m ((c : Thread nD τ).loc main_arg2)
abbrev aX3 (c : Dev nD) : FVec Ideal S1024x5632 .f32 := m ((c : Thread nD τ).loc main_arg3)
abbrev aX4 (c : Dev nD) : FVec Ideal S3x5632 .f32 := m ((c : Thread nD τ).loc main_arg4)
abbrev aX5 (c : Dev nD) : FVec Ideal S1x5632 .f32 := m ((c : Thread nD τ).loc main_arg5)
abbrev aX6 (c : Dev nD) : FVec Ideal S2816x1024 .f32 := m ((c : Thread nD τ).loc main_arg6)

/-- The arguments as the formulas take them. -/
abbrev kA (c : Dev nD) : Args := ⟨aX0 m c, aX1 m c, aX2 m c, aX3 m c, aX4 m c, aX5 m c, aX6 m c⟩

theorem h2t_at (c : Dev nD) (k : Fin 1024) (s : Fin 8192) :
    (show FVec Ideal S1024x8192 .bf16 from V m c main_v21) (ix2 k s) = aX1 m c (ix2 s k) := by
  unfold V
  after_reads_at

theorem sitofp0 (φ : FTy) : (FloatOps.sitofp φ 0#32 : Ideal φ) = 0 := by
  simp [FloatOps.sitofp]

theorem vecs_at (c : Dev nD) (k : Fin 16) (d : Fin 1024) (hk : k.val = 7) :
    (show FVec Ideal S16x1024 .f32 from V m c main_v19) (ix2 k d) = aX2 m c (ix2 0 d) := by
  unfold V
  after_reads_at
  after_reads_at
  rw [dif_neg (by omega), dif_pos (by omega)]
  congr 2
  apply Fin.ext
  show k.val - 7 = 0
  omega

theorem wup_at (c : Dev nD) (k : Fin 8) (l : Fin 768) (d : Fin 1024) (a : Fin 2) (j : Fin 4) (hk : k.val = a.val * 4 + j.val) :
    (show FVec Ideal S8x768x1024 .bf16 from V m c main_v13) (ix3 k l d) = pc (fun n => aX3 m c (ix2 d n)) a j l.val := by
  unfold V
  after_reads_at
  unfold pc
  by_cases h : l.val < 704
  · rw [dif_pos h, dif_pos h]
    congr 2
    apply Fin.ext
    show k.val * 704 + l.val = a.val * 2816 + j.val * 704 + l.val
    omega
  · rw [dif_neg h, dif_neg h]
    exact sitofp0 _

theorem wdn_at (c : Dev nD) (j : Fin 4) (l : Fin 768) (d : Fin 1024) :
    (show FVec Ideal S4x768x1024 .bf16 from V m c main_v16) (ix3 j l d) = pf (fun f => aX6 m c (ix2 f d)) j l.val := by
  unfold V
  after_reads_at
  unfold pf
  by_cases h : l.val < 704
  · rw [dif_pos h, dif_pos h]
    rfl
  · rw [dif_neg h, dif_neg h]
    exact sitofp0 _

theorem wb_at (c : Dev nD) (r : Fin 8) (hr : r.val < 3) (q : Fin 6144) :
    (show FVec Ideal S8x6144 .f32 from V m c main_v9) (ix2 r q) = pq (fun n => aX4 m c (ix2 ⟨r.val, hr⟩ n)) q := by
  have hq : q.val / 768 < 8 := by omega
  generalize hz : pq (fun n => aX4 m c (ix2 ⟨r.val, hr⟩ n)) q = z
  unfold V
  after_reads_at
  after_reads_at
  subst hz
  by_cases h : q.val % 768 < 704
  · simp only [hq, h, hr, and_self, dif_pos, pq]
  · simp only [hq, h, hr, and_false, dif_neg, dif_pos, pq, not_false_eq_true]
    exact sitofp0 _

theorem up_at (c : Dev nD) (s : Fin 8192) (q : Fin 6144) :
    (show FVec Ideal S8192x6144 .bf16 from V m c main_v45) (ix2 s q) = pq (up (kA m c) s) q := by
  have hq : q.val / 768 < 8 := by omega
  generalize hz : pq (up (kA m c) s) q = z
  unfold V
  after_reads_at
  subst hz
  by_cases h : q.val % 768 < 704
  · simp only [hq, h, and_self, dif_pos, pq, up]
  · simp only [hq, h, and_false, dif_neg, pq, not_false_eq_true]
    exact sitofp0 _

theorem cv_at (c : Dev nD) (s : Fin 8192) (q : Fin 6144) :
    (show FVec Ideal S8192x6144 .bf16 from V m c main_v49) (ix2 s q) = pq (cv (kA m c) s) q := by
  have hq : q.val / 768 < 8 := by omega
  generalize hz : pq (cv (kA m c) s) q = z
  unfold V
  after_reads_at
  after_reads_at
  subst hz
  by_cases h : q.val % 768 < 704
  · simp only [hq, h, and_self, dif_pos, pq, cv, back, up]
  · simp only [hq, h, and_false, dif_neg, pq, not_false_eq_true]
    exact sitofp0 _

end Cert.KernelIdeal.HostAt
-- ==== Proof.Blocks.lean ====
module

public import proofs.«01_k».proof.Proof.Host

@[expose] public section

set_option maxRecDepth 16384
noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.HostAt Cert.FfnGrad

variable (m : (ℓ : Loc nD τ sig) → Buf (Elt Ideal) ℓ)

theorem t_lt (t : Fin cfg0.N) : t.val < 64 := t.isLt
/-- The group of hidden columns of a grid point. -/
def grp (t : Fin cfg0.N) : Fin 4 := ⟨t.val / 16, by have := t_lt t; omega⟩
/-- The token of row `r` of a grid point's tile; the tiles run from the last one to the first. -/
def tok (t : Fin cfg0.N) (r : Fin 512) : Fin 8192 := ⟨(15 - t.val % 16) * 512 + r.val, by omega⟩

theorem idx : ∀ t : Fin cfg0.N,
    win0_0.index t = ![15 - t.val % 16, 0] ∧ win0_1.index t = ![15 - t.val % 16, t.val / 16]
    ∧ win0_2.index t = ![15 - t.val % 16, 4 + t.val / 16] ∧ win0_3.index t = ![15 - t.val % 16, t.val / 16]
    ∧ win0_4.index t = ![15 - t.val % 16, 4 + t.val / 16] ∧ win0_5.index t = ![0, 15 - t.val % 16]
    ∧ win0_6.index t = ![0, 0] ∧ win0_7.index t = ![0, t.val / 16] ∧ win0_8.index t = ![0, 4 + t.val / 16]
    ∧ win0_9.index t = ![t.val / 16, 0, 0] ∧ win0_10.index t = ![4 + t.val / 16, 0, 0] ∧ win0_11.index t = ![t.val / 16, 0, 0]
    ∧ win0_12.index t = ![t.val / 16, 15 - t.val % 16, 0] ∧ win0_13.index t = ![0, t.val / 16, 0, 0]
    ∧ win0_14.index t = ![t.val / 16, 0, 0] ∧ win0_15.index t = ![0, t.val / 16, 0, 0] :=
  (by decide +kernel : ∀ t : Fin grid0.N, _)

theorem b0 (c : Dev nD) (t : Fin cfg0.N) (r : Fin 512) (d : Fin 1024) :
    (iblk m c 0 t : FVec Ideal S512x1024 .f32) (ix2 r d) = aX0 m c (ix2 (tok t r) d) := by
  unfold tok
  blk_ext [iblk, V, idx t]

theorem b1 (c : Dev nD) (t : Fin cfg0.N) (r : Fin 512) (l : Fin 768) :
    (iblk m c 1 t : FVec Ideal S512x768 .bf16) (ix2 r l) = pc (up (kA m c) (tok t r)) 0 (grp t) l.val := by
  have hq : t.val / 16 * 768 + l.val < 6144 := by have := t_lt t; omega
  rw [← pq_eq _ ⟨t.val / 16 * 768 + l.val, hq⟩ 0 (grp t) l (by simp [grp]), ← up_at]
  blk_ext [iblk, idx t, tok]

theorem b2 (c : Dev nD) (t : Fin cfg0.N) (r : Fin 512) (l : Fin 768) :
    (iblk m c 2 t : FVec Ideal S512x768 .bf16) (ix2 r l) = pc (up (kA m c) (tok t r)) 1 (grp t) l.val := by
  have hq : (4 + t.val / 16) * 768 + l.val < 6144 := by have := t_lt t; omega
  rw [← pq_eq _ ⟨(4 + t.val / 16) * 768 + l.val, hq⟩ 1 (grp t) l (by simp [grp]), ← up_at]
  blk_ext [iblk, idx t, tok]

theorem b3 (c : Dev nD) (t : Fin cfg0.N) (r : Fin 512) (l : Fin 768) :
    (iblk m c 3 t : FVec Ideal S512x768 .bf16) (ix2 r l) = pc (cv (kA m c) (tok t r)) 0 (grp t) l.val := by
  have hq : t.val / 16 * 768 + l.val < 6144 := by have := t_lt t; omega
  rw [← pq_eq _ ⟨t.val / 16 * 768 + l.val, hq⟩ 0 (grp t) l (by simp [grp]), ← cv_at]
  blk_ext [iblk, idx t, tok]

theorem b4 (c : Dev nD) (t : Fin cfg0.N) (r : Fin 512) (l : Fin 768) :
    (iblk m c 4 t : FVec Ideal S512x768 .bf16) (ix2 r l) = pc (cv (kA m c) (tok t r)) 1 (grp t) l.val := by
  have hq : (4 + t.val / 16) * 768 + l.val < 6144 := by have := t_lt t; omega
  rw [← pq_eq _ ⟨(4 + t.val / 16) * 768 + l.val, hq⟩ 1 (grp t) l (by simp [grp]), ← cv_at]
  blk_ext [iblk, idx t, tok]

theorem b5 (c : Dev nD) (t : Fin cfg0.N) (k : Fin 1024) (r : Fin 512) :
    (iblk m c 5 t : FVec Ideal S1024x512 .bf16) (ix2 k r) = aX1 m c (ix2 (tok t r) k) := by
  rw [← h2t_at]
  blk_ext [iblk, idx t, tok]

theorem b6 (c : Dev nD) (t : Fin cfg0.N) (d : Fin 1024) :
    (iblk m c 6 t : FVec Ideal S16x1024 .f32) (ix2 7 d) = aX2 m c (ix2 0 d) := by
  rw [← vecs_at m c 7 d rfl]
  blk_ext [iblk, idx t]

theorem b7 (c : Dev nD) (t : Fin cfg0.N) (r : Fin 8) (hr : r.val < 3) (l : Fin 768) :
    (iblk m c 7 t : FVec Ideal S8x768 .f32) (ix2 r l) = pc (fun n => aX4 m c (ix2 ⟨r.val, hr⟩ n)) 0 (grp t) l.val := by
  have hq : t.val / 16 * 768 + l.val < 6144 := by have := t_lt t; omega
  rw [← pq_eq _ ⟨t.val / 16 * 768 + l.val, hq⟩ 0 (grp t) l (by simp [grp]), ← wb_at]
  blk_ext [iblk, idx t]

theorem b8 (c : Dev nD) (t : Fin cfg0.N) (r : Fin 8) (hr : r.val < 3) (l : Fin 768) :
    (iblk m c 8 t : FVec Ideal S8x768 .f32) (ix2 r l) = pc (fun n => aX4 m c (ix2 ⟨r.val, hr⟩ n)) 1 (grp t) l.val := by
  have hq : (4 + t.val / 16) * 768 + l.val < 6144 := by have := t_lt t; omega
  rw [← pq_eq _ ⟨(4 + t.val / 16) * 768 + l.val, hq⟩ 1 (grp t) l (by simp [grp]), ← wb_at]
  blk_ext [iblk, idx t]

theorem b9 (c : Dev nD) (t : Fin cfg0.N) (l : Fin 768) (d : Fin 1024) :
    (iblk m c 9 t : FVec Ideal S1x768x1024 .bf16) (ix3 0 l d) = pc (fun n => aX3 m c (ix2 d n)) 0 (grp t) l.val := by
  have hk : t.val / 16 < 8 := by have := t_lt t; omega
  rw [← wup_at m c ⟨t.val / 16, hk⟩ l d 0 (grp t) (by simp [grp])]
  blk_ext [iblk, idx t]

theorem b10 (c : Dev nD) (t : Fin cfg0.N) (l : Fin 768) (d : Fin 1024) :
    (iblk m c 10 t : FVec Ideal S1x768x1024 .bf16) (ix3 0 l d) = pc (fun n => aX3 m c (ix2 d n)) 1 (grp t) l.val := by
  have hk : 4 + t.val / 16 < 8 := by have := t_lt t; omega
  rw [← wup_at m c ⟨4 + t.val / 16, hk⟩ l d 1 (grp t) (by simp [grp])]
  blk_ext [iblk, idx t]

theorem b11 (c : Dev nD) (t : Fin cfg0.N) (l : Fin 768) (d : Fin 1024) :
    (iblk m c 11 t : FVec Ideal S1x768x1024 .bf16) (ix3 0 l d) = pf (fun f => aX6 m c (ix2 f d)) (grp t) l.val := by
  rw [← wdn_at m c (grp t) l d]
  blk_ext [iblk, idx t, grp]

end Cert.KernelIdeal.Blocks
-- ==== Proof.Point.lean ====
module

public import proofs.«01_k».proof.Proof.Blocks
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.KernelIdeal.Point

open Cert.KernelIdeal Cert.KernelIdeal.Gen Cert.KernelIdeal.HostAt Cert.KernelIdeal.Blocks Cert.FfnGrad

variable (m : (ℓ : Loc nD τ sig) → Buf (Elt Ideal) ℓ)

/-- The bit pattern of one half. -/
theorem half_eq : Ideal.ofBits .f32 0x3F000000#32 = ((1 / 2 : ℝ) : EReal) := by
  simp [Ideal.ofBits, Ideal.ieee, -EReal.coe_mul]; norm_num

/-- The gradient of the gated hidden columns at a grid point, as the body computes it. -/
abbrev K8 (c : Dev nD) (t : Fin cfg0.N) : FVec Ideal S512x768 .f32 :=
  k0_pay8 (iblk m c 0 t) (View.ld (iblk m c 6 t) (Rect.unit (![7, 0] : Fin 2 → Nat) (![1, 1024] : Fin 2 → Nat) inb_S16x1024_S1x1024_7_0)) (iblk m c 11 t)
abbrev K12 (c : Dev nD) (t : Fin cfg0.N) : FVec Ideal S512x768 .f32 := k0_pay12 (iblk m c 4 t)
abbrev K16 (c : Dev nD) (t : Fin cfg0.N) : FVec Ideal S512x768 .f32 :=
  k0_pay16 (K8 m c t) (k0_pay9 (iblk m c 3 t)) (k0_pay10 (iblk m c 4 t)) (k0_pay11 (iblk m c 4 t))

theorem k7_at (c : Dev nD) (t : Fin cfg0.N) (r : Fin 512) (d : Fin 1024) :
    k0_pay7 (F := Ideal) (iblk m c 0 t) (View.ld (iblk m c 6 t) (Rect.unit (![7, 0] : Fin 2 → Nat) (![1, 1024] : Fin 2 → Nat) inb_S16x1024_S1x1024_7_0)) (ix2 r d) = do2 (kA m c) (tok t r) d := by
  unfold k0_pay7 do2
  pointwise
  rw [b0, b6]

theorem k8_at (c : Dev nD) (t : Fin cfg0.N) (r : Fin 512) (l : Fin 768) :
    K8 m c t (ix2 r l) = pf (df (kA m c) (tok t r)) (grp t) l.val := by
  unfold K8 k0_pay8
  pointwise
  simp only [k7_at, b11]
  exact pf_df (kA m c) (tok t r) (grp t) l.val

theorem k9_at (c : Dev nD) (t : Fin cfg0.N) (r : Fin 512) (l : Fin 768) :
    k0_pay9 (F := Ideal) (iblk m c 3 t) (ix2 r l) = pc (cv (kA m c) (tok t r)) 0 (grp t) l.val := by
  unfold k0_pay9
  pointwise
  rw [b3]

theorem k10_at (c : Dev nD) (t : Fin cfg0.N) (r : Fin 512) (l : Fin 768) :
    k0_pay10 (F := Ideal) (iblk m c 4 t) (ix2 r l) = pc (cv (kA m c) (tok t r)) 1 (grp t) l.val := by
  unfold k0_pay10
  pointwise
  rw [b4]

theorem k11_at (c : Dev nD) (t : Fin cfg0.N) (r : Fin 512) (l : Fin 768) :
    k0_pay11 (F := Ideal) (iblk m c 4 t) (ix2 r l) = Ideal.logistic (pc (cv (kA m c) (tok t r)) 1 (grp t) l.val) := by
  unfold k0_pay11
  pointwise
  rw [k10_at]
  exact sigmoid_tanh _ _ half_eq

theorem k12_at (c : Dev nD) (t : Fin cfg0.N) (r : Fin 512) (l : Fin 768) :
    K12 m c t (ix2 r l) = pc (cv (kA m c) (tok t r)) 1 (grp t) l.val * Ideal.logistic (pc (cv (kA m c) (tok t r)) 1 (grp t) l.val) := by
  unfold K12 k0_pay12
  pointwise
  rw [k10_at, k11_at]

theorem k15_at (c : Dev nD) (t : Fin cfg0.N) (r : Fin 512) (l : Fin 768) :
    k0_pay15 (K8 m c t) (K12 m c t) (ix2 r l) = pc (dup (kA m c) (tok t r)) 0 (grp t) l.val := by
  unfold k0_pay15
  pointwise
  rw [k8_at, k12_at, pc_dup0]

theorem k16_at (c : Dev nD) (t : Fin cfg0.N) (r : Fin 512) (l : Fin 768) :
    K16 m c t (ix2 r l) = pc (dup (kA m c) (tok t r)) 1 (grp t) l.val := by
  unfold K16 k0_pay16
  pointwise
  rw [k8_at, k9_at, k10_at, k11_at, pc_dup1]

/-! ## The shifted gradients, over the rows that the point before left -/

/-- The rows carried into a point: the gradient at the first eight tokens of the tile after this one. -/
def Carried (c : Dev nD) (t : Fin cfg0.N) (a : Fin 2) (X : FVec Ideal S8x768 .f32) : Prop :=
  ∀ (q : Fin 8) (l : Fin 768), X (ix2 q l) = En (kA m c) a (grp t) ((15 - t.val % 16) * 512 + (512 + q.val)) l.val

variable {m}

theorem cat_at {c : Dev nD} {t : Fin cfg0.N} {a : Fin 2} {Y : FVec Ideal S512x768 .f32} {X : FVec Ideal S8x768 .f32}
    (hY : ∀ r l, Y (ix2 r l) = pc (dup (kA m c) (tok t r)) a (grp t) l.val) (hX : Carried m c t a X) (i : Fin 520) (l : Fin 768) :
    k0_pay32 Y X (ix2 i l) = En (kA m c) a (grp t) ((15 - t.val % 16) * 512 + i.val) l.val := by
  unfold k0_pay32
  pointwise
  by_cases h : i.val < 512
  · rw [dif_pos h, hY, En_dup]
    rfl
  · rw [dif_neg h, hX]
    show En _ _ _ ((15 - t.val % 16) * 512 + (512 + (i.val - 512))) _ = _
    rw [show 512 + (i.val - 512) = i.val by omega]

theorem d1_at {c : Dev nD} {t : Fin cfg0.N} {a : Fin 2} {Y : FVec Ideal S512x768 .f32} {X : FVec Ideal S8x768 .f32}
    (hY : ∀ r l, Y (ix2 r l) = pc (dup (kA m c) (tok t r)) a (grp t) l.val) (hX : Carried m c t a X) (r : Fin 512) (l : Fin 768) :
    k0_pay34 Y X (ix2 r l) = pc (nx (kA m c) 1 (tok t r)) a (grp t) l.val := by
  unfold k0_pay34
  pointwise
  rw [cat_at hY hX, En_nx]
  congr 1
  show (15 - t.val % 16) * 512 + (r.val + 520 - 519) % 520 = (15 - t.val % 16) * 512 + r.val + 1
  omega

theorem d2_at {c : Dev nD} {t : Fin cfg0.N} {a : Fin 2} {Y : FVec Ideal S512x768 .f32} {X : FVec Ideal S8x768 .f32}
    (hY : ∀ r l, Y (ix2 r l) = pc (dup (kA m c) (tok t r)) a (grp t) l.val) (hX : Carried m c t a X) (r : Fin 512) (l : Fin 768) :
    k0_pay35 (k0_pay32 Y X) (ix2 r l) = pc (nx (kA m c) 2 (tok t r)) a (grp t) l.val := by
  unfold k0_pay35
  pointwise
  rw [cat_at hY hX, En_nx]
  congr 1
  show (15 - t.val % 16) * 512 + (r.val + 520 - 518) % 520 = (15 - t.val % 16) * 512 + r.val + 2
  omega

theorem p21 (Y Z : FVec Ideal S512x768 .f32) (X : FVec Ideal S8x768 .f32) : k0_pay21 Y Z X = k0_pay34 (k0_pay15 Y Z) X := rfl
theorem p22 (Y Z : FVec Ideal S512x768 .f32) (X : FVec Ideal S8x768 .f32) : k0_pay22 Y Z X = k0_pay35 (k0_pay32 (k0_pay15 Y Z) X) := rfl

theorem k29_at {c : Dev nD} {t : Fin cfg0.N} {a : Fin 2} {Y D1 D2 : FVec Ideal S512x768 .f32} {w0 w1 w2 : FVec Ideal S1x768 .f32}
    (hY : ∀ r l, Y (ix2 r l) = pc (dup (kA m c) (tok t r)) a (grp t) l.val)
    (h1 : ∀ r l, D1 (ix2 r l) = pc (nx (kA m c) 1 (tok t r)) a (grp t) l.val)
    (h2 : ∀ r l, D2 (ix2 r l) = pc (nx (kA m c) 2 (tok t r)) a (grp t) l.val)
    (g0 : ∀ l, w0 (ix2 0 l) = pc (fun n => aX4 m c (ix2 0 n)) a (grp t) l.val)
    (g1 : ∀ l, w1 (ix2 0 l) = pc (fun n => aX4 m c (ix2 1 n)) a (grp t) l.val)
    (g2 : ∀ l, w2 (ix2 0 l) = pc (fun n => aX4 m c (ix2 2 n)) a (grp t) l.val) (r : Fin 512) (l : Fin 768) :
    k0_pay29 Y D1 D2 w0 w1 w2 (ix2 r l) = pc (dpre (kA m c) (tok t r)) a (grp t) l.val := by
  unfold k0_pay29
  pointwise
  rw [hY, h1, h2, g0, g1, g2]
  exact pc_dpre (kA m c) (tok t r) a (grp t) l.val

theorem p42 (Y D1 D2 : FVec Ideal S512x768 .f32) (w0 w1 w2 : FVec Ideal S1x768 .f32) : k0_pay42 Y D1 D2 w0 w1 w2 = k0_pay29 Y D1 D2 w0 w1 w2 := rfl

/-! ## The two halves at a point, from the rows carried into it -/

section halves

variable (m)

abbrev w0L (c : Dev nD) (t : Fin cfg0.N) : FVec Ideal S1x768 .f32 := View.ld (iblk m c 7 t) (Rect.unit (![0, 0] : Fin 2 → Nat) (![1, 768] : Fin 2 → Nat) inb_S8x768_S1x768_0_0)
abbrev w1L (c : Dev nD) (t : Fin cfg0.N) : FVec Ideal S1x768 .f32 := View.ld (iblk m c 7 t) (Rect.unit (![1, 0] : Fin 2 → Nat) (![1, 768] : Fin 2 → Nat) inb_S8x768_S1x768_1_0)
abbrev w2L (c : Dev nD) (t : Fin cfg0.N) : FVec Ideal S1x768 .f32 := View.ld (iblk m c 7 t) (Rect.unit (![2, 0] : Fin 2 → Nat) (![1, 768] : Fin 2 → Nat) inb_S8x768_S1x768_2_0)
abbrev w0R (c : Dev nD) (t : Fin cfg0.N) : FVec Ideal S1x768 .f32 := View.ld (iblk m c 8 t) (Rect.unit (![0, 0] : Fin 2 → Nat) (![1, 768] : Fin 2 → Nat) inb_S8x768_S1x768_0_0)
abbrev w1R (c : Dev nD) (t : Fin cfg0.N) : FVec Ideal S1x768 .f32 := View.ld (iblk m c 8 t) (Rect.unit (![1, 0] : Fin 2 → Nat) (![1, 768] : Fin 2 → Nat) inb_S8x768_S1x768_1_0)
abbrev w2R (c : Dev nD) (t : Fin cfg0.N) : FVec Ideal S1x768 .f32 := View.ld (iblk m c 8 t) (Rect.unit (![2, 0] : Fin 2 → Nat) (![1, 768] : Fin 2 → Nat) inb_S8x768_S1x768_2_0)

theorem w0L_at (c : Dev nD) (t : Fin cfg0.N) (l : Fin 768) : w0L m c t (ix2 0 l) = pc (fun n => aX4 m c (ix2 0 n)) 0 (grp t) l.val := by
  unfold w0L
  pointwise
  exact b7 m c t 0 (by decide) l
theorem w1L_at (c : Dev nD) (t : Fin cfg0.N) (l : Fin 768) : w1L m c t (ix2 0 l) = pc (fun n => aX4 m c (ix2 1 n)) 0 (grp t) l.val := by
  unfold w1L
  pointwise
  exact b7 m c t 1 (by decide) l
theorem w2L_at (c : Dev nD) (t : Fin cfg0.N) (l : Fin 768) : w2L m c t (ix2 0 l) = pc (fun n => aX4 m c (ix2 2 n)) 0 (grp t) l.val := by
  unfold w2L
  pointwise
  exact b7 m c t 2 (by decide) l
theorem w0R_at (c : Dev nD) (t : Fin cfg0.N) (l : Fin 768) : w0R m c t (ix2 0 l) = pc (fun n => aX4 m c (ix2 0 n)) 1 (grp t) l.val := by
  unfold w0R
  pointwise
  exact b8 m c t 0 (by decide) l
theorem w1R_at (c : Dev nD) (t : Fin cfg0.N) (l : Fin 768) : w1R m c t (ix2 0 l) = pc (fun n => aX4 m c (ix2 1 n)) 1 (grp t) l.val := by
  unfold w1R
  pointwise
  exact b8 m c t 1 (by decide) l
theorem w2R_at (c : Dev nD) (t : Fin cfg0.N) (l : Fin 768) : w2R m c t (ix2 0 l) = pc (fun n => aX4 m c (ix2 2 n)) 1 (grp t) l.val := by
  unfold w2R
  pointwise
  exact b8 m c t 2 (by decide) l

/-- The gradient of the up projection's value half, as the body computes it. -/
abbrev dpL (c : Dev nD) (t : Fin cfg0.N) (X : FVec Ideal S8x768 .f32) : FVec Ideal S512x768 .bf16 :=
  k0_pay29 (k0_pay15 (K8 m c t) (K12 m c t)) (k0_pay21 (K8 m c t) (K12 m c t) X) (k0_pay22 (K8 m c t) (K12 m c t) X) (w0L m c t) (w1L m c t) (w2L m c t)
/-- That of the gate half. -/
abbrev dpR (c : Dev nD) (t : Fin cfg0.N) (X : FVec Ideal S8x768 .f32) : FVec Ideal S512x768 .bf16 :=
  k0_pay42 (K16 m c t) (k0_pay34 (K16 m c t) X) (k0_pay35 (k0_pay32 (K16 m c t) X)) (w0R m c t) (w1R m c t) (w2R m c t)

variable {m}

theorem dpL_at {c : Dev nD} {t : Fin cfg0.N} {X : FVec Ideal S8x768 .f32} (hX : Carried m c t 0 X) (r : Fin 512) (l : Fin 768) :
    dpL m c t X (ix2 r l) = pc (dpre (kA m c) (tok t r)) 0 (grp t) l.val :=
  k29_at (k15_at m c t) (d1_at (k15_at m c t) hX) (d2_at (k15_at m c t) hX) (w0L_at m c t) (w1L_at m c t) (w2L_at m c t) r l
theorem dpR_at {c : Dev nD} {t : Fin cfg0.N} {X : FVec Ideal S8x768 .f32} (hX : Carried m c t 1 X) (r : Fin 512) (l : Fin 768) :
    dpR m c t X (ix2 r l) = pc (dpre (kA m c) (tok t r)) 1 (grp t) l.val :=
  k29_at (k16_at m c t) (d1_at (k16_at m c t) hX) (d2_at (k16_at m c t) hX) (w0R_at m c t) (w1R_at m c t) (w2R_at m c t) r l

theorem k23_at (c : Dev nD) (t : Fin cfg0.N) (r : Fin 512) (l : Fin 768) :
    k0_pay23 (F := Ideal) (iblk m c 1 t) (ix2 r l) = pc (up (kA m c) (tok t r)) 0 (grp t) l.val := by
  unfold k0_pay23
  pointwise
  rw [b1]
theorem k36_at (c : Dev nD) (t : Fin cfg0.N) (r : Fin 512) (l : Fin 768) :
    k0_pay36 (F := Ideal) (iblk m c 2 t) (ix2 r l) = pc (up (kA m c) (tok t r)) 1 (grp t) l.val := by
  unfold k0_pay36
  pointwise
  rw [b2]

/-! ## What a point adds to each result -/

/-- The block of the input's gradient. -/
theorem dh_pt {c : Dev nD} {t : Fin cfg0.N} {XL XR : FVec Ideal S8x768 .f32} (hL : Carried m c t 0 XL) (hR : Carried m c t 1 XR) (r : Fin 512) (d : Fin 1024) :
    k0_pay2 (k0_pay31 (k0_pay15 (K8 m c t) (K12 m c t)) k0_pay18 (k0_pay21 (K8 m c t) (K12 m c t) XL) (k0_pay22 (K8 m c t) (K12 m c t) XL)
      (w0L m c t) (w1L m c t) (w2L m c t) (iblk m c 9 t)) (dpR m c t XR) (iblk m c 10 t) (ix3 0 r d)
      = dh (kA m c) (grp t) (tok t r) d := by
  unfold k0_pay2 k0_pay31 k0_pay18
  pointwise
  refine (congrArg₂ (· + ·)
    (Finset.sum_congr rfl fun x _ => congrArg₂ (· * ·) (dpL_at hL r x) (b9 m c t x d))
    (Finset.sum_congr rfl fun x _ => congrArg₂ (· * ·) (dpR_at hR r x) (b10 m c t x d))).trans ?_
  rw [sum_pc, sum_pc]
  unfold dh
  rw [Fin.sum_univ_two]

theorem dwd_pt (c : Dev nD) (t : Fin cfg0.N) (O : FVec Ideal S1x704x1024 .f32) (l : Fin 704) (d : Fin 1024) :
    k0_pay14 (k0_pay13 (iblk m c 0 t) (View.ld (iblk m c 6 t) (Rect.unit (![7, 0] : Fin 2 → Nat) (![1, 1024] : Fin 2 → Nat) inb_S16x1024_S1x1024_7_0))
      (iblk m c 3 t) (iblk m c 4 t) O) (ix3 0 l d)
      = O (ix3 0 l d) + ∑ r : Fin 512, fv (kA m c) (tok t r) (fcol (grp t) l) * do2 (kA m c) (tok t r) d := by
  unfold k0_pay14 k0_pay13
  pointwise
  simp only [k7_at]
  refine congrArg (_ + ·) (Finset.sum_congr rfl fun r _ => ?_)
  rw [k9_at]
  refine congrArg (· * _) ?_
  have e := k12_at m c t r ⟨l.val, by omega⟩
  unfold K12 at e
  rw [e, pf_fv]
  exact dif_pos l.isLt

theorem dwuL_pt {c : Dev nD} {t : Fin cfg0.N} {X : FVec Ideal S8x768 .f32} (hX : Carried m c t 0 X) (O : FVec Ideal S1x1x1024x704 .f32) (k : Fin 1024) (l : Fin 704) :
    k0_pay30 (k0_pay15 (K8 m c t) (K12 m c t)) (k0_pay17 (iblk m c 5 t)) (k0_pay21 (K8 m c t) (K12 m c t) X) (k0_pay22 (K8 m c t) (K12 m c t) X)
      (w0L m c t) (w1L m c t) (w2L m c t) O (ix4 0 0 k l)
      = O (ix4 0 0 k l) + ∑ r : Fin 512, aX1 m c (ix2 (tok t r) k) * dpre (kA m c) (tok t r) (col 0 (grp t) l) := by
  unfold k0_pay30 k0_pay17
  pointwise
  refine congrArg (_ + ·) (Finset.sum_congr rfl fun r _ => ?_)
  have e := dpL_at hX r ⟨l.val, by omega⟩
  unfold dpL at e
  rw [e, b5]
  exact congrArg (_ * ·) (dif_pos l.isLt)

theorem dwuR_pt {c : Dev nD} {t : Fin cfg0.N} {X : FVec Ideal S8x768 .f32} (hX : Carried m c t 1 X) (O : FVec Ideal S1x1x1024x704 .f32) (k : Fin 1024) (l : Fin 704) :
    k0_pay1 (k0_pay43 (K16 m c t) (k0_pay17 (iblk m c 5 t)) (k0_pay34 (K16 m c t) X) (k0_pay35 (k0_pay32 (K16 m c t) X))
      (w0R m c t) (w1R m c t) (w2R m c t) O) (ix4 0 0 k l)
      = O (ix4 0 0 k l) + ∑ r : Fin 512, aX1 m c (ix2 (tok t r) k) * dpre (kA m c) (tok t r) (col 1 (grp t) l) := by
  unfold k0_pay1 k0_pay43 k0_pay17
  pointwise
  refine congrArg (_ + ·) (Finset.sum_congr rfl fun r _ => ?_)
  have e := dpR_at hX r ⟨l.val, by omega⟩
  unfold dpR at e
  rw [e, b5]
  exact congrArg (_ * ·) (dif_pos l.isLt)

/-- A row of the small sums: the old row and the sum over the point's tokens. -/
theorem row_pt {a b : Fin 512 → Fin 768 → EReal} {A B : FVec Ideal S512x768 .f32} (hA : ∀ r l, A (ix2 r l) = a r l) (hB : ∀ r l, B (ix2 r l) = b r l)
    (o : FVec Ideal S1x1x1x768 .f32) (l : Fin 768) :
    k0_pay26 A B o (ix4 0 0 0 l) = o (ix4 0 0 0 l) + ∑ r : Fin 512, a r l * b r l := by
  unfold k0_pay26
  pointwise
  simp only [hA, hB]
theorem p27 (A B : FVec Ideal S512x768 .f32) (o : FVec Ideal S1x1x1x768 .f32) : k0_pay27 A B o = k0_pay26 A B o := rfl
theorem p28 (A B : FVec Ideal S512x768 .f32) (o : FVec Ideal S1x1x1x768 .f32) : k0_pay28 A B o = k0_pay26 A B o := rfl
theorem p41 (A B : FVec Ideal S512x768 .f32) (o : FVec Ideal S1x1x1x768 .f32) : k0_pay41 A B o = k0_pay26 A B o := rfl

/-- The bias' row: the old row and the sum of the gradient over the point's tokens. -/
theorem bias_pt {a : Fin 512 → Fin 768 → EReal} {A : FVec Ideal S512x768 .f32} (hA : ∀ r l, A (ix2 r l) = a r l)
    (o : FVec Ideal S1x1x1x768 .f32) (l : Fin 768) :
    k0_pay37 A o (ix4 0 0 0 l) = o (ix4 0 0 0 l) + ∑ r : Fin 512, a r l := by
  unfold k0_pay37
  pointwise
  simp only [hA]

end halves

end Cert.KernelIdeal.Point
-- ==== Proof.Outs.lean ====
module

public import proofs.«01_k».proof.Proof.Point
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.KernelIdeal.Outs

open Cert.KernelIdeal Cert.KernelIdeal.Gen Cert.KernelIdeal.HostAt Cert.KernelIdeal.Blocks Cert.KernelIdeal.Point Cert.FfnGrad

variable {m : (ℓ : Loc nD τ sig) → Buf (Elt Ideal) ℓ}

/-! ## Reading back what a point stores -/

/-- Where no store reaches, the old contents are read. -/
theorem read_writes_off {sig : RefSig} {κ : Kind} {sp : Space} {s : Shape} {e : EltTy} (v : View sig κ sp s e) (f : v.ty.Contents (Elt Ideal)) (y : s.Idx) :
    ∀ L : List (View.Piece (Elt Ideal) s e), (∀ p ∈ L, y ∉ p.1.set) → v.read (Elt Ideal) (v.writes (Elt Ideal) f L) y = v.read (Elt Ideal) f y
  | [], _ => rfl
  | p :: L, h => by
    rw [View.writes_cons, View.read_slice_write_of_not_mem, read_writes_off v f y L fun q hq => h q (List.mem_cons_of_mem _ hq)]
    rw [Rect.map_emb_univ]
    exact h p List.mem_cons_self

/-! ## The rows carried to the next point -/

/-- What a point leaves in the carry. -/
abbrev carryL (m : (ℓ : Loc nD τ sig) → Buf (Elt Ideal) ℓ) (c : Dev nD) (t : Fin cfg0.N) : List (View.Piece (Elt Ideal) S8x1536 .f32) :=
  [⟨Rect.unit (![0, 768] : Fin 2 → Nat) (![8, 768] : Fin 2 → Nat) inb_S8x1536_S8x768_0_768, k0_pay33 (K16 m c t)⟩,
   ⟨Rect.unit (![0, 0] : Fin 2 → Nat) (![8, 768] : Fin 2 → Nat) inb_S8x1536_S8x768_0_0, k0_pay20 (K8 m c t) (K12 m c t)⟩]

/-- Its value: the gradient's first eight rows of the point's tile, both halves. -/
def carryN (m : (ℓ : Loc nD τ sig) → Buf (Elt Ideal) ℓ) (c : Dev nD) (t : Fin cfg0.N) (q l : ℕ) : EReal :=
  if l < 768 then En (kA m c) 0 (grp t) ((15 - t.val % 16) * 512 + q) l
  else En (kA m c) 1 (grp t) ((15 - t.val % 16) * 512 + q) (l - 768)
def carryG (m : (ℓ : Loc nD τ sig) → Buf (Elt Ideal) ℓ) (c : Dev nD) (t : Fin cfg0.N) (y : S8x1536.Idx) : EReal := carryN m c t (y 0).val (y 1).val

theorem k20_at (c : Dev nD) (t : Fin cfg0.N) (q : Fin 8) (l : Fin 768) :
    k0_pay20 (K8 m c t) (K12 m c t) (ix2 q l) = En (kA m c) 0 (grp t) ((15 - t.val % 16) * 512 + q.val) l.val := by
  unfold k0_pay20
  pointwise
  rw [k15_at, En_dup]
  rfl
theorem k33_at (c : Dev nD) (t : Fin cfg0.N) (q : Fin 8) (l : Fin 768) :
    k0_pay33 (K16 m c t) (ix2 q l) = En (kA m c) 1 (grp t) ((15 - t.val % 16) * 512 + q.val) l.val := by
  unfold k0_pay33
  pointwise
  rw [k16_at, En_dup]
  rfl

theorem carry_pieces (c : Dev nD) (t : Fin cfg0.N) : View.PiecesOf (Val := Elt Ideal) (carryG m c t) (carryL m c t) := by
  refine ⟨fun x => ?_, fun x => ?_, trivial⟩
  · idx_vars x
    refine (k33_at c t x0 x1).trans ?_
    show _ = carryN m c t (0 + 1 * x0.val) (768 + 1 * x1.val)
    unfold carryN
    rw [if_neg (by omega), show 0 + 1 * x0.val = x0.val by omega, show 768 + 1 * x1.val - 768 = x1.val by omega]
  · idx_vars x
    refine (k20_at c t x0 x1).trans ?_
    show _ = carryN m c t (0 + 1 * x0.val) (0 + 1 * x1.val)
    unfold carryN
    rw [if_pos (by omega), show 0 + 1 * x0.val = x0.val by omega, show 0 + 1 * x1.val = x1.val by omega]

theorem carry_cover (c : Dev nD) (t : Fin cfg0.N) (y : S8x1536.Idx) : ∃ p ∈ carryL m c t, y ∈ p.1.set := by
  have h0 : (y 0).val < 8 := (y 0).isLt
  have h1 : (y 1).val < 1536 := (y 1).isLt
  by_cases h : (y 1).val < 768
  · exact ⟨_, List.mem_cons_of_mem _ List.mem_cons_self, (Rect.mem_set_unit (inb := inb_S8x1536_S8x768_0_0)).mpr
      (Fin.forall_fin_two.mpr ⟨⟨Nat.zero_le _, by show (y 0).val < 0 + 8; omega⟩, ⟨Nat.zero_le _, by show (y 1).val < 0 + 768; omega⟩⟩)⟩
  · exact ⟨_, List.mem_cons_self, (Rect.mem_set_unit (inb := inb_S8x1536_S8x768_0_768)).mpr
      (Fin.forall_fin_two.mpr ⟨⟨Nat.zero_le _, by show (y 0).val < 0 + 8; omega⟩, ⟨by show 768 ≤ (y 1).val; omega, by show (y 1).val < 768 + 768; omega⟩⟩)⟩

theorem carry_at (c : Dev nD) (n : ℕ) (h : n < cfg0.N) (y : S8x1536.Idx) : (outsAt0 m c n h).2.2.2.2 y = carryG m c ⟨n, h⟩ y := by
  by_cases hc : n % 16 = 0
  · rw [outsAt0_A m c ⟨n, h⟩ hc]
    frame_open
    simp (disch := decide) only [↓ View.readCov_skip, ↓ View.readCov_cons_toLoadRect, ↓ View.readCov_fill]
    frame_out
    exact View.canon_append_of_piecesOf (carryG m c ⟨n, h⟩) [_] (carryL m c ⟨n, h⟩) (carry_pieces c _) y (carry_cover c _ y)
  · rw [outsAt0_B m c ⟨n, h⟩ hc]
    frame_out
    exact View.canon_append_of_piecesOf (carryG m c ⟨n, h⟩) [] (carryL m c ⟨n, h⟩) (carry_pieces c _) y (carry_cover c _ y)

/-! ## The carried blocks a point reads -/

abbrev ldL (X : FVec Ideal S8x1536 .f32) : FVec Ideal S8x768 .f32 := View.ld (Val := Elt Ideal) (S := S8x1536) (e' := .f32) X (Rect.unit (![0, 0] : Fin 2 → Nat) (![8, 768] : Fin 2 → Nat) inb_S8x1536_S8x768_0_0)
abbrev ldR (X : FVec Ideal S8x1536 .f32) : FVec Ideal S8x768 .f32 := View.ld (Val := Elt Ideal) (S := S8x1536) (e' := .f32) X (Rect.unit (![0, 768] : Fin 2 → Nat) (![8, 768] : Fin 2 → Nat) inb_S8x1536_S8x768_0_768)

theorem En_big (A : Args) (a : Fin 2) (j : Fin 4) (i l : ℕ) (h : 8192 ≤ i) : En A a j i l = 0 := by
  unfold En
  exact dif_neg (by omega)

theorem carriedL_A (c : Dev nD) (t : Fin cfg0.N) (h : t.val % 16 = 0) : Carried m c t 0 (ldL k0_pay3) := by
  intro q l
  rw [h, En_big _ _ _ _ _ (by omega)]
  unfold ldL k0_pay3
  pointwise
theorem carriedR_A (c : Dev nD) (t : Fin cfg0.N) (h : t.val % 16 = 0) : Carried m c t 1 (ldR k0_pay3) := by
  intro q l
  rw [h, En_big _ _ _ _ _ (by omega)]
  unfold ldR k0_pay3
  pointwise

theorem carriedL_B (c : Dev nD) (t : Fin cfg0.N) (h : ¬ t.val % 16 = 0) (h' : t.val - 1 < cfg0.N) :
    Carried m c t 0 (ldL (outsAt0 m c (t.val - 1) h').2.2.2.2) := by
  intro q l
  refine (carry_at c (t.val - 1) h' _).trans ?_
  show carryN m c _ (0 + 1 * q.val) (0 + 1 * l.val) = _
  unfold carryN
  rw [if_pos (by omega)]
  have hg : grp ⟨t.val - 1, h'⟩ = grp t := Fin.ext (by show (t.val - 1) / 16 = t.val / 16; omega)
  rw [hg]
  have e : (15 - (t.val - 1) % 16) * 512 + (0 + 1 * q.val) = (15 - t.val % 16) * 512 + (512 + q.val) := by omega
  show En _ _ _ ((15 - (t.val - 1) % 16) * 512 + (0 + 1 * q.val)) _ = _
  rw [e, show 0 + 1 * l.val = l.val by omega]
theorem carriedR_B (c : Dev nD) (t : Fin cfg0.N) (h : ¬ t.val % 16 = 0) (h' : t.val - 1 < cfg0.N) :
    Carried m c t 1 (ldR (outsAt0 m c (t.val - 1) h').2.2.2.2) := by
  intro q l
  refine (carry_at c (t.val - 1) h' _).trans ?_
  show carryN m c _ (0 + 1 * q.val) (768 + 1 * l.val) = _
  unfold carryN
  rw [if_neg (by omega)]
  have hg : grp ⟨t.val - 1, h'⟩ = grp t := Fin.ext (by show (t.val - 1) / 16 = t.val / 16; omega)
  rw [hg]
  have e : (15 - (t.val - 1) % 16) * 512 + (0 + 1 * q.val) = (15 - t.val % 16) * 512 + (512 + q.val) := by omega
  show En _ _ _ ((15 - (t.val - 1) % 16) * 512 + (0 + 1 * q.val)) _ = _
  rw [e, show 768 + 1 * l.val - 768 = l.val by omega]

/-! ## Results 0 and 2 at a point -/

theorem out0_at (c : Dev nD) (t : Fin cfg0.N) (r : Fin 512) (d : Fin 1024) :
    (outsAt0 m c t.val t.isLt).1 (ix3 0 r d) = dh (kA m c) (grp t) (tok t r) d := by
  by_cases hc : t.val % 16 = 0
  · rw [outsAt0_A m c t hc]
    frame_open
    simp (disch := decide) only [↓ View.readCov_skip, ↓ View.readCov_cons_toLoadRect, ↓ View.readCov_fill]
    frame_out
    exact dh_pt (carriedL_A c t hc) (carriedR_A c t hc) r d
  · rw [outsAt0_B m c t hc]
    frame_out
    simp only [read_unread_whole]
    exact dh_pt (carriedL_B c t hc _) (carriedR_B c t hc _) r d

theorem out2_A (c : Dev nD) (t : Fin cfg0.N) (hc : t.val % 16 = 0) (l : Fin 704) (d : Fin 1024) :
    (outsAt0 m c t.val t.isLt).2.2.1 (ix3 0 l d) = 0 + ∑ r : Fin 512, fv (kA m c) (tok t r) (fcol (grp t) l) * do2 (kA m c) (tok t r) d := by
  rw [outsAt0_A m c t hc]
  frame_open
  simp (disch := decide) only [↓ View.readCov_skip, ↓ View.readCov_cons_toLoadRect, ↓ View.readCov_fill]
  frame_out
  refine (dwd_pt c t k0_pay5 l d).trans (congrArg (· + _) ?_)
  unfold k0_pay5
  pointwise
theorem out2_B (c : Dev nD) (t : Fin cfg0.N) (hc : ¬ t.val % 16 = 0) (h' : t.val - 1 < cfg0.N) (l : Fin 704) (d : Fin 1024) :
    (outsAt0 m c t.val t.isLt).2.2.1 (ix3 0 l d) = (outsAt0 m c (t.val - 1) h').2.2.1 (ix3 0 l d)
      + ∑ r : Fin 512, fv (kA m c) (tok t r) (fcol (grp t) l) * do2 (kA m c) (tok t r) d := by
  rw [outsAt0_B m c t hc]
  frame_out
  exact dwd_pt c t (outsAt0 m c (t.val - 1) h').2.2.1 l d

end Cert.KernelIdeal.Outs
-- ==== Proof.Sums.lean ====
module

public import proofs.«01_k».proof.Proof.Outs
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.KernelIdeal.Sums

open Cert.KernelIdeal Cert.KernelIdeal.Gen Cert.KernelIdeal.HostAt Cert.KernelIdeal.Blocks Cert.KernelIdeal.Point Cert.KernelIdeal.Outs Cert.FfnGrad

variable {m : (ℓ : Loc nD τ sig) → Buf (Elt Ideal) ℓ}

/-- A rectangle holds the indices it places. -/
theorem mem_emb {s : Shape} (r : Rect s) (x : r.shape.Idx) : r.emb x ∈ r.set := by
  rw [← Rect.map_emb_univ]
  exact Finset.mem_map_of_mem _ (Finset.mem_univ _)

/-- Where no piece of the first list reaches, the second is read. -/
theorem canon_append_off {s : Shape} {e : EltTy} (y : s.Idx) (L' : List (View.Piece (Elt Ideal) s e)) :
    ∀ L : List (View.Piece (Elt Ideal) s e), (∀ p ∈ L, y ∉ p.1.set) → View.canon (L ++ L') y = View.canon L' y
  | [], _ => rfl
  | p :: L, h => by
    rw [List.cons_append, View.canon_cons_of_not_mem p _ (h p List.mem_cons_self), canon_append_off y L' L fun q hq => h q (List.mem_cons_of_mem _ hq)]

/-- Stores that all agree with one function, over contents that agree with it elsewhere. -/
theorem read_writes_G {sig : RefSig} {κ : Kind} {sp : Space} {s : Shape} {e : EltTy} (v : View sig κ sp s e) (f : v.ty.Contents (Elt Ideal))
    (G : s.Idx → Elt Ideal e) (L : List (View.Piece (Elt Ideal) s e)) (hP : View.PiecesOf G L) (y : s.Idx)
    (ho : (∀ p ∈ L, y ∉ p.1.set) → v.read (Elt Ideal) f y = G y) : v.read (Elt Ideal) (v.writes (Elt Ideal) f L) y = G y := by
  by_cases hc : ∃ p ∈ L, y ∈ p.1.set
  · rw [View.read_writes_apply_eq_canon v f y L hc]
    have h := View.canon_append_of_piecesOf G [] L hP y hc
    rwa [List.append_nil] at h
  · have hn : ∀ p ∈ L, y ∉ p.1.set := fun p hp hy => hc ⟨p, hp, hy⟩
    rw [Outs.read_writes_off v f y L hn]
    exact ho hn

/-! ## Result 1 at a point -/

abbrev W13 : Shape := S2x1x1024x704
abbrev rU0 : Rect W13 := Rect.unit (![0, 0, 0, 0] : Fin 4 → Nat) (![1, 1, 1024, 704] : Fin 4 → Nat) inb_S2x1x1024x704_S1x1x1024x704_0_0_0_0
abbrev rU1 : Rect W13 := Rect.unit (![1, 0, 0, 0] : Fin 4 → Nat) (![1, 1, 1024, 704] : Fin 4 → Nat) inb_S2x1x1024x704_S1x1x1024x704_1_0_0_0

/-- What a point adds to the up projection's gradient. -/
def dwuT (m : (ℓ : Loc nD τ sig) → Buf (Elt Ideal) ℓ) (c : Dev nD) (t : Fin cfg0.N) (a : Fin 2) (k : Fin 1024) (l : Fin 704) : EReal :=
  ∑ r : Fin 512, aX1 m c (ix2 (tok t r) k) * dpre (kA m c) (tok t r) (col a (grp t) l)
def dwuG (m : (ℓ : Loc nD τ sig) → Buf (Elt Ideal) ℓ) (c : Dev nD) (t : Fin cfg0.N) (O : FVec Ideal W13 .f32) (y : W13.Idx) : EReal :=
  O y + dwuT m c t (y 0) (y 2) (y 3)

abbrev dwuP (m : (ℓ : Loc nD τ sig) → Buf (Elt Ideal) ℓ) (c : Dev nD) (t : Fin cfg0.N) (XL XR : FVec Ideal S8x768 .f32) (O : FVec Ideal W13 .f32) :
    List (View.Piece (Elt Ideal) W13 .f32) :=
  [⟨rU1, k0_pay1 (k0_pay43 (K16 m c t) (k0_pay17 (iblk m c 5 t)) (k0_pay34 (K16 m c t) XR) (k0_pay35 (k0_pay32 (K16 m c t) XR))
      (w0R m c t) (w1R m c t) (w2R m c t) (View.ld (Val := Elt Ideal) (S := W13) (e' := .f32) O rU1))⟩,
   ⟨rU0, k0_pay30 (k0_pay15 (K8 m c t) (K12 m c t)) (k0_pay17 (iblk m c 5 t)) (k0_pay21 (K8 m c t) (K12 m c t) XL) (k0_pay22 (K8 m c t) (K12 m c t) XL)
      (w0L m c t) (w1L m c t) (w2L m c t) (View.ld (Val := Elt Ideal) (S := W13) (e' := .f32) O rU0)⟩]

theorem embU0 (k : Fin 1024) (l : Fin 704) : rU0.emb (ix4 0 0 k l) = ix4 0 0 k l := by
  funext a
  apply Fin.ext
  rw [Rect.emb_apply]
  fin_cases a
  · rfl
  · rfl
  · show 0 + 1 * k.val = k.val
    omega
  · show 0 + 1 * l.val = l.val
    omega
theorem embU1 (k : Fin 1024) (l : Fin 704) : rU1.emb (ix4 0 0 k l) = ix4 1 0 k l := by
  funext a
  apply Fin.ext
  rw [Rect.emb_apply]
  fin_cases a
  · rfl
  · rfl
  · show 0 + 1 * k.val = k.val
    omega
  · show 0 + 1 * l.val = l.val
    omega

theorem dwu_pieces {c : Dev nD} {t : Fin cfg0.N} {XL XR : FVec Ideal S8x768 .f32} (hL : Carried m c t 0 XL) (hR : Carried m c t 1 XR)
    (O : FVec Ideal W13 .f32) : View.PiecesOf (Val := Elt Ideal) (dwuG m c t O) (dwuP m c t XL XR O) := by
  refine ⟨fun x => ?_, fun x => ?_, trivial⟩
  · idx_vars x
    obtain rfl : x0 = 0 := Subsingleton.elim _ _
    obtain rfl : x1 = 0 := Subsingleton.elim _ _
    refine (dwuR_pt hR _ x2 x3).trans ?_
    show O (rU1.emb (ix4 0 0 x2 x3)) + _ = dwuG m c t O (rU1.emb (ix4 0 0 x2 x3))
    rw [embU1]
    rfl
  · idx_vars x
    obtain rfl : x0 = 0 := Subsingleton.elim _ _
    obtain rfl : x1 = 0 := Subsingleton.elim _ _
    refine (dwuL_pt hL _ x2 x3).trans ?_
    show O (rU0.emb (ix4 0 0 x2 x3)) + _ = dwuG m c t O (rU0.emb (ix4 0 0 x2 x3))
    rw [embU0]
    rfl

theorem dwu_cover (c : Dev nD) (t : Fin cfg0.N) (XL XR : FVec Ideal S8x768 .f32) (O : FVec Ideal W13 .f32) (y : W13.Idx) :
    ∃ p ∈ dwuP m c t XL XR O, y ∈ p.1.set := by
  idx_vars y
  obtain rfl : y1 = 0 := Subsingleton.elim _ _
  rcases (show y0 = 0 ∨ y0 = 1 by omega) with rfl | rfl
  · exact ⟨_, List.mem_cons_of_mem _ List.mem_cons_self, by
      show ix4 0 0 y2 y3 ∈ rU0.set
      rw [← embU0]
      exact mem_emb rU0 _⟩
  · exact ⟨_, List.mem_cons_self, by
      show ix4 1 0 y2 y3 ∈ rU1.set
      rw [← embU1]
      exact mem_emb rU1 _⟩

theorem out1_A (c : Dev nD) (t : Fin cfg0.N) (hc : t.val % 16 = 0) (y : W13.Idx) :
    (outsAt0 m c t.val t.isLt).2.1 y = 0 + dwuT m c t (y 0) (y 2) (y 3) := by
  rw [outsAt0_A m c t hc]
  frame_open
  simp (disch := decide) only [↓ View.readCov_skip, ↓ View.readCov_cons_toLoadRect, ↓ View.readCov_fill]
  frame_out
  refine (View.canon_append_of_piecesOf (dwuG m c t k0_pay4) [_] (dwuP m c t _ _ k0_pay4) (dwu_pieces (carriedL_A c t hc) (carriedR_A c t hc) k0_pay4) y
    (dwu_cover c t _ _ _ y)).trans (congrArg (· + _) ?_)
  idx_vars y
  unfold k0_pay4
  pointwise

theorem out1_B (c : Dev nD) (t : Fin cfg0.N) (hc : ¬ t.val % 16 = 0) (h' : t.val - 1 < cfg0.N) (y : W13.Idx) :
    (outsAt0 m c t.val t.isLt).2.1 y = (outsAt0 m c (t.val - 1) h').2.1 y + dwuT m c t (y 0) (y 2) (y 3) := by
  rw [outsAt0_B m c t hc]
  frame_out
  simp only [read_unread_whole]
  exact View.canon_append_of_piecesOf (dwuG m c t (outsAt0 m c (t.val - 1) h').2.1) [] (dwuP m c t _ _ (outsAt0 m c (t.val - 1) h').2.1)
    (dwu_pieces (carriedL_B c t hc h') (carriedR_B c t hc h') _) y (dwu_cover c t _ _ _ y)

/-! ## Result 3 at a point -/

abbrev W15 : Shape := S2x1x8x768
abbrev rA00 : Rect W15 := Rect.unit (![0, 0, 0, 0] : Fin 4 → Nat) (![1, 1, 1, 768] : Fin 4 → Nat) inb_S2x1x8x768_S1x1x1x768_0_0_0_0
abbrev rA01 : Rect W15 := Rect.unit (![0, 0, 1, 0] : Fin 4 → Nat) (![1, 1, 1, 768] : Fin 4 → Nat) inb_S2x1x8x768_S1x1x1x768_0_0_1_0
abbrev rA02 : Rect W15 := Rect.unit (![0, 0, 2, 0] : Fin 4 → Nat) (![1, 1, 1, 768] : Fin 4 → Nat) inb_S2x1x8x768_S1x1x1x768_0_0_2_0
abbrev rA03 : Rect W15 := Rect.unit (![0, 0, 3, 0] : Fin 4 → Nat) (![1, 1, 1, 768] : Fin 4 → Nat) inb_S2x1x8x768_S1x1x1x768_0_0_3_0
abbrev rA10 : Rect W15 := Rect.unit (![1, 0, 0, 0] : Fin 4 → Nat) (![1, 1, 1, 768] : Fin 4 → Nat) inb_S2x1x8x768_S1x1x1x768_1_0_0_0
abbrev rA11 : Rect W15 := Rect.unit (![1, 0, 1, 0] : Fin 4 → Nat) (![1, 1, 1, 768] : Fin 4 → Nat) inb_S2x1x8x768_S1x1x1x768_1_0_1_0
abbrev rA12 : Rect W15 := Rect.unit (![1, 0, 2, 0] : Fin 4 → Nat) (![1, 1, 1, 768] : Fin 4 → Nat) inb_S2x1x8x768_S1x1x1x768_1_0_2_0
abbrev rA13 : Rect W15 := Rect.unit (![1, 0, 3, 0] : Fin 4 → Nat) (![1, 1, 1, 768] : Fin 4 → Nat) inb_S2x1x8x768_S1x1x1x768_1_0_3_0

/-- What a point adds to the small sums. -/
def accT (m : (ℓ : Loc nD τ sig) → Buf (Elt Ideal) ℓ) (c : Dev nD) (t : Fin cfg0.N) (a : Fin 2) (k : Fin 8) (l : Fin 768) : EReal :=
  if k.val < 3 then ∑ r : Fin 512, pc (nx (kA m c) (2 - k.val) (tok t r)) a (grp t) l.val * pc (up (kA m c) (tok t r)) a (grp t) l.val
  else if k.val = 3 then ∑ r : Fin 512, pc (dup (kA m c) (tok t r)) a (grp t) l.val else 0
def accG (m : (ℓ : Loc nD τ sig) → Buf (Elt Ideal) ℓ) (c : Dev nD) (t : Fin cfg0.N) (O : FVec Ideal W15 .f32) (y : W15.Idx) : EReal :=
  O y + accT m c t (y 0) (y 2) (y 3)

abbrev accL (m : (ℓ : Loc nD τ sig) → Buf (Elt Ideal) ℓ) (c : Dev nD) (t : Fin cfg0.N) (XL XR : FVec Ideal S8x768 .f32) (O : FVec Ideal W15 .f32) :
    List (View.Piece (Elt Ideal) W15 .f32) :=
  [⟨rA12, k0_pay41 (K16 m c t) (k0_pay36 (iblk m c 2 t)) (View.ld (Val := Elt Ideal) (S := W15) (e' := .f32) O rA12)⟩,
   ⟨rA11, k0_pay40 (k0_pay39 (k0_pay34 (K16 m c t) XR) (iblk m c 2 t) (View.ld (Val := Elt Ideal) (S := W15) (e' := .f32) O rA11))⟩,
   ⟨rA10, k0_pay38 (k0_pay32 (K16 m c t) XR) (iblk m c 2 t) (View.ld (Val := Elt Ideal) (S := W15) (e' := .f32) O rA10)⟩,
   ⟨rA13, k0_pay37 (K16 m c t) (View.ld (Val := Elt Ideal) (S := W15) (e' := .f32) O rA13)⟩,
   ⟨rA02, k0_pay28 (k0_pay15 (K8 m c t) (K12 m c t)) (k0_pay23 (iblk m c 1 t)) (View.ld (Val := Elt Ideal) (S := W15) (e' := .f32) O rA02)⟩,
   ⟨rA01, k0_pay27 (k0_pay21 (K8 m c t) (K12 m c t) XL) (k0_pay23 (iblk m c 1 t)) (View.ld (Val := Elt Ideal) (S := W15) (e' := .f32) O rA01)⟩,
   ⟨rA00, k0_pay26 (k0_pay22 (K8 m c t) (K12 m c t) XL) (k0_pay23 (iblk m c 1 t)) (View.ld (Val := Elt Ideal) (S := W15) (e' := .f32) O rA00)⟩,
   ⟨rA03, k0_pay25 (k0_pay24 (K8 m c t) (K12 m c t) (View.ld (Val := Elt Ideal) (S := W15) (e' := .f32) O rA03))⟩]

theorem embA00 (l : Fin 768) : rA00.emb (ix4 0 0 0 l) = ix4 0 0 0 l := by
  funext a
  apply Fin.ext
  rw [Rect.emb_apply]
  fin_cases a
  · rfl
  · rfl
  · rfl
  · show 0 + 1 * l.val = l.val
    omega
theorem embA01 (l : Fin 768) : rA01.emb (ix4 0 0 0 l) = ix4 0 0 1 l := by
  funext a
  apply Fin.ext
  rw [Rect.emb_apply]
  fin_cases a
  · rfl
  · rfl
  · rfl
  · show 0 + 1 * l.val = l.val
    omega
theorem embA02 (l : Fin 768) : rA02.emb (ix4 0 0 0 l) = ix4 0 0 2 l := by
  funext a
  apply Fin.ext
  rw [Rect.emb_apply]
  fin_cases a
  · rfl
  · rfl
  · rfl
  · show 0 + 1 * l.val = l.val
    omega
theorem embA03 (l : Fin 768) : rA03.emb (ix4 0 0 0 l) = ix4 0 0 3 l := by
  funext a
  apply Fin.ext
  rw [Rect.emb_apply]
  fin_cases a
  · rfl
  · rfl
  · rfl
  · show 0 + 1 * l.val = l.val
    omega
theorem embA10 (l : Fin 768) : rA10.emb (ix4 0 0 0 l) = ix4 1 0 0 l := by
  funext a
  apply Fin.ext
  rw [Rect.emb_apply]
  fin_cases a
  · rfl
  · rfl
  · rfl
  · show 0 + 1 * l.val = l.val
    omega
theorem embA11 (l : Fin 768) : rA11.emb (ix4 0 0 0 l) = ix4 1 0 1 l := by
  funext a
  apply Fin.ext
  rw [Rect.emb_apply]
  fin_cases a
  · rfl
  · rfl
  · rfl
  · show 0 + 1 * l.val = l.val
    omega
theorem embA12 (l : Fin 768) : rA12.emb (ix4 0 0 0 l) = ix4 1 0 2 l := by
  funext a
  apply Fin.ext
  rw [Rect.emb_apply]
  fin_cases a
  · rfl
  · rfl
  · rfl
  · show 0 + 1 * l.val = l.val
    omega
theorem embA13 (l : Fin 768) : rA13.emb (ix4 0 0 0 l) = ix4 1 0 3 l := by
  funext a
  apply Fin.ext
  rw [Rect.emb_apply]
  fin_cases a
  · rfl
  · rfl
  · rfl
  · show 0 + 1 * l.val = l.val
    omega

theorem p25 (A B : FVec Ideal S512x768 .f32) (o : FVec Ideal S1x1x1x768 .f32) : k0_pay25 (k0_pay24 A B o) = k0_pay37 (k0_pay15 A B) o := rfl
theorem p38 (E : FVec Ideal S520x768 .f32) (U : Vec Ideal S512x768 .bf16) (o : FVec Ideal S1x1x1x768 .f32) :
    k0_pay38 E U o = k0_pay26 (k0_pay35 E) (k0_pay36 U) o := rfl
theorem p40 (A : FVec Ideal S512x768 .f32) (U : Vec Ideal S512x768 .bf16) (o : FVec Ideal S1x1x1x768 .f32) :
    k0_pay40 (k0_pay39 A U o) = k0_pay26 A (k0_pay36 U) o := rfl

/-- The next token's gradient none further is the token's own. -/
theorem nx0 (A : Args) (s : Fin 8192) : nx A 0 s = dup A s := by
  funext n
  unfold nx
  exact dif_pos s.isLt

theorem acc_pieces {c : Dev nD} {t : Fin cfg0.N} {XL XR : FVec Ideal S8x768 .f32} (hL : Carried m c t 0 XL) (hR : Carried m c t 1 XR)
    (O : FVec Ideal W15 .f32) : View.PiecesOf (Val := Elt Ideal) (accG m c t O) (accL m c t XL XR O) := by
  refine ⟨fun x => ?_, fun x => ?_, fun x => ?_, fun x => ?_, fun x => ?_, fun x => ?_, fun x => ?_, fun x => ?_, trivial⟩
  · idx_vars x
    obtain rfl : x0 = 0 := Subsingleton.elim _ _
    obtain rfl : x1 = 0 := Subsingleton.elim _ _
    obtain rfl : x2 = 0 := Subsingleton.elim _ _
    refine ((congrFun (p41 _ _ _) _).trans (row_pt (k16_at m c t) (k36_at c t) _ x3)).trans ?_
    show O (rA12.emb (ix4 0 0 0 x3)) + _ = accG m c t O (rA12.emb (ix4 0 0 0 x3))
    rw [embA12]
    show _ = _ + accT m c t 1 2 x3
    simp only [← nx0]
    rfl
  · idx_vars x
    obtain rfl : x0 = 0 := Subsingleton.elim _ _
    obtain rfl : x1 = 0 := Subsingleton.elim _ _
    obtain rfl : x2 = 0 := Subsingleton.elim _ _
    refine ((congrFun (p40 _ _ _) _).trans (row_pt (d1_at (k16_at m c t) hR) (k36_at c t) _ x3)).trans ?_
    show O (rA11.emb (ix4 0 0 0 x3)) + _ = accG m c t O (rA11.emb (ix4 0 0 0 x3))
    rw [embA11]
    show _ = _ + accT m c t 1 1 x3
    skip
    rfl
  · idx_vars x
    obtain rfl : x0 = 0 := Subsingleton.elim _ _
    obtain rfl : x1 = 0 := Subsingleton.elim _ _
    obtain rfl : x2 = 0 := Subsingleton.elim _ _
    refine ((congrFun (p38 _ _ _) _).trans (row_pt (d2_at (k16_at m c t) hR) (k36_at c t) _ x3)).trans ?_
    show O (rA10.emb (ix4 0 0 0 x3)) + _ = accG m c t O (rA10.emb (ix4 0 0 0 x3))
    rw [embA10]
    show _ = _ + accT m c t 1 0 x3
    skip
    rfl
  · idx_vars x
    obtain rfl : x0 = 0 := Subsingleton.elim _ _
    obtain rfl : x1 = 0 := Subsingleton.elim _ _
    obtain rfl : x2 = 0 := Subsingleton.elim _ _
    refine (bias_pt (k16_at m c t) _ x3).trans ?_
    show O (rA13.emb (ix4 0 0 0 x3)) + _ = accG m c t O (rA13.emb (ix4 0 0 0 x3))
    rw [embA13]
    show _ = _ + accT m c t 1 3 x3
    skip
    rfl
  · idx_vars x
    obtain rfl : x0 = 0 := Subsingleton.elim _ _
    obtain rfl : x1 = 0 := Subsingleton.elim _ _
    obtain rfl : x2 = 0 := Subsingleton.elim _ _
    refine ((congrFun (p28 _ _ _) _).trans (row_pt (k15_at m c t) (k23_at c t) _ x3)).trans ?_
    show O (rA02.emb (ix4 0 0 0 x3)) + _ = accG m c t O (rA02.emb (ix4 0 0 0 x3))
    rw [embA02]
    show _ = _ + accT m c t 0 2 x3
    simp only [← nx0]
    rfl
  · idx_vars x
    obtain rfl : x0 = 0 := Subsingleton.elim _ _
    obtain rfl : x1 = 0 := Subsingleton.elim _ _
    obtain rfl : x2 = 0 := Subsingleton.elim _ _
    refine ((congrFun (p27 _ _ _) _).trans (row_pt (d1_at (k15_at m c t) hL) (k23_at c t) _ x3)).trans ?_
    show O (rA01.emb (ix4 0 0 0 x3)) + _ = accG m c t O (rA01.emb (ix4 0 0 0 x3))
    rw [embA01]
    show _ = _ + accT m c t 0 1 x3
    skip
    rfl
  · idx_vars x
    obtain rfl : x0 = 0 := Subsingleton.elim _ _
    obtain rfl : x1 = 0 := Subsingleton.elim _ _
    obtain rfl : x2 = 0 := Subsingleton.elim _ _
    refine (row_pt (d2_at (k15_at m c t) hL) (k23_at c t) _ x3).trans ?_
    show O (rA00.emb (ix4 0 0 0 x3)) + _ = accG m c t O (rA00.emb (ix4 0 0 0 x3))
    rw [embA00]
    show _ = _ + accT m c t 0 0 x3
    skip
    rfl
  · idx_vars x
    obtain rfl : x0 = 0 := Subsingleton.elim _ _
    obtain rfl : x1 = 0 := Subsingleton.elim _ _
    obtain rfl : x2 = 0 := Subsingleton.elim _ _
    refine ((congrFun (p25 _ _ _) _).trans (bias_pt (k15_at m c t) _ x3)).trans ?_
    show O (rA03.emb (ix4 0 0 0 x3)) + _ = accG m c t O (rA03.emb (ix4 0 0 0 x3))
    rw [embA03]
    show _ = _ + accT m c t 0 3 x3
    skip
    rfl

theorem acc_cover (c : Dev nD) (t : Fin cfg0.N) (XL XR : FVec Ideal S8x768 .f32) (O : FVec Ideal W15 .f32) (a : Fin 2) (k : Fin 8) (hk : k.val < 4) (l : Fin 768) :
    ∃ p ∈ accL m c t XL XR O, ix4 a 0 k l ∈ p.1.set := by
  rcases (show a = 0 ∨ a = 1 by omega) with rfl | rfl <;> rcases (show k = 0 ∨ k = 1 ∨ k = 2 ∨ k = 3 by omega) with rfl | rfl | rfl | rfl
  · exact ⟨_, List.mem_cons_of_mem _ <| List.mem_cons_of_mem _ <| List.mem_cons_of_mem _ <| List.mem_cons_of_mem _ <| List.mem_cons_of_mem _ <| List.mem_cons_of_mem _ <| List.mem_cons_self, embA00 l ▸ mem_emb rA00 _⟩
  · exact ⟨_, List.mem_cons_of_mem _ <| List.mem_cons_of_mem _ <| List.mem_cons_of_mem _ <| List.mem_cons_of_mem _ <| List.mem_cons_of_mem _ <| List.mem_cons_self, embA01 l ▸ mem_emb rA01 _⟩
  · exact ⟨_, List.mem_cons_of_mem _ <| List.mem_cons_of_mem _ <| List.mem_cons_of_mem _ <| List.mem_cons_of_mem _ <| List.mem_cons_self, embA02 l ▸ mem_emb rA02 _⟩
  · exact ⟨_, List.mem_cons_of_mem _ <| List.mem_cons_of_mem _ <| List.mem_cons_of_mem _ <| List.mem_cons_of_mem _ <| List.mem_cons_of_mem _ <| List.mem_cons_of_mem _ <| List.mem_cons_of_mem _ <| List.mem_cons_self, embA03 l ▸ mem_emb rA03 _⟩
  · exact ⟨_, List.mem_cons_of_mem _ <| List.mem_cons_of_mem _ <| List.mem_cons_self, embA10 l ▸ mem_emb rA10 _⟩
  · exact ⟨_, List.mem_cons_of_mem _ <| List.mem_cons_self, embA11 l ▸ mem_emb rA11 _⟩
  · exact ⟨_, List.mem_cons_self, embA12 l ▸ mem_emb rA12 _⟩
  · exact ⟨_, List.mem_cons_of_mem _ <| List.mem_cons_of_mem _ <| List.mem_cons_of_mem _ <| List.mem_cons_self, embA13 l ▸ mem_emb rA13 _⟩

theorem acc_off {c : Dev nD} {t : Fin cfg0.N} {XL XR : FVec Ideal S8x768 .f32} {O : FVec Ideal W15 .f32} {y : W15.Idx}
    (h : ∀ p ∈ accL m c t XL XR O, y ∉ p.1.set) : accT m c t (y 0) (y 2) (y 3) = 0 := by
  idx_vars y
  obtain rfl : y1 = 0 := Subsingleton.elim _ _
  have hk : ¬ y2.val < 4 := fun hk => by
    obtain ⟨p, hp, hy⟩ := acc_cover c t XL XR O y0 y2 hk y3
    exact h p hp hy
  show accT m c t y0 y2 y3 = 0
  unfold accT
  rw [if_neg (by omega), if_neg (by omega)]

theorem acc_zero (y : W15.Idx) : (k0_pay6 (F := Ideal) : FVec Ideal W15 .f32) y = 0 := by
  idx_vars y
  unfold k0_pay6
  pointwise

theorem out3_A (c : Dev nD) (t : Fin cfg0.N) (hc : t.val % 16 = 0) (y : W15.Idx) :
    (outsAt0 m c t.val t.isLt).2.2.2.1 y = 0 + accT m c t (y 0) (y 2) (y 3) := by
  rw [outsAt0_A m c t hc]
  frame_open
  simp (disch := decide) only [↓ View.readCov_skip, ↓ View.readCov_cons_toLoadRect, ↓ View.readCov_fill]
  frame_out
  have hP := acc_pieces (carriedL_A (m := m) c t hc) (carriedR_A (m := m) c t hc) k0_pay6
  by_cases ho : ∃ p ∈ accL m c t (ldL k0_pay3) (ldR k0_pay3) k0_pay6, y ∈ p.1.set
  · exact (View.canon_append_of_piecesOf (accG m c t k0_pay6) [_] (accL m c t (ldL k0_pay3) (ldR k0_pay3) k0_pay6) hP y ho).trans
      (congrArg (· + _) (acc_zero y))
  · have hn : ∀ p ∈ accL m c t (ldL k0_pay3) (ldR k0_pay3) k0_pay6, y ∉ p.1.set := fun p hp hy => ho ⟨p, hp, hy⟩
    rw [acc_off hn, add_zero]
    refine (canon_append_off y [_] (accL m c t (ldL k0_pay3) (ldR k0_pay3) k0_pay6) hn).trans ?_
    exact View.canon_append_of_piecesOf (fun _ => 0) []
      ([⟨Rect.unit (![0, 0, 0, 0] : Fin 4 → Nat) (![2, 1, 8, 768] : Fin 4 → Nat) inb_S2x1x8x768_S2x1x8x768_0_0_0_0, k0_pay6 (F := Ideal)⟩] :
        List (View.Piece (Elt Ideal) W15 .f32))
      ⟨fun x => acc_zero x, trivial⟩ y ⟨_, List.mem_cons_self, View.mem_set_unit_zero (by decide) inb_S2x1x8x768_S2x1x8x768_0_0_0_0 y⟩

theorem out3_B (c : Dev nD) (t : Fin cfg0.N) (hc : ¬ t.val % 16 = 0) (h' : t.val - 1 < cfg0.N) (y : W15.Idx) :
    (outsAt0 m c t.val t.isLt).2.2.2.1 y = (outsAt0 m c (t.val - 1) h').2.2.2.1 y + accT m c t (y 0) (y 2) (y 3) := by
  rw [outsAt0_B m c t hc]
  frame_out
  simp only [read_unread_whole]
  have hP := acc_pieces (carriedL_B (m := m) c t hc h') (carriedR_B (m := m) c t hc h') (outsAt0 m c (t.val - 1) h').2.2.2.1
  refine read_writes_G _ _ (accG m c t (outsAt0 m c (t.val - 1) h').2.2.2.1) (accL m c t _ _ (outsAt0 m c (t.val - 1) h').2.2.2.1) hP y fun ho => ?_
  refine Eq.trans ?_ (congrArg ((outsAt0 m c (t.val - 1) h').2.2.2.1 y + ·) (acc_off ho).symm)
  rw [add_zero]
  exact congrFun (Memref.IsWhole.read_unread _ _) y

end Cert.KernelIdeal.Sums
-- ==== Proof.Final.lean ====
module

public import proofs.«01_k».proof.Proof.Sums
public import Idealize.ShloMosaic.Lib.Pipeline.ReadBack

@[expose] public section

set_option maxRecDepth 16384
noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.HostAt Cert.KernelIdeal.Blocks Cert.KernelIdeal.Point Cert.KernelIdeal.Outs Cert.KernelIdeal.Sums Cert.FfnGrad

variable {m : (ℓ : Loc nD τ sig) → Buf (Elt Ideal) ℓ}

/-- The sixteen tiles' sums, last tile first, are the sum over the tokens. -/
theorem fold_tok (G : Fin 8192 → EReal) (p : Fin 16 → Fin cfg0.N) (hp : ∀ s, (p s).val % 16 = s.val) :
    ∑ s : Fin 16, ∑ r : Fin 512, G (tok (p s) r) = ∑ s : Fin 8192, G s := by
  let f : ℕ → EReal := fun i => if h : i < 8192 then G ⟨i, h⟩ else 0
  have e : ∀ s : Fin 8192, G s = f s.val := fun s => by
    show G s = if h : s.val < 8192 then G ⟨s.val, h⟩ else 0
    rw [dif_pos s.isLt]
  have h1 : ∀ s : Fin 16, ∑ r : Fin 512, G (tok (p s) r) = ∑ r : Fin 512, f ((Fin.revPerm s).val * 512 + r.val) := fun s => by
    refine Finset.sum_congr rfl fun r _ => (e _).trans (congrArg f ?_)
    have h := hp s
    show (15 - (p s).val % 16) * 512 + r.val = (Fin.rev s).val * 512 + r.val
    rw [Fin.val_rev, h]
    omega
  rw [Finset.sum_congr rfl fun s _ => h1 s, Equiv.sum_comp Fin.revPerm (fun s => ∑ r : Fin 512, f (s.val * 512 + r.val)),
    Fin.sum_univ_univ_mul_add 16 512 f]
  exact Finset.sum_congr rfl fun s _ => (e s).symm

/-- The small sums, with the padding columns inside the sums. -/
theorem accP_eq (A : Args) (a : Fin 2) (j : Fin 4) (r l : ℕ) :
    accP A a j r l = if r < 3 then ∑ s : Fin 8192, pc (nx A (2 - r) s) a j l * pc (up A s) a j l
      else if r = 3 then ∑ s : Fin 8192, pc (dup A s) a j l else 0 := by
  unfold accP acc pc
  by_cases h : l < 704
  · simp only [dif_pos h]
  · simp only [dif_neg h, mul_zero, Finset.sum_const_zero, ite_self]

theorem grp_run (t : Fin cfg0.N) (s : Fin 16) (h : 16 * (t.val / 16) + s.val < cfg0.N) : grp ⟨16 * (t.val / 16) + s.val, h⟩ = grp t :=
  Fin.ext (by show (16 * (t.val / 16) + s.val) / 16 = t.val / 16; omega)

/-! ## Result 0 -/

variable (m)

/-- The four groups' gradients of the input. -/
def R0 (c : Dev nD) (y : S4x8192x1024.Idx) : EReal := dh (kA m c) (y 0) (y 1) (y 2)
/-- The gradient of the up projection's weights. -/
def R1 (c : Dev nD) (y : S2x4x1024x704.Idx) : EReal := dwu (kA m c) (y 0) (y 1) (y 2) (y 3)
/-- The gradient of the down projection's weights. -/
def R2 (c : Dev nD) (y : S4x704x1024.Idx) : EReal := dwd (kA m c) (y 0) (y 1) (y 2)
/-- The gradients of the convolution's weights and bias. -/
def R3 (c : Dev nD) (y : S2x4x8x768.Idx) : EReal := accP (kA m c) (y 0) (y 1) (y 2).val (y 3).val

variable {m}

theorem final0 (c : Dev nD) : (dats m 0 c).arrAt 12 (cfgs 0).N = R0 m c := by
  refine (dats m 0 c).arrAt_eq_of_covers 12 _ (by decide +kernel) fun t hf y => ?_
  blk_simp
  rw [after0_12]
  idx_vars y
  obtain rfl : y0 = 0 := Subsingleton.elim _ _
  refine (out0_at c t y1 y2).trans ?_
  have E : (((cfg0.win 12).blk t).view.emb (ix3 0 y1 y2) : S4x8192x1024.Idx) = ix3 (grp t) (tok t y1) y2 := by
    blk_ext [idx t, grp, tok]
  refine Eq.trans ?_ (congrArg (R0 m c) E.symm)
  rfl

theorem final2 (c : Dev nD) : (dats m 0 c).arrAt 14 (cfgs 0).N = R2 m c := by
  refine (dats m 0 c).arrAt_eq_of_covers 14 _ (by decide +kernel) fun t hf y => ?_
  blk_simp
  rw [after0_14]
  refine (Pipeline.eq_sum_fin_of_reset_step_apply_of_flush (fun n h => (outsAt0 m c n h).2.2.1) 16 (fun _ => 0)
    (fun t y => ∑ r : Fin 512, fv (kA m c) (tok t r) (fcol (grp t) (y 1)) * do2 (kA m c) (tok t r) (y 2))
    (fun t h y => ?_) (fun t h y => ?_) t ((flush0_14 t).mp hf) y).trans ?_
  · idx_vars y
    obtain rfl : y0 = 0 := Subsingleton.elim _ _
    exact out2_A c t h y1 y2
  · idx_vars y
    obtain rfl : y0 = 0 := Subsingleton.elim _ _
    exact out2_B c t h _ y1 y2
  · rw [zero_add]
    simp only [grp_run]
    idx_vars y
    obtain rfl : y0 = 0 := Subsingleton.elim _ _
    have E : (((cfg0.win 14).blk t).view.emb (ix3 0 y1 y2) : S4x704x1024.Idx) = ix3 (grp t) y1 y2 := by
      blk_ext [idx t, grp]
    refine Eq.trans ?_ (congrArg (R2 m c) E.symm)
    exact fold_tok (fun s => fv (kA m c) s (fcol (grp t) y1) * do2 (kA m c) s y2) _ (fun s => by show (16 * (t.val / 16) + s.val) % 16 = s.val; omega)

theorem final1 (c : Dev nD) : (dats m 0 c).arrAt 13 (cfgs 0).N = R1 m c := by
  refine (dats m 0 c).arrAt_eq_of_covers 13 _ (by decide +kernel) fun t hf y => ?_
  blk_simp
  rw [after0_13]
  refine (Pipeline.eq_sum_fin_of_reset_step_apply_of_flush (fun n h => (outsAt0 m c n h).2.1) 16 (fun _ => 0)
    (fun t y => dwuT m c t (y 0) (y 2) (y 3)) (fun t h y => out1_A c t h y) (fun t h y => out1_B c t h _ y) t ((flush0_13 t).mp hf) y).trans ?_
  rw [zero_add]
  unfold dwuT
  simp only [grp_run]
  idx_vars y
  obtain rfl : y1 = 0 := Subsingleton.elim _ _
  have E : (((cfg0.win 13).blk t).view.emb (ix4 y0 0 y2 y3) : S2x4x1024x704.Idx) = ix4 y0 (grp t) y2 y3 := by
    blk_ext [idx t, grp]
  refine Eq.trans ?_ (congrArg (R1 m c) E.symm)
  exact fold_tok (fun s => aX1 m c (ix2 s y2) * dpre (kA m c) s (col y0 (grp t) y3)) _ (fun s => by show (16 * (t.val / 16) + s.val) % 16 = s.val; omega)

theorem final3 (c : Dev nD) : (dats m 0 c).arrAt 15 (cfgs 0).N = R3 m c := by
  refine (dats m 0 c).arrAt_eq_of_covers 15 _ (by decide +kernel) fun t hf y => ?_
  blk_simp
  rw [after0_15]
  refine (Pipeline.eq_sum_fin_of_reset_step_apply_of_flush (fun n h => (outsAt0 m c n h).2.2.2.1) 16 (fun _ => 0)
    (fun t y => accT m c t (y 0) (y 2) (y 3)) (fun t h y => out3_A c t h y) (fun t h y => out3_B c t h _ y) t ((flush0_15 t).mp hf) y).trans ?_
  rw [zero_add]
  unfold accT
  simp only [grp_run]
  idx_vars y
  obtain rfl : y1 = 0 := Subsingleton.elim _ _
  have E : (((cfg0.win 15).blk t).view.emb (ix4 y0 0 y2 y3) : S2x4x8x768.Idx) = ix4 y0 (grp t) y2 y3 := by
    blk_ext [idx t, grp]
  refine Eq.trans ?_ (congrArg (R3 m c) E.symm)
  have hp : ∀ s : Fin 16, (16 * (t.val / 16) + s.val) % 16 = s.val := fun s => by omega
  show _ = accP (kA m c) y0 (grp t) y2.val y3.val
  rw [accP_eq]
  show (∑ x : Fin 16, if y2.val < 3 then _ else if y2.val = 3 then _ else (0 : EReal)) = _
  by_cases h3 : y2.val < 3
  · simp only [if_pos h3]
    exact fold_tok (fun s => pc (nx (kA m c) (2 - y2.val) s) y0 (grp t) y3.val * pc (up (kA m c) s) y0 (grp t) y3.val) _ hp
  · by_cases h4 : y2.val = 3
    · simp only [if_neg h3, if_pos h4]
      exact fold_tok (fun s => pc (dup (kA m c) s) y0 (grp t) y3.val) _ hp
    · simp only [if_neg h3, if_neg h4, Finset.sum_const_zero]

end Cert.KernelIdeal.Final
-- ==== Proof.Pre.lean ====
module

public import proofs.«01_k».proof.Defs
public import proofs.«01_k».proof.Proof.Gen.Pre_finite
public import proofs.«01_k».proof.Proof.Spec
public import Idealize.ShloMosaic.Lib.ReduceAll
public import Idealize.ShloMosaic.Lib.Affine

@[expose] public section

set_option maxRecDepth 16384
noncomputable section

open Idealize.ShloMosaic

namespace Cert.PreAt

open Cert.FfnGrad

theorem top_eq : Ideal.ofBits .f32 0x7F800000#32 = ⊤ := by
  simp [Ideal.ofBits, Ideal.ieee]
theorem bot_eq : Ideal.ofBits .f32 0xFF800000#32 = ⊥ := by
  simp [Ideal.ofBits, Ideal.ieee]

/-- A value strictly between the infinities is a real number. -/
theorem real_of (x : EReal) (h1 : x < ⊤) (h2 : ⊥ < x) : Rl x :=
  ⟨x.toReal, (EReal.coe_toReal h1.ne h2.ne').symm⟩

instance : Subsingleton (Cert.Pre_finite.S_).Idx := ⟨fun a b => funext fun i => i.elim0⟩

theorem bool_of {p : Prop} [Decidable p] (h : BitVec.ofBool (decide p) = 1#1) : p := by
  by_contra hp
  rw [decide_eq_false hp] at h
  exact absurd h (by decide)

open Cert.Pre_finite in
/-- The precondition's test of one array gives that its elements are real. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (andi (cmpf .olt x (broadcastInDim s ![] hb (constant S_ .f32 0x7F800000#32)))
      (cmpf .ogt x (broadcastInDim s ![] hb (constant S_ .f32 0xFF800000#32)))) (constantI S_ 1 1#1) hr hu j = 1#1) (i : s.Idx) : Rl (x i) := by
  have h := Host.reduce_andi_all _ _ hr hu j e i
  have h' : IntOp.andi (Ideal.cmp .olt (x i) (Ideal.ofBits .f32 0x7F800000#32)) (Ideal.cmp .ogt (x i) (Ideal.ofBits .f32 0xFF800000#32)) = 1#1 := h
  rw [IntOp.andi_eq_one, top_eq, bot_eq] at h'
  simp [Ideal.cmp] at h'
  exact real_of _ (bool_of h'.1) (bool_of h'.2)

theorem and_split {a b : IVec Cert.Pre_finite.S_ 1} {j : Cert.Pre_finite.S_.Idx} (h : andi a b j = 1#1) : a j = 1#1 ∧ b j = 1#1 :=
  IntOp.andi_eq_one.mp h

/-- The precondition says that every argument holds real numbers only. -/
theorem real_args (x0 x1 : FVec Ideal Cert.Pre_finite.S8192x1024 .f32) (x2 : FVec Ideal Cert.Pre_finite.S1x1024 .f32)
    (x3 : FVec Ideal Cert.Pre_finite.S1024x5632 .f32) (x4 : FVec Ideal Cert.Pre_finite.S3x5632 .f32) (x5 : FVec Ideal Cert.Pre_finite.S1x5632 .f32)
    (x6 : FVec Ideal Cert.Pre_finite.S2816x1024 .f32) (h : Cert.Pre_finite.fn (F := Ideal) x0 x1 x2 x3 x4 x5 x6 = fun _ => 1#1) :
    Real ⟨x0, x1, x2, x3, x4, x5, x6⟩ := by
  have e := congrFun h (fun i => i.elim0)
  dsimp only [Cert.Pre_finite.fn, Cert.Pre_finite.fn_part1, Cert.Pre_finite.fn_part2] at e
  obtain ⟨e, e6⟩ := and_split e
  obtain ⟨e, e5⟩ := and_split e
  obtain ⟨e, e4⟩ := and_split e
  obtain ⟨e, e3⟩ := and_split e
  obtain ⟨e, e2⟩ := and_split e
  obtain ⟨e0, e1⟩ := and_split e
  exact ⟨all_real x0 _ _ _ _ e0, all_real x1 _ _ _ _ e1, all_real x2 _ _ _ _ e2, all_real x3 _ _ _ _ e3, all_real x4 _ _ _ _ e4,
    all_real x5 _ _ _ _ e5, all_real x6 _ _ _ _ e6⟩

end Cert.PreAt
-- ==== Proof.Meet.lean ====
module

public import proofs.«01_k».proof.Proof.Ref
public import proofs.«01_k».proof.Proof.Final
public import proofs.«01_k».proof.Proof.Pre
public import proofs.«01_k».proof.Proof.Gen.ReferenceIdeal.Run

@[expose] public section

set_option maxRecDepth 16384
noncomputable section

/-! The kernel and the reference end with the same four arrays. -/
namespace Cert.Meet

open Idealize.ShloMosaic Idealize.ShloMosaic.TcCoe Idealize.SL.Sem
open Cert.FfnGrad Cert.ReferenceIdeal.Read Cert.ReferenceIdeal.At
open Cert.ReferenceIdeal (S8192x1024 S1x1024 S1024x5632 S3x5632 S1x5632 S2816x1024 S4x8192x1024 S2x4x1024x704 S4x704x1024 S2x4x8x768)

variable {x0 x1 z0 z1 : FVec Ideal S8192x1024 .f32} {x2 z2 : FVec Ideal S1x1024 .f32} {x3 z3 : FVec Ideal S1024x5632 .f32}
  {x4 z4 : FVec Ideal S3x5632 .f32} {x5 z5 : FVec Ideal S1x5632 .f32} {x6 z6 : FVec Ideal S2816x1024 .f32}

theorem ref74 (hA : Real ⟨x0, x1, x2, x3, x4, x5, x6⟩) (e0 : z0 = x0) (e1 : z1 = x1) (e2 : z2 = x2) (e3 : z3 = x3) (e4 : z4 = x4) (e5 : z5 = x5) (e6 : z6 = x6) :
    val_main_v74 (F := Ideal) z0 z1 z2 z3 z4 z5 z6 = fun y : S4x8192x1024.Idx => dh (ra x0 x1 x2 x3 x4 x5 x6) (y 0) (y 1) (y 2) := by
  subst e0; subst e1; subst e2; subst e3; subst e4; subst e5; subst e6
  funext y
  idx_vars y
  exact v74_at z0 z1 z2 z3 z4 z5 z6 hA _ _ _

theorem ref84 (hA : Real ⟨x0, x1, x2, x3, x4, x5, x6⟩) (e0 : z0 = x0) (e1 : z1 = x1) (e2 : z2 = x2) (e3 : z3 = x3) (e4 : z4 = x4) (e5 : z5 = x5) (e6 : z6 = x6) :
    val_main_v84 (F := Ideal) z0 z1 z2 z3 z4 z5 z6 = fun y : S2x4x1024x704.Idx => dwu (ra x0 x1 x2 x3 x4 x5 x6) (y 0) (y 1) (y 2) (y 3) := by
  subst e0; subst e1; subst e2; subst e3; subst e4; subst e5; subst e6
  funext y
  idx_vars y
  exact v84_at z0 z1 z2 z3 z4 z5 z6 hA _ _ _ _

theorem ref85 (hA : Real ⟨x0, x1, x2, x3, x4, x5, x6⟩) (e0 : z0 = x0) (e1 : z1 = x1) (e2 : z2 = x2) (e3 : z3 = x3) (e4 : z4 = x4) (e5 : z5 = x5) (e6 : z6 = x6) :
    val_main_v85 (F := Ideal) z0 z1 z2 z3 z4 z5 = fun y : S4x704x1024.Idx => dwd (ra x0 x1 x2 x3 x4 x5 x6) (y 0) (y 1) (y 2) := by
  subst e0; subst e1; subst e2; subst e3; subst e4; subst e5; subst e6
  funext y
  idx_vars y
  exact v85_at z0 z1 z2 z3 z4 z5 z6 _ _ _

theorem ref82 (hA : Real ⟨x0, x1, x2, x3, x4, x5, x6⟩) (e0 : z0 = x0) (e1 : z1 = x1) (e2 : z2 = x2) (e3 : z3 = x3) (e4 : z4 = x4) (e5 : z5 = x5) (e6 : z6 = x6) :
    val_main_v82 (F := Ideal) z0 z1 z2 z3 z4 z5 z6 = fun y : S2x4x8x768.Idx => accP (ra x0 x1 x2 x3 x4 x5 x6) (y 0) (y 1) (y 2).val (y 3).val := by
  subst e0; subst e1; subst e2; subst e3; subst e4; subst e5; subst e6
  funext y
  idx_vars y
  exact v82_at z0 z1 z2 z3 z4 z5 z6 hA _ _ _ _

end Cert.Meet
-- ==== Proof.DwIn.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Pipeline.ReadBack

/-! # The gradient of the input projection's weights, in eight slots of 256 columns: four tiles of 2048 tokens, summed in place -/

@[expose] public section

set_option maxRecDepth 16384
noncomputable section

open Idealize.ShloMosaic Idealize.ShloMosaic.TcCoe Idealize.SL.Sem
open Idealize.ShloMosaic.Pipeline (Dat)

namespace Cert.DwIn

section
open Cert.Kernel2Ideal Cert.Kernel2Ideal.Gen

variable (m : (ℓ : Loc nD τ sig) → Buf (Elt Ideal) ℓ)

/-- The arguments on one device. -/
abbrev aX0 (c : Dev nD) : FVec Ideal S8192x1024 .f32 := m ((c : Thread nD τ).loc main_arg0)
abbrev aX1 (c : Dev nD) : FVec Ideal S8192x2048 .f32 := m ((c : Thread nD τ).loc main_arg1)

theorem ht_at (c : Dev nD) (k : Fin 1024) (s : Fin 8192) :
    (show FVec Ideal S1024x8192 .bf16 from V m c main_v1) (ix2 k s) = aX0 m c (ix2 s k) := by
  unfold V
  after_reads_at
theorem dz_at (c : Dev nD) (s : Fin 8192) (d : Fin 2048) :
    (show FVec Ideal S8192x2048 .bf16 from V m c main_v2) (ix2 s d) = aX1 m c (ix2 s d) := by
  unfold V
  after_reads_at

theorem t_lt (t : Fin cfg0.N) : t.val < 4 := t.isLt
/-- The token of row `r` of a grid point's tile. -/
def tok (t : Fin cfg0.N) (r : Fin 2048) : Fin 8192 := ⟨t.val * 2048 + r.val, by have := t_lt t; omega⟩
/-- Column `l` of slot `j`. -/
def col (j : Fin 8) (l : Fin 256) : Fin 2048 := ⟨j.val * 256 + l.val, by omega⟩

theorem idx : ∀ t : Fin cfg0.N, win0_0.index t = ![0, t.val] ∧ win0_1.index t = ![t.val, 0] ∧ win0_2.index t = ![0, 0, 0] :=
  (by decide +kernel : ∀ t : Fin grid0.N, _)

theorem b0 (c : Dev nD) (t : Fin cfg0.N) (k : Fin 1024) (r : Fin 2048) :
    (iblk m c 0 t : FVec Ideal S1024x2048 .bf16) (ix2 k r) = aX0 m c (ix2 (tok t r) k) := by
  rw [← ht_at]
  unfold tok
  blk_ext [iblk, idx t]
theorem b1 (c : Dev nD) (t : Fin cfg0.N) (r d : Fin 2048) :
    (iblk m c 1 t : FVec Ideal S2048x2048 .bf16) (ix2 r d) = aX1 m c (ix2 (tok t r) d) := by
  rw [← dz_at]
  unfold tok
  blk_ext [iblk, idx t]

/-- What a point adds. -/
def dT (c : Dev nD) (t : Fin cfg0.N) (j : Fin 8) (k : Fin 1024) (l : Fin 256) : EReal :=
  ∑ r : Fin 2048, aX0 m c (ix2 (tok t r) k) * aX1 m c (ix2 (tok t r) (col j l))

/-- A tile's product. -/
abbrev P (c : Dev nD) (t : Fin cfg0.N) : FVec Ideal S1024x2048 .f32 := k0_pay3 (iblk m c 0 t) (iblk m c 1 t)

theorem P_at (c : Dev nD) (t : Fin cfg0.N) (k : Fin 1024) (j : Fin 8) (l : Fin 256) (q : Fin 2048) (hq : q.val = j.val * 256 + l.val) :
    P m c t (ix2 k q) = dT m c t j k l := by
  obtain rfl : q = col j l := Fin.ext hq
  unfold P k0_pay3
  pointwise
  exact Finset.sum_congr rfl fun r _ => congrArg₂ (· * ·) (b0 m c t k r) (b1 m c t r (col j l))

theorem pt0 (c : Dev nD) (t : Fin cfg0.N) (O : FVec Ideal S1x1024x256 .f32) (k : Fin 1024) (l : Fin 256) :
    k0_pay4 (iblk m c 0 t) (iblk m c 1 t) O (ix3 0 k l) = O (ix3 0 k l) + dT m c t 0 k l := by
  unfold k0_pay4
  pointwise
  exact congrArg (_ + ·) (P_at m c t k 0 l _ (by first | rfl | exact Nat.add_comm _ _ | (simp; try omega)))
theorem pt1 (c : Dev nD) (t : Fin cfg0.N) (O : FVec Ideal S1x1024x256 .f32) (k : Fin 1024) (l : Fin 256) :
    k0_pay5 (iblk m c 0 t) (iblk m c 1 t) O (ix3 0 k l) = O (ix3 0 k l) + dT m c t 1 k l := by
  unfold k0_pay5
  pointwise
  exact congrArg (_ + ·) (P_at m c t k 1 l _ (by first | rfl | exact Nat.add_comm _ _ | (simp; try omega)))
theorem pt2 (c : Dev nD) (t : Fin cfg0.N) (O : FVec Ideal S1x1024x256 .f32) (k : Fin 1024) (l : Fin 256) :
    k0_pay6 (iblk m c 0 t) (iblk m c 1 t) O (ix3 0 k l) = O (ix3 0 k l) + dT m c t 2 k l := by
  unfold k0_pay6
  pointwise
  exact congrArg (_ + ·) (P_at m c t k 2 l _ (by first | rfl | exact Nat.add_comm _ _ | (simp; try omega)))
theorem pt3 (c : Dev nD) (t : Fin cfg0.N) (O : FVec Ideal S1x1024x256 .f32) (k : Fin 1024) (l : Fin 256) :
    k0_pay7 (P m c t) O (ix3 0 k l) = O (ix3 0 k l) + dT m c t 3 k l := by
  unfold k0_pay7
  pointwise
  exact congrArg (_ + ·) (P_at m c t k 3 l _ (by first | rfl | exact Nat.add_comm _ _ | (simp; try omega)))
theorem pt4 (c : Dev nD) (t : Fin cfg0.N) (O : FVec Ideal S1x1024x256 .f32) (k : Fin 1024) (l : Fin 256) :
    k0_pay8 (P m c t) O (ix3 0 k l) = O (ix3 0 k l) + dT m c t 4 k l := by
  unfold k0_pay8
  pointwise
  exact congrArg (_ + ·) (P_at m c t k 4 l _ (by first | rfl | exact Nat.add_comm _ _ | (simp; try omega)))
theorem pt5 (c : Dev nD) (t : Fin cfg0.N) (O : FVec Ideal S1x1024x256 .f32) (k : Fin 1024) (l : Fin 256) :
    k0_pay9 (P m c t) O (ix3 0 k l) = O (ix3 0 k l) + dT m c t 5 k l := by
  unfold k0_pay9
  pointwise
  exact congrArg (_ + ·) (P_at m c t k 5 l _ (by first | rfl | exact Nat.add_comm _ _ | (simp; try omega)))
theorem pt6 (c : Dev nD) (t : Fin cfg0.N) (O : FVec Ideal S1x1024x256 .f32) (k : Fin 1024) (l : Fin 256) :
    k0_pay10 (P m c t) O (ix3 0 k l) = O (ix3 0 k l) + dT m c t 6 k l := by
  unfold k0_pay10
  pointwise
  exact congrArg (_ + ·) (P_at m c t k 6 l _ (by first | rfl | exact Nat.add_comm _ _ | (simp; try omega)))
theorem pt7 (c : Dev nD) (t : Fin cfg0.N) (O : FVec Ideal S1x1024x256 .f32) (k : Fin 1024) (l : Fin 256) :
    k0_pay1 (P m c t) (k0_pay11 O) (ix3 0 k l) = O (ix3 0 k l) + dT m c t 7 k l := by
  unfold k0_pay1 k0_pay11
  pointwise
  exact congrArg (_ + ·) (P_at m c t k 7 l _ (by first | rfl | exact Nat.add_comm _ _ | (simp; try omega)))

/-! ## The slots -/

abbrev r0 : Rect S8x1024x256 := Rect.unit (![0, 0, 0] : Fin 3 → Nat) (![1, 1024, 256] : Fin 3 → Nat) inb_S8x1024x256_S1x1024x256_0_0_0
abbrev r1 : Rect S8x1024x256 := Rect.unit (![1, 0, 0] : Fin 3 → Nat) (![1, 1024, 256] : Fin 3 → Nat) inb_S8x1024x256_S1x1024x256_1_0_0
abbrev r2 : Rect S8x1024x256 := Rect.unit (![2, 0, 0] : Fin 3 → Nat) (![1, 1024, 256] : Fin 3 → Nat) inb_S8x1024x256_S1x1024x256_2_0_0
abbrev r3 : Rect S8x1024x256 := Rect.unit (![3, 0, 0] : Fin 3 → Nat) (![1, 1024, 256] : Fin 3 → Nat) inb_S8x1024x256_S1x1024x256_3_0_0
abbrev r4 : Rect S8x1024x256 := Rect.unit (![4, 0, 0] : Fin 3 → Nat) (![1, 1024, 256] : Fin 3 → Nat) inb_S8x1024x256_S1x1024x256_4_0_0
abbrev r5 : Rect S8x1024x256 := Rect.unit (![5, 0, 0] : Fin 3 → Nat) (![1, 1024, 256] : Fin 3 → Nat) inb_S8x1024x256_S1x1024x256_5_0_0
abbrev r6 : Rect S8x1024x256 := Rect.unit (![6, 0, 0] : Fin 3 → Nat) (![1, 1024, 256] : Fin 3 → Nat) inb_S8x1024x256_S1x1024x256_6_0_0
abbrev r7 : Rect S8x1024x256 := Rect.unit (![7, 0, 0] : Fin 3 → Nat) (![1, 1024, 256] : Fin 3 → Nat) inb_S8x1024x256_S1x1024x256_7_0_0
theorem emb0 (k : Fin 1024) (l : Fin 256) : r0.emb (ix3 0 k l) = ix3 0 k l := by
  funext a
  apply Fin.ext
  rw [Rect.emb_apply]
  fin_cases a
  · rfl
  · show 0 + 1 * k.val = k.val
    omega
  · show 0 + 1 * l.val = l.val
    omega
theorem emb1 (k : Fin 1024) (l : Fin 256) : r1.emb (ix3 0 k l) = ix3 1 k l := by
  funext a
  apply Fin.ext
  rw [Rect.emb_apply]
  fin_cases a
  · rfl
  · show 0 + 1 * k.val = k.val
    omega
  · show 0 + 1 * l.val = l.val
    omega
theorem emb2 (k : Fin 1024) (l : Fin 256) : r2.emb (ix3 0 k l) = ix3 2 k l := by
  funext a
  apply Fin.ext
  rw [Rect.emb_apply]
  fin_cases a
  · rfl
  · show 0 + 1 * k.val = k.val
    omega
  · show 0 + 1 * l.val = l.val
    omega
theorem emb3 (k : Fin 1024) (l : Fin 256) : r3.emb (ix3 0 k l) = ix3 3 k l := by
  funext a
  apply Fin.ext
  rw [Rect.emb_apply]
  fin_cases a
  · rfl
  · show 0 + 1 * k.val = k.val
    omega
  · show 0 + 1 * l.val = l.val
    omega
theorem emb4 (k : Fin 1024) (l : Fin 256) : r4.emb (ix3 0 k l) = ix3 4 k l := by
  funext a
  apply Fin.ext
  rw [Rect.emb_apply]
  fin_cases a
  · rfl
  · show 0 + 1 * k.val = k.val
    omega
  · show 0 + 1 * l.val = l.val
    omega
theorem emb5 (k : Fin 1024) (l : Fin 256) : r5.emb (ix3 0 k l) = ix3 5 k l := by
  funext a
  apply Fin.ext
  rw [Rect.emb_apply]
  fin_cases a
  · rfl
  · show 0 + 1 * k.val = k.val
    omega
  · show 0 + 1 * l.val = l.val
    omega
theorem emb6 (k : Fin 1024) (l : Fin 256) : r6.emb (ix3 0 k l) = ix3 6 k l := by
  funext a
  apply Fin.ext
  rw [Rect.emb_apply]
  fin_cases a
  · rfl
  · show 0 + 1 * k.val = k.val
    omega
  · show 0 + 1 * l.val = l.val
    omega
theorem emb7 (k : Fin 1024) (l : Fin 256) : r7.emb (ix3 0 k l) = ix3 7 k l := by
  funext a
  apply Fin.ext
  rw [Rect.emb_apply]
  fin_cases a
  · rfl
  · show 0 + 1 * k.val = k.val
    omega
  · show 0 + 1 * l.val = l.val
    omega

/-- The contents after a point, from those before it. -/
def G (c : Dev nD) (t : Fin cfg0.N) (O : FVec Ideal S8x1024x256 .f32) (y : S8x1024x256.Idx) : EReal := O y + dT m c t (y 0) (y 1) (y 2)

abbrev ldr (O : FVec Ideal S8x1024x256 .f32) (r : Rect S8x1024x256) := View.ld (Val := Elt Ideal) (S := S8x1024x256) (e' := .f32) O r

/-- The eight stores of a point. -/
abbrev L (c : Dev nD) (t : Fin cfg0.N) (O : FVec Ideal S8x1024x256 .f32) : List (View.Piece (Elt Ideal) S8x1024x256 .f32) :=
  [⟨r7, k0_pay1 (P m c t) (k0_pay11 (ldr O r7))⟩,
   ⟨r6, k0_pay10 (P m c t) (ldr O r6)⟩,
   ⟨r5, k0_pay9 (P m c t) (ldr O r5)⟩,
   ⟨r4, k0_pay8 (P m c t) (ldr O r4)⟩,
   ⟨r3, k0_pay7 (P m c t) (ldr O r3)⟩,
   ⟨r2, k0_pay6 (iblk m c 0 t) (iblk m c 1 t) (ldr O r2)⟩,
   ⟨r1, k0_pay5 (iblk m c 0 t) (iblk m c 1 t) (ldr O r1)⟩,
   ⟨r0, k0_pay4 (iblk m c 0 t) (iblk m c 1 t) (ldr O r0)⟩]

theorem mem_emb {s : Shape} (r : Rect s) (x : r.shape.Idx) : r.emb x ∈ r.set := by
  rw [← Rect.map_emb_univ]
  exact Finset.mem_map_of_mem _ (Finset.mem_univ _)

theorem pieces (c : Dev nD) (t : Fin cfg0.N) (O : FVec Ideal S8x1024x256 .f32) : View.PiecesOf (Val := Elt Ideal) (G m c t O) (L m c t O) := by
  refine ⟨fun x => ?_, fun x => ?_, fun x => ?_, fun x => ?_, fun x => ?_, fun x => ?_, fun x => ?_, fun x => ?_, trivial⟩
  · idx_vars x
    obtain rfl : x0 = 0 := Subsingleton.elim _ _
    refine (pt7 m c t _ x1 x2).trans ?_
    show O (r7.emb (ix3 0 x1 x2)) + _ = G m c t O (r7.emb (ix3 0 x1 x2))
    rw [emb7]
    rfl
  · idx_vars x
    obtain rfl : x0 = 0 := Subsingleton.elim _ _
    refine (pt6 m c t _ x1 x2).trans ?_
    show O (r6.emb (ix3 0 x1 x2)) + _ = G m c t O (r6.emb (ix3 0 x1 x2))
    rw [emb6]
    rfl
  · idx_vars x
    obtain rfl : x0 = 0 := Subsingleton.elim _ _
    refine (pt5 m c t _ x1 x2).trans ?_
    show O (r5.emb (ix3 0 x1 x2)) + _ = G m c t O (r5.emb (ix3 0 x1 x2))
    rw [emb5]
    rfl
  · idx_vars x
    obtain rfl : x0 = 0 := Subsingleton.elim _ _
    refine (pt4 m c t _ x1 x2).trans ?_
    show O (r4.emb (ix3 0 x1 x2)) + _ = G m c t O (r4.emb (ix3 0 x1 x2))
    rw [emb4]
    rfl
  · idx_vars x
    obtain rfl : x0 = 0 := Subsingleton.elim _ _
    refine (pt3 m c t _ x1 x2).trans ?_
    show O (r3.emb (ix3 0 x1 x2)) + _ = G m c t O (r3.emb (ix3 0 x1 x2))
    rw [emb3]
    rfl
  · idx_vars x
    obtain rfl : x0 = 0 := Subsingleton.elim _ _
    refine (pt2 m c t _ x1 x2).trans ?_
    show O (r2.emb (ix3 0 x1 x2)) + _ = G m c t O (r2.emb (ix3 0 x1 x2))
    rw [emb2]
    rfl
  · idx_vars x
    obtain rfl : x0 = 0 := Subsingleton.elim _ _
    refine (pt1 m c t _ x1 x2).trans ?_
    show O (r1.emb (ix3 0 x1 x2)) + _ = G m c t O (r1.emb (ix3 0 x1 x2))
    rw [emb1]
    rfl
  · idx_vars x
    obtain rfl : x0 = 0 := Subsingleton.elim _ _
    refine (pt0 m c t _ x1 x2).trans ?_
    show O (r0.emb (ix3 0 x1 x2)) + _ = G m c t O (r0.emb (ix3 0 x1 x2))
    rw [emb0]
    rfl

theorem cover (c : Dev nD) (t : Fin cfg0.N) (O : FVec Ideal S8x1024x256 .f32) (y : S8x1024x256.Idx) : ∃ p ∈ L m c t O, y ∈ p.1.set := by
  idx_vars y
  rcases (show y0 = 0 ∨ y0 = 1 ∨ y0 = 2 ∨ y0 = 3 ∨ y0 = 4 ∨ y0 = 5 ∨ y0 = 6 ∨ y0 = 7 by omega) with rfl | rfl | rfl | rfl | rfl | rfl | rfl | rfl
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), by
      show ix3 0 y1 y2 ∈ r0.set
      rw [← emb0]
      exact mem_emb r0 _⟩
  · exact ⟨_, (List.mem_cons_of_mem _ (List.mem_cons_of_mem _ (List.mem_cons_of_mem _ (List.mem_cons_of_mem _ (List.mem_cons_of_mem _ (List.mem_cons_of_mem _ List.mem_cons_self)))))), by
      show ix3 1 y1 y2 ∈ r1.set
      rw [← emb1]
      exact mem_emb r1 _⟩
  · exact ⟨_, (List.mem_cons_of_mem _ (List.mem_cons_of_mem _ (List.mem_cons_of_mem _ (List.mem_cons_of_mem _ (List.mem_cons_of_mem _ List.mem_cons_self))))), by
      show ix3 2 y1 y2 ∈ r2.set
      rw [← emb2]
      exact mem_emb r2 _⟩
  · exact ⟨_, (List.mem_cons_of_mem _ (List.mem_cons_of_mem _ (List.mem_cons_of_mem _ (List.mem_cons_of_mem _ List.mem_cons_self)))), by
      show ix3 3 y1 y2 ∈ r3.set
      rw [← emb3]
      exact mem_emb r3 _⟩
  · exact ⟨_, (List.mem_cons_of_mem _ (List.mem_cons_of_mem _ (List.mem_cons_of_mem _ List.mem_cons_self))), by
      show ix3 4 y1 y2 ∈ r4.set
      rw [← emb4]
      exact mem_emb r4 _⟩
  · exact ⟨_, (List.mem_cons_of_mem _ (List.mem_cons_of_mem _ List.mem_cons_self)), by
      show ix3 5 y1 y2 ∈ r5.set
      rw [← emb5]
      exact mem_emb r5 _⟩
  · exact ⟨_, (List.mem_cons_of_mem _ List.mem_cons_self), by
      show ix3 6 y1 y2 ∈ r6.set
      rw [← emb6]
      exact mem_emb r6 _⟩
  · exact ⟨_, List.mem_cons_self, by
      show ix3 7 y1 y2 ∈ r7.set
      rw [← emb7]
      exact mem_emb r7 _⟩

theorem out_A (c : Dev nD) (t : Fin cfg0.N) (hc : t.val % 4 = 0) (y : S8x1024x256.Idx) :
    outsAt0 m c t.val t.isLt y = 0 + dT m c t (y 0) (y 1) (y 2) := by
  rw [outsAt0_A m c t hc]
  frame_open
  simp (disch := decide) only [↓ View.readCov_skip, ↓ View.readCov_cons_toLoadRect, ↓ View.readCov_fill]
  frame_out
  refine (View.canon_append_of_piecesOf (G m c t k0_pay2) [_] (L m c t k0_pay2) (pieces m c t _) y (cover m c t _ y)).trans (congrArg (· + _) ?_)
  unfold k0_pay2
  pointwise
theorem out_B (c : Dev nD) (t : Fin cfg0.N) (hc : ¬ t.val % 4 = 0) (h' : t.val - 1 < cfg0.N) (y : S8x1024x256.Idx) :
    outsAt0 m c t.val t.isLt y = outsAt0 m c (t.val - 1) h' y + dT m c t (y 0) (y 1) (y 2) := by
  rw [outsAt0_B m c t hc]
  frame_out
  exact View.canon_append_of_piecesOf (G m c t (outsAt0 m c (t.val - 1) h')) [] (L m c t _) (pieces m c t _) y (cover m c t _ y)

/-- The tiles' sums are the sum over the tokens. -/
theorem fold_tok (G : Fin 8192 → EReal) (p : Fin 4 → Fin cfg0.N) (hp : ∀ s, (p s).val = s.val) :
    ∑ s : Fin 4, ∑ r : Fin 2048, G (tok (p s) r) = ∑ s : Fin 8192, G s := by
  let f : ℕ → EReal := fun i => if h : i < 8192 then G ⟨i, h⟩ else 0
  have e : ∀ s : Fin 8192, G s = f s.val := fun s => by
    show G s = if h : s.val < 8192 then G ⟨s.val, h⟩ else 0
    rw [dif_pos s.isLt]
  have h1 : ∀ s : Fin 4, ∑ r : Fin 2048, G (tok (p s) r) = ∑ r : Fin 2048, f (s.val * 2048 + r.val) := fun s => by
    refine Finset.sum_congr rfl fun r _ => (e _).trans (congrArg f ?_)
    show (p s).val * 2048 + r.val = s.val * 2048 + r.val
    rw [hp s]
  rw [Finset.sum_congr rfl fun s _ => h1 s, Fin.sum_univ_univ_mul_add 4 2048 f]
  exact Finset.sum_congr rfl fun s _ => (e s).symm

/-- The result. -/
def R (c : Dev nD) (y : S8x1024x256.Idx) : EReal := ∑ s : Fin 8192, aX0 m c (ix2 s (y 1)) * aX1 m c (ix2 s (col (y 0) (y 2)))

theorem final (c : Dev nD) : (dats m 0 c).arrAt 2 (cfgs 0).N = R m c := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => 0)
    (fun t y => dT m c t (y 0) (y 1) (y 2)) (fun t h y => out_A m c t h y) (fun t h y => out_B m c t h _ y) t ((flush0_2 t).mp hf) y).trans ?_
  rw [zero_add]
  unfold dT
  idx_vars y
  have E : (((cfg0.win 2).blk t).view.emb (ix3 y0 y1 y2) : S8x1024x256.Idx) = ix3 y0 y1 y2 := by
    blk_ext [idx t]
  refine Eq.trans ?_ (congrArg (R m c) E.symm)
  exact fold_tok (fun s => aX0 m c (ix2 s y1) * aX1 m c (ix2 s (col y0 y2))) _ (fun s => by
    show 4 * (t.val / 4) + s.val = s.val
    have := t_lt t
    omega)

end

section
open Cert.Reference2Ideal Cert.Reference2Ideal.Read

theorem ref_at (x0 : FVec Ideal S8192x1024 .f32) (x1 : FVec Ideal S8192x2048 .f32) :
    val_main_v5 (F := Ideal) x0 x1 = fun y : S8x1024x256.Idx => ∑ s : Fin 8192, x0 (ix2 s (y 1)) * x1 (ix2 s (col (y 0) (y 2))) := by
  funext y
  rw [val_main_v5_apply, val_main_v4_apply, val_main_v3_apply, val_main_v2_apply]
  idx_vars y
  refine Finset.sum_congr rfl fun s _ => (mul_comm _ _).trans (congrArg₂ (· * ·) (congrArg x0 ?_) (congrArg x1 ?_))
  · funext a
    apply Fin.ext
    fin_cases a
    · rfl
    · show ((y1.val * 8 + y0.val) * 256 + y2.val) / 2048 = y1.val
      omega
  · funext a
    apply Fin.ext
    fin_cases a
    · rfl
    · show ((y1.val * 8 + y0.val) * 256 + y2.val) % 2048 = y0.val * 256 + y2.val
      omega

theorem meet {m : (ℓ : Loc Kernel2Ideal.nD Kernel2Ideal.τ Kernel2Ideal.sig) → Buf (Elt Ideal) ℓ} {c : Dev Kernel2Ideal.nD} {z0 : FVec Ideal S8192x1024 .f32} {z1 : FVec Ideal S8192x2048 .f32}
    (e0 : z0 = aX0 m c) (e1 : z1 = aX1 m c) : val_main_v5 (F := Ideal) z0 z1 = R m c := by
  subst e0 e1
  exact ref_at _ _

end

end Cert.DwIn
-- ==== Proof.DwOut.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Pipeline.ReadBack

/-! # The gradient of the second output projection's weights: two tiles of 4096 tokens, summed in place -/

@[expose] public section

set_option maxRecDepth 16384
noncomputable section

open Idealize.ShloMosaic Idealize.ShloMosaic.TcCoe Idealize.SL.Sem
open Idealize.ShloMosaic.Pipeline (Dat)

namespace Cert.DwOut

section
open Cert.Kernel3Ideal Cert.Kernel3Ideal.Gen

variable (m : (ℓ : Loc nD τ sig) → Buf (Elt Ideal) ℓ)

/-- The arguments on one device. -/
abbrev aX0 (c : Dev nD) : FVec Ideal S8192x1024 .f32 := m ((c : Thread nD τ).loc main_arg0)
abbrev aX1 (c : Dev nD) : FVec Ideal S8192x1024 .f32 := m ((c : Thread nD τ).loc main_arg1)

theorem yt_at (c : Dev nD) (k : Fin 1024) (s : Fin 8192) :
    (show FVec Ideal S1024x8192 .bf16 from V m c main_v1) (ix2 k s) = aX0 m c (ix2 s k) := by
  unfold V
  after_reads_at
theorem do_at (c : Dev nD) (s : Fin 8192) (d : Fin 1024) :
    (show FVec Ideal S8192x1024 .bf16 from V m c main_v2) (ix2 s d) = aX1 m c (ix2 s d) := by
  unfold V
  after_reads_at

theorem t_lt (t : Fin cfg0.N) : t.val < 2 := t.isLt
/-- The token of row `r` of a grid point's tile. -/
def tok (t : Fin cfg0.N) (r : Fin 4096) : Fin 8192 := ⟨t.val * 4096 + r.val, by have := t_lt t; omega⟩

theorem idx : ∀ t : Fin cfg0.N, win0_0.index t = ![0, t.val] ∧ win0_1.index t = ![t.val, 0] ∧ win0_2.index t = ![0, 0, 0] :=
  (by decide +kernel : ∀ t : Fin grid0.N, _)

theorem b0 (c : Dev nD) (t : Fin cfg0.N) (k : Fin 1024) (r : Fin 4096) :
    (iblk m c 0 t : FVec Ideal S1024x4096 .bf16) (ix2 k r) = aX0 m c (ix2 (tok t r) k) := by
  rw [← yt_at]
  unfold tok
  blk_ext [iblk, idx t]
theorem b1 (c : Dev nD) (t : Fin cfg0.N) (r : Fin 4096) (d : Fin 1024) :
    (iblk m c 1 t : FVec Ideal S4096x1024 .bf16) (ix2 r d) = aX1 m c (ix2 (tok t r) d) := by
  rw [← do_at]
  unfold tok
  blk_ext [iblk, idx t]

/-- What a point adds. -/
theorem pt (c : Dev nD) (t : Fin cfg0.N) (O : FVec Ideal S1x1024x1024 .f32) (k d : Fin 1024) :
    k0_pay2 (iblk m c 0 t) (iblk m c 1 t) O (ix3 0 k d)
      = O (ix3 0 k d) + ∑ r : Fin 4096, aX0 m c (ix2 (tok t r) k) * aX1 m c (ix2 (tok t r) d) := by
  unfold k0_pay2
  pointwise
  refine congrArg (_ + ·) (Finset.sum_congr rfl fun r _ => ?_)
  exact congrArg₂ (· * ·) (b0 m c t k r) (b1 m c t r d)

theorem out_A (c : Dev nD) (t : Fin cfg0.N) (hc : t.val % 2 = 0) (k d : Fin 1024) :
    outsAt0 m c t.val t.isLt (ix3 0 k d) = 0 + ∑ r : Fin 4096, aX0 m c (ix2 (tok t r) k) * aX1 m c (ix2 (tok t r) d) := by
  rw [outsAt0_A m c t hc]
  frame_open
  simp (disch := decide) only [↓ View.readCov_skip, ↓ View.readCov_cons_toLoadRect, ↓ View.readCov_fill]
  frame_out
  refine (pt m c t k0_pay1 k d).trans (congrArg (· + _) ?_)
  unfold k0_pay1
  pointwise
theorem out_B (c : Dev nD) (t : Fin cfg0.N) (hc : ¬ t.val % 2 = 0) (h' : t.val - 1 < cfg0.N) (k d : Fin 1024) :
    outsAt0 m c t.val t.isLt (ix3 0 k d) = outsAt0 m c (t.val - 1) h' (ix3 0 k d)
      + ∑ r : Fin 4096, aX0 m c (ix2 (tok t r) k) * aX1 m c (ix2 (tok t r) d) := by
  rw [outsAt0_B m c t hc]
  frame_out
  exact pt m c t (outsAt0 m c (t.val - 1) h') k d

/-- The tiles' sums are the sum over the tokens. -/
theorem fold_tok (G : Fin 8192 → EReal) (p : Fin 2 → Fin cfg0.N) (hp : ∀ s, (p s).val = s.val) :
    ∑ s : Fin 2, ∑ r : Fin 4096, G (tok (p s) r) = ∑ s : Fin 8192, G s := by
  let f : ℕ → EReal := fun i => if h : i < 8192 then G ⟨i, h⟩ else 0
  have e : ∀ s : Fin 8192, G s = f s.val := fun s => by
    show G s = if h : s.val < 8192 then G ⟨s.val, h⟩ else 0
    rw [dif_pos s.isLt]
  have h1 : ∀ s : Fin 2, ∑ r : Fin 4096, G (tok (p s) r) = ∑ r : Fin 4096, f (s.val * 4096 + r.val) := fun s => by
    refine Finset.sum_congr rfl fun r _ => (e _).trans (congrArg f ?_)
    show (p s).val * 4096 + r.val = s.val * 4096 + r.val
    rw [hp s]
  rw [Finset.sum_congr rfl fun s _ => h1 s, Fin.sum_univ_univ_mul_add 2 4096 f]
  exact Finset.sum_congr rfl fun s _ => (e s).symm

/-- The result. -/
def R (c : Dev nD) (y : S1x1024x1024.Idx) : EReal := ∑ s : Fin 8192, aX0 m c (ix2 s (y 1)) * aX1 m c (ix2 s (y 2))

theorem final (c : Dev nD) : (dats m 0 c).arrAt 2 (cfgs 0).N = R m c := by
  refine (dats m 0 c).arrAt_eq_of_covers 2 _ (by decide +kernel) fun t hf y => ?_
  blk_simp
  rw [after0_2]
  refine (Pipeline.eq_sum_fin_of_reset_step_apply_of_flush (fun n h => outsAt0 m c n h) 2 (fun _ => 0)
    (fun t y => ∑ r : Fin 4096, aX0 m c (ix2 (tok t r) (y 1)) * aX1 m c (ix2 (tok t r) (y 2)))
    (fun t h y => ?_) (fun t h y => ?_) t ((flush0_2 t).mp hf) y).trans ?_
  · idx_vars y
    obtain rfl : y0 = 0 := Subsingleton.elim _ _
    exact out_A m c t h y1 y2
  · idx_vars y
    obtain rfl : y0 = 0 := Subsingleton.elim _ _
    exact out_B m c t h _ y1 y2
  · rw [zero_add]
    idx_vars y
    obtain rfl : y0 = 0 := Subsingleton.elim _ _
    have E : (((cfg0.win 2).blk t).view.emb (ix3 0 y1 y2) : S1x1024x1024.Idx) = ix3 0 y1 y2 := by
      blk_ext [idx t]
    refine Eq.trans ?_ (congrArg (R m c) E.symm)
    exact fold_tok (fun s => aX0 m c (ix2 s y1) * aX1 m c (ix2 s y2)) _ (fun s => by
      show 2 * (t.val / 2) + s.val = s.val
      have := t_lt t
      omega)

end

section
open Cert.Reference3Ideal Cert.Reference3Ideal.Read

theorem ref_at (x0 x1 : FVec Ideal S8192x1024 .f32) :
    val_main_v4 (F := Ideal) x0 x1 = fun y : S1x1024x1024.Idx => ∑ s : Fin 8192, x0 (ix2 s (y 1)) * x1 (ix2 s (y 2)) := by
  funext y
  rw [val_main_v4_apply, val_main_v3_apply, val_main_v2_apply]
  refine Finset.sum_congr rfl fun s _ => (mul_comm _ _).trans (congrArg₂ (· * ·) (congrArg x0 ?_) (congrArg x1 ?_))
  · funext a; fin_cases a <;> rfl
  · funext a; fin_cases a <;> rfl

theorem meet {m : (ℓ : Loc Kernel3Ideal.nD Kernel3Ideal.τ Kernel3Ideal.sig) → Buf (Elt Ideal) ℓ} {c : Dev Kernel3Ideal.nD} {z0 : FVec Ideal S8192x1024 .f32} {z1 : FVec Ideal S8192x1024 .f32}
    (e0 : z0 = aX0 m c) (e1 : z1 = aX1 m c) : val_main_v4 (F := Ideal) z0 z1 = R m c := by
  subst e0 e1
  exact ref_at _ _

end

end Cert.DwOut
-- ==== Proof.FwdIn.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Claim
public import proofs.«01_k».proof.Proof.Spec

/-! # The input projection: the modulated normalised rows, times the weights, and the first gate -/

@[expose] public section

set_option maxRecDepth 16384
noncomputable section

open Idealize.ShloMosaic Idealize.ShloMosaic.TcCoe Idealize.SL.Sem
open Idealize.ShloMosaic.Pipeline (Dat)

namespace Cert.FwdIn

section
open Cert.Kernel4Ideal Cert.Kernel4Ideal.Gen

/-- The arguments as the formulas take them: the rows, the gain, the shift, the scale and the weights. -/
structure Args where
  x : FVec Ideal S8192x1024 .f32
  g : FVec Ideal S1x1024 .f32
  sh : FVec Ideal S1x1024 .f32
  sc : FVec Ideal S1x1024 .f32
  w : FVec Ideal S1024x2048 .f32

/-- The inverse root mean square of a row. -/
def inv (A : Args) (s : Fin 8192) : EReal :=
  Ideal.rsqrt (Ideal.div (∑ k : Fin 1024, A.x (ix2 s k) * A.x (ix2 s k)) (Ideal.ofBits .f32 0x44800000#32) + Ideal.ofBits .f32 0x358637BD#32)
/-- The modulated normalised rows. -/
def h (A : Args) (s : Fin 8192) (k : Fin 1024) : EReal :=
  A.x (ix2 s k) * inv A s * A.g (ix2 0 k) * (1 + A.sc (ix2 0 k)) + A.sh (ix2 0 k)
/-- The projection. -/
def z (A : Args) (s : Fin 8192) (q : Fin 2048) : EReal := ∑ k : Fin 1024, h A s k * A.w (ix2 k q)
/-- The first gate. -/
def a0 (A : Args) (s : Fin 8192) (l : Fin 512) : EReal :=
  z A s ⟨l.val, by omega⟩ * Ideal.logistic (z A s ⟨512 + l.val, by omega⟩)

variable (m : (ℓ : Loc nD τ sig) → Buf (Elt Ideal) ℓ)

/-- The arguments on one device. -/
abbrev kA (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

theorem w_at (c : Dev nD) (j : Fin 8) (k : Fin 1024) (l : Fin 256) :
    (show FVec Ideal S8x1024x256 .bf16 from V m c main_v2) (ix3 j k l) = (kA m c).w (ix2 k ⟨j.val * 256 + l.val, by omega⟩) := by
  unfold V
  after_reads_at

theorem vg_at (c : Dev nD) (k : Fin 16) (d : Fin 1024) (hk : k.val = 0) :
    (show FVec Ideal S16x1024 .f32 from V m c main_v4) (ix2 k d) = (kA m c).g (ix2 0 d) := by
  unfold V
  after_reads_at
  rw [dif_pos (by omega)]
  congr 2
  exact Fin.ext (by show k.val = 0; omega)
theorem vsh_at (c : Dev nD) (k : Fin 16) (d : Fin 1024) (hk : k.val = 1) :
    (show FVec Ideal S16x1024 .f32 from V m c main_v4) (ix2 k d) = (kA m c).sh (ix2 0 d) := by
  unfold V
  after_reads_at
  rw [dif_neg (by omega), dif_pos (by omega)]
  congr 2
  exact Fin.ext (by show k.val - 1 = 0; omega)
theorem vsc_at (c : Dev nD) (k : Fin 16) (d : Fin 1024) (hk : k.val = 2) :
    (show FVec Ideal S16x1024 .f32 from V m c main_v4) (ix2 k d) = (kA m c).sc (ix2 0 d) := by
  unfold V
  after_reads_at
  rw [dif_neg (by omega), dif_neg (by omega), dif_pos (by omega)]
  congr 2
  exact Fin.ext (by show k.val - 2 = 0; omega)

theorem t_lt (t : Fin cfg0.N) : t.val < 16 := t.isLt
/-- The token of row `r` of a grid point's tile. -/
def tok (t : Fin cfg0.N) (r : Fin 512) : Fin 8192 := ⟨t.val * 512 + r.val, by have := t_lt t; omega⟩

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![0, t.val] :=
  (by decide +kernel : ∀ t : Fin grid0.N, _)

theorem b0 (c : Dev nD) (t : Fin cfg0.N) (r : Fin 512) (k : Fin 1024) :
    (iblk m c 0 t : FVec Ideal S512x1024 .f32) (ix2 r k) = (kA m c).x (ix2 (tok t r) k) := by
  unfold tok
  blk_ext [iblk, V, idx t]

abbrev rg : Rect S16x1024 := Rect.unit (![0, 0] : Fin 2 → Nat) (![1, 1024] : Fin 2 → Nat) inb_S16x1024_S1x1024_0_0
abbrev rsh : Rect S16x1024 := Rect.unit (![1, 0] : Fin 2 → Nat) (![1, 1024] : Fin 2 → Nat) inb_S16x1024_S1x1024_1_0
abbrev rsc : Rect S16x1024 := Rect.unit (![2, 0] : Fin 2 → Nat) (![1, 1024] : Fin 2 → Nat) inb_S16x1024_S1x1024_2_0

theorem b1 (c : Dev nD) (t : Fin cfg0.N) (k : Fin 16) (d : Fin 1024) :
    (iblk m c 1 t : FVec Ideal S16x1024 .f32) (ix2 k d) = (show FVec Ideal S16x1024 .f32 from V m c main_v4) (ix2 k d) := by
  blk_ext [iblk, idx t]
theorem b2 (c : Dev nD) (t : Fin cfg0.N) (j : Fin 8) (k : Fin 1024) (l : Fin 256) :
    (iblk m c 2 t : FVec Ideal S8x1024x256 .bf16) (ix3 j k l) = (kA m c).w (ix2 k ⟨j.val * 256 + l.val, by omega⟩) := by
  rw [← w_at]
  blk_ext [iblk, idx t]

/-- A tile's modulated normalised rows. -/
abbrev H (c : Dev nD) (t : Fin cfg0.N) : FVec Ideal S512x1024 .bf16 :=
  k0_pay3 (iblk m c 0 t) (View.ld (iblk m c 1 t) rg) (View.ld (iblk m c 1 t) rsc) (View.ld (iblk m c 1 t) rsh)

theorem H_at (c : Dev nD) (t : Fin cfg0.N) (r : Fin 512) (k : Fin 1024) : H m c t (ix2 r k) = h (kA m c) (tok t r) k := by
  unfold H k0_pay3
  pointwise
  rw [b1, b1, b1, vg_at m c 0 k rfl, vsh_at m c 1 k rfl, vsc_at m c 2 k rfl, b0]
  simp only [b0]
  rfl

abbrev rw0 : Rect S8x1024x256 := Rect.unit (![0, 0, 0] : Fin 3 → Nat) (![1, 1024, 256] : Fin 3 → Nat) inb_S8x1024x256_S1x1024x256_0_0_0
abbrev rw1 : Rect S8x1024x256 := Rect.unit (![1, 0, 0] : Fin 3 → Nat) (![1, 1024, 256] : Fin 3 → Nat) inb_S8x1024x256_S1x1024x256_1_0_0
abbrev rw2 : Rect S8x1024x256 := Rect.unit (![2, 0, 0] : Fin 3 → Nat) (![1, 1024, 256] : Fin 3 → Nat) inb_S8x1024x256_S1x1024x256_2_0_0
abbrev rw3 : Rect S8x1024x256 := Rect.unit (![3, 0, 0] : Fin 3 → Nat) (![1, 1024, 256] : Fin 3 → Nat) inb_S8x1024x256_S1x1024x256_3_0_0
abbrev rw4 : Rect S8x1024x256 := Rect.unit (![4, 0, 0] : Fin 3 → Nat) (![1, 1024, 256] : Fin 3 → Nat) inb_S8x1024x256_S1x1024x256_4_0_0
abbrev rw5 : Rect S8x1024x256 := Rect.unit (![5, 0, 0] : Fin 3 → Nat) (![1, 1024, 256] : Fin 3 → Nat) inb_S8x1024x256_S1x1024x256_5_0_0
abbrev rw6 : Rect S8x1024x256 := Rect.unit (![6, 0, 0] : Fin 3 → Nat) (![1, 1024, 256] : Fin 3 → Nat) inb_S8x1024x256_S1x1024x256_6_0_0
abbrev rw7 : Rect S8x1024x256 := Rect.unit (![7, 0, 0] : Fin 3 → Nat) (![1, 1024, 256] : Fin 3 → Nat) inb_S8x1024x256_S1x1024x256_7_0_0
abbrev rz0 : Rect S512x2048 := Rect.unit (![0, 0] : Fin 2 → Nat) (![512, 256] : Fin 2 → Nat) inb_S512x2048_S512x256_0_0
abbrev rz1 : Rect S512x2048 := Rect.unit (![0, 256] : Fin 2 → Nat) (![512, 256] : Fin 2 → Nat) inb_S512x2048_S512x256_0_256
abbrev rz2 : Rect S512x2048 := Rect.unit (![0, 512] : Fin 2 → Nat) (![512, 256] : Fin 2 → Nat) inb_S512x2048_S512x256_0_512
abbrev rz3 : Rect S512x2048 := Rect.unit (![0, 768] : Fin 2 → Nat) (![512, 256] : Fin 2 → Nat) inb_S512x2048_S512x256_0_768
abbrev rz4 : Rect S512x2048 := Rect.unit (![0, 1024] : Fin 2 → Nat) (![512, 256] : Fin 2 → Nat) inb_S512x2048_S512x256_0_1024
abbrev rz5 : Rect S512x2048 := Rect.unit (![0, 1280] : Fin 2 → Nat) (![512, 256] : Fin 2 → Nat) inb_S512x2048_S512x256_0_1280
abbrev rz6 : Rect S512x2048 := Rect.unit (![0, 1536] : Fin 2 → Nat) (![512, 256] : Fin 2 → Nat) inb_S512x2048_S512x256_0_1536
abbrev rz7 : Rect S512x2048 := Rect.unit (![0, 1792] : Fin 2 → Nat) (![512, 256] : Fin 2 → Nat) inb_S512x2048_S512x256_0_1792
abbrev ldw (c : Dev nD) (t : Fin cfg0.N) (r : Rect S8x1024x256) := View.ld (Val := Elt Ideal) (S := S8x1024x256) (e' := .bf16) (iblk m c 2 t) r
theorem ldw_at (c : Dev nD) (t : Fin cfg0.N) (j : Fin 8) (inb) (k : Fin 1024) (l : Fin 256) :
    ldw m c t (Rect.unit (![j.val, 0, 0] : Fin 3 → Nat) (![1, 1024, 256] : Fin 3 → Nat) inb) (ix3 0 k l) = (kA m c).w (ix2 k ⟨j.val * 256 + l.val, by omega⟩) := by
  refine Eq.trans (congrArg (iblk m c 2 t : FVec Ideal S8x1024x256 .bf16) ?_) (b2 m c t j k l)
  funext a
  apply Fin.ext
  fin_cases a
  · show j.val + 1 * 0 = j.val
    rfl
  · show 0 + 1 * k.val = k.val
    omega
  · show 0 + 1 * l.val = l.val
    omega

/-- A tile of the projection. -/
def zG (c : Dev nD) (t : Fin cfg0.N) (y : S512x2048.Idx) : EReal := z (kA m c) (tok t (y 0)) (y 1)
theorem z0 (c : Dev nD) (t : Fin cfg0.N) (x : S512x256.Idx) : k0_pay5 (iblk m c 0 t) (View.ld (iblk m c 1 t) rg) (View.ld (iblk m c 1 t) rsc) (View.ld (iblk m c 1 t) rsh) (ldw m c t rw0) x = zG m c t (rz0.emb x) := by
  idx_vars x
  unfold k0_pay5
  pointwise
  unfold zG z
  refine Finset.sum_congr rfl fun k _ => ?_
  refine (congrArg₂ (· * ·) (H_at m c t x0 k) (ldw_at m c t 0 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 0 * 256 + x1.val = 0 + 1 * x1.val; omega)
theorem z1 (c : Dev nD) (t : Fin cfg0.N) (x : S512x256.Idx) : k0_pay7 (H m c t) (k0_pay6 (ldw m c t rw1)) x = zG m c t (rz1.emb x) := by
  idx_vars x
  unfold k0_pay7 k0_pay6
  pointwise
  unfold zG z
  refine Finset.sum_congr rfl fun k _ => ?_
  refine (congrArg₂ (· * ·) (H_at m c t x0 k) (ldw_at m c t 1 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 1 * 256 + x1.val = 256 + 1 * x1.val; omega)
theorem z2 (c : Dev nD) (t : Fin cfg0.N) (x : S512x256.Idx) : k0_pay8 (H m c t) (ldw m c t rw2) x = zG m c t (rz2.emb x) := by
  idx_vars x
  unfold k0_pay8
  pointwise
  unfold zG z
  refine Finset.sum_congr rfl fun k _ => ?_
  refine (congrArg₂ (· * ·) (H_at m c t x0 k) (ldw_at m c t 2 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 2 * 256 + x1.val = 512 + 1 * x1.val; omega)
theorem z3 (c : Dev nD) (t : Fin cfg0.N) (x : S512x256.Idx) : k0_pay9 (H m c t) (ldw m c t rw3) x = zG m c t (rz3.emb x) := by
  idx_vars x
  unfold k0_pay9
  pointwise
  unfold zG z
  refine Finset.sum_congr rfl fun k _ => ?_
  refine (congrArg₂ (· * ·) (H_at m c t x0 k) (ldw_at m c t 3 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 3 * 256 + x1.val = 768 + 1 * x1.val; omega)
theorem z4 (c : Dev nD) (t : Fin cfg0.N) (x : S512x256.Idx) : k0_pay10 (H m c t) (ldw m c t rw4) x = zG m c t (rz4.emb x) := by
  idx_vars x
  unfold k0_pay10
  pointwise
  unfold zG z
  refine Finset.sum_congr rfl fun k _ => ?_
  refine (congrArg₂ (· * ·) (H_at m c t x0 k) (ldw_at m c t 4 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 4 * 256 + x1.val = 1024 + 1 * x1.val; omega)
theorem z5 (c : Dev nD) (t : Fin cfg0.N) (x : S512x256.Idx) : k0_pay11 (H m c t) (ldw m c t rw5) x = zG m c t (rz5.emb x) := by
  idx_vars x
  unfold k0_pay11
  pointwise
  unfold zG z
  refine Finset.sum_congr rfl fun k _ => ?_
  refine (congrArg₂ (· * ·) (H_at m c t x0 k) (ldw_at m c t 5 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 5 * 256 + x1.val = 1280 + 1 * x1.val; omega)
theorem z6 (c : Dev nD) (t : Fin cfg0.N) (x : S512x256.Idx) : k0_pay12 (H m c t) (ldw m c t rw6) x = zG m c t (rz6.emb x) := by
  idx_vars x
  unfold k0_pay12
  pointwise
  unfold zG z
  refine Finset.sum_congr rfl fun k _ => ?_
  refine (congrArg₂ (· * ·) (H_at m c t x0 k) (ldw_at m c t 6 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 6 * 256 + x1.val = 1536 + 1 * x1.val; omega)
theorem z7 (c : Dev nD) (t : Fin cfg0.N) (x : S512x256.Idx) : k0_pay1 (H m c t) (ldw m c t rw7) x = zG m c t (rz7.emb x) := by
  idx_vars x
  unfold k0_pay1
  pointwise
  unfold zG z
  refine Finset.sum_congr rfl fun k _ => ?_
  refine (congrArg₂ (· * ·) (H_at m c t x0 k) (ldw_at m c t 7 _ k x1)).trans ?_
  refine congrArg₂ (· * ·) (congrArg (h (kA m c) · k) ?_) (congrArg (fun q => (kA m c).w (ix2 k q)) ?_)
  · exact Fin.ext (by show t.val * 512 + x0.val = t.val * 512 + (0 + 1 * x0.val); omega)
  · exact Fin.ext (by show 7 * 256 + x1.val = 1792 + 1 * x1.val; omega)

/-- The eight stores of a tile. -/
abbrev zL (c : Dev nD) (t : Fin cfg0.N) : List (View.Piece (Elt Ideal) S512x2048 .f32) :=
  [⟨rz7, k0_pay1 (H m c t) (ldw m c t rw7)⟩,
   ⟨rz6, k0_pay12 (H m c t) (ldw m c t rw6)⟩,
   ⟨rz5, k0_pay11 (H m c t) (ldw m c t rw5)⟩,
   ⟨rz4, k0_pay10 (H m c t) (ldw m c t rw4)⟩,
   ⟨rz3, k0_pay9 (H m c t) (ldw m c t rw3)⟩,
   ⟨rz2, k0_pay8 (H m c t) (ldw m c t rw2)⟩,
   ⟨rz1, k0_pay7 (H m c t) (k0_pay6 (ldw m c t rw1))⟩,
   ⟨rz0, k0_pay5 (iblk m c 0 t) (View.ld (iblk m c 1 t) rg) (View.ld (iblk m c 1 t) rsc) (View.ld (iblk m c 1 t) rsh) (ldw m c t rw0)⟩]

theorem z_pieces (c : Dev nD) (t : Fin cfg0.N) : View.PiecesOf (Val := Elt Ideal) (zG m c t) (zL m c t) :=
  ⟨z7 m c t, z6 m c t, z5 m c t, z4 m c t, z3 m c t, z2 m c t, z1 m c t, z0 m c t, trivial⟩

theorem z_cover (c : Dev nD) (t : Fin cfg0.N) (y : S512x2048.Idx) : ∃ p ∈ zL m c t, y ∈ p.1.set :=
  View.cover_of_tiledL (zL m c t) S512x256.size (by sl_kernel_rfl) y

theorem out3_at (c : Dev nD) (t : Fin cfg0.N) (y : S512x2048.Idx) : (outsAt0 m c t).1 y = zG m c t y := by
  unfold outsAt0
  frame_open
  frame_out
  exact View.canon_append_of_piecesOf (zG m c t) [] (zL m c t) (z_pieces m c t) y (z_cover m c t y)

theorem z_back (c : Dev nD) (t : Fin cfg0.N) {κ : Kind} {sp : Space} (v : View sig κ sp S512x2048 .f32) (B : LoadRect S512x2048) (j) :
    v.readCov (zL m c t) B j = zG m c t (B.idx j) := by
  rw [View.readCov_eq_canon']
  exact View.canon_append_of_piecesOf (zG m c t) [] (zL m c t) (z_pieces m c t) _ (z_cover m c t _)

theorem half_eq : Ideal.ofBits .f32 0x3F000000#32 = ((1 / 2 : ℝ) : EReal) := by
  simp [Ideal.ofBits, Ideal.ieee, -EReal.coe_mul]; norm_num

theorem gate_at (Z Z' : FVec Ideal S512x512 .f32) (r l : Fin 512) : k0_pay2 Z Z' (ix2 r l) = Z (ix2 r l) * Ideal.logistic (Z' (ix2 r l)) := by
  unfold k0_pay2
  pointwise
  rw [Cert.FfnGrad.sigmoid_tanh _ _ half_eq]

theorem out4_at (c : Dev nD) (t : Fin cfg0.N) (y : S512x512.Idx) : (outsAt0 m c t).2.1 y = a0 (kA m c) (tok t (y 0)) (y 1) := by
  unfold outsAt0
  frame_open
  frame_out
  idx_vars y
  refine (gate_at _ _ y0 y1).trans ?_
  refine congrArg₂ (· * ·) ((z_back m c t _ _ _).trans ?_) (congrArg Ideal.logistic ((z_back m c t _ _ _).trans ?_))
  · unfold zG
    refine congrArg₂ (fun r q => z (kA m c) (tok t r) q) (Fin.ext ?_) (Fin.ext ?_)
    · show 0 + 1 * y0.val = y0.val
      omega
    · show 0 + 1 * y1.val = y1.val
      omega
  · unfold zG
    refine congrArg₂ (fun r q => z (kA m c) (tok t r) q) (Fin.ext ?_) (Fin.ext ?_)
    · show 0 + 1 * y0.val = y0.val
      omega
    · show 512 + 1 * y1.val = 512 + y1.val
      omega

theorem out5_at (c : Dev nD) (t : Fin cfg0.N) (y : S1024x512.Idx) : (outsAt0 m c t).2.2 y = h (kA m c) (tok t (y 1)) (y 0) := by
  unfold outsAt0
  frame_open
  frame_out
  idx_vars y
  unfold k0_pay4
  pointwise
  exact H_at m c t y1 y0

/-- The results. -/
def R0 (c : Dev nD) (y : S8192x2048.Idx) : EReal := z (kA m c) (y 0) (y 1)
def R1 (c : Dev nD) (y : S8192x512.Idx) : EReal := a0 (kA m c) (y 0) (y 1)
def R2 (c : Dev nD) (y : S1024x8192.Idx) : EReal := h (kA m c) (y 1) (y 0)

theorem final0 (c : Dev nD) : (dats m 0 c).arrAt 3 (cfgs 0).N = R0 m c := by
  refine (dats m 0 c).arrAt_eq_of_covers 3 _ (by decide +kernel) fun t hf y => ?_
  blk_simp
  rw [after0_3]
  refine (out3_at m c t y).trans ?_
  idx_vars y
  have E : (((cfg0.win 3).blk t).view.emb (ix2 y0 y1) : S8192x2048.Idx) = ix2 (tok t y0) y1 := by
    blk_ext [idx t, tok]
  refine Eq.trans ?_ (congrArg (R0 m c) E.symm)
  rfl
theorem final1 (c : Dev nD) : (dats m 0 c).arrAt 4 (cfgs 0).N = R1 m c := by
  refine (dats m 0 c).arrAt_eq_of_covers 4 _ (by decide +kernel) fun t hf y => ?_
  blk_simp
  rw [after0_4]
  refine (out4_at m c t y).trans ?_
  idx_vars y
  have E : (((cfg0.win 4).blk t).view.emb (ix2 y0 y1) : S8192x512.Idx) = ix2 (tok t y0) y1 := by
    blk_ext [idx t, tok]
  refine Eq.trans ?_ (congrArg (R1 m c) E.symm)
  rfl
theorem final2 (c : Dev nD) : (dats m 0 c).arrAt 5 (cfgs 0).N = R2 m c := by
  refine (dats m 0 c).arrAt_eq_of_covers 5 _ (by decide +kernel) fun t hf y => ?_
  blk_simp
  rw [after0_5]
  refine (out5_at m c t y).trans ?_
  idx_vars y
  have E : (((cfg0.win 5).blk t).view.emb (ix2 y0 y1) : S1024x8192.Idx) = ix2 y0 (tok t y1) := by
    blk_ext [idx t, tok]
  refine Eq.trans ?_ (congrArg (R2 m c) E.symm)
  rfl

end

section
open Cert.Reference4Ideal Cert.Reference4Ideal.Read

theorem one_eq : Ideal.ofBits .f32 0x3F800000#32 = 1 := by
  simp [Ideal.ofBits, Ideal.ieee, -EReal.coe_mul]; norm_num

theorem ref17 (A : Args) (i : S8192x1024.Idx) : val_main_v17 (F := Ideal) A.x A.g A.sh A.sc i = h A (i 0) (i 1) := by
  simp only [val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply]
  idx_vars i
  have e : ∀ k : Fin 1024, idx_main_v1 (idx_main_v2 (idx_main_v8 (ix2 i0 i1))) k = ix2 i0 k := fun k => by
    funext a; fin_cases a <;> rfl
  have e1 : idx_main_v10 (ix2 i0 i1) = ix2 0 i1 := by funext a; fin_cases a <;> rfl
  have e2 : idx_main_v14 (ix2 i0 i1) = ix2 0 i1 := by funext a; fin_cases a <;> rfl
  have e3 : idx_main_v16 (ix2 i0 i1) = ix2 0 i1 := by funext a; fin_cases a <;> rfl
  simp only [e, e1, e2, e3]
  have z0 : (FloatOps.ofBits FTy.f32 0#32 : Ideal .f32) = 0 := Ideal.ofBits_zero _
  have z1 : (FloatOps.ofBits FTy.f32 1065353216#32 : Ideal .f32) = 1 := one_eq
  rw [z0, z1, zero_add]
  rfl

theorem ref18 (A : Args) : val_main_v18 (F := Ideal) A.x A.g A.sh A.sc A.w = fun y => z A (y 0) (y 1) := by
  funext y
  rw [val_main_v18_apply]
  refine Finset.sum_congr rfl fun k _ => congrArg₂ (· * ·) (ref17 A _) (congrArg A.w ?_)
  funext a; fin_cases a <;> rfl

theorem ref31 (A : Args) : val_main_v31 (F := Ideal) A.x A.g A.sh A.sc = fun y => h A (y 1) (y 0) := by
  funext y
  rw [val_main_v31_apply, val_main_v30_apply]
  exact ref17 A _

theorem ref29 (A : Args) : val_main_v29 (F := Ideal) A.x A.g A.sh A.sc A.w = fun y => a0 A (y 0) (y 1) := by
  funext y
  rw [val_main_v29_apply, val_main_v28_apply, val_main_v27_apply, val_main_v26_apply, val_main_v25_apply, val_main_v24_apply, val_main_v23_apply,
    val_main_v20_apply, val_main_v19_apply, val_main_cst_3_apply, val_main_cst_4_apply, ref18]
  idx_vars y
  have z1 : (FloatOps.ofBits FTy.f32 1065353216#32 : Ideal .f32) = 1 := one_eq
  rw [z1]
  refine congrArg₂ (fun p q => z A y0 p * Ideal.logistic (z A y0 q)) (Fin.ext ?_) (Fin.ext ?_)
  · rfl
  · rfl

section meet
variable {m : (ℓ : Loc Kernel4Ideal.nD Kernel4Ideal.τ Kernel4Ideal.sig) → Buf (Elt Ideal) ℓ} {c : Dev Kernel4Ideal.nD} {z0 : FVec Ideal S8192x1024 .f32}
  {z1 z2 z3 : FVec Ideal S1x1024 .f32} {z4 : FVec Ideal S1024x2048 .f32}
  (e0 : z0 = (kA m c).x) (e1 : z1 = (kA m c).g) (e2 : z2 = (kA m c).sh) (e3 : z3 = (kA m c).sc) (e4 : z4 = (kA m c).w)
include e0 e1 e2 e3

theorem meet2 : val_main_v31 (F := Ideal) z0 z1 z2 z3 = R2 m c := by
  subst e0 e1 e2 e3
  exact ref31 (kA m c)
include e4
theorem meet0 : val_main_v18 (F := Ideal) z0 z1 z2 z3 z4 = R0 m c := by
  subst e0 e1 e2 e3 e4
  exact ref18 (kA m c)
theorem meet1 : val_main_v29 (F := Ideal) z0 z1 z2 z3 z4 = R1 m c := by
  subst e0 e1 e2 e3 e4
  exact ref29 (kA m c)
end meet

end

end Cert.FwdIn
-- ==== Proof.FwdSpec.lean ====
module

public import proofs.«01_k».proof.Proof.Spec
public import Idealize.ShloMosaic.Lib.Pipeline.ValueKit

@[expose] public section

set_option maxRecDepth 16384
noncomputable section

/-! The ConvFFN forward with its residual, the final normalisation, the loss and the loss's gradient, entry by entry. -/
namespace Cert.FwdFfn

open Idealize.ShloMosaic Cert.FfnGrad

/-- The arguments: those of the ConvFFN, whose first array is here the residual's input, the target and the final gain. -/
structure Args5 where
  A : Args
  T : (⟨2, ![8192, 1024]⟩ : Shape).Idx → EReal
  G : (⟨2, ![1, 1024]⟩ : Shape).Idx → EReal

abbrev cN : EReal := Ideal.ofBits .f32 0x44800000#32
abbrev cE : EReal := Ideal.ofBits .f32 0x358637BD#32
abbrev cL : EReal := Ideal.ofBits .f32 0x3A000000#32
abbrev cD : EReal := Ideal.ofBits .f32 0x3A800000#32

theorem cN_eq : cN = ((1024 : ℝ) : EReal) := by
  simp [Ideal.ofBits, Ideal.ieee, -EReal.coe_mul]; norm_num
theorem cL_eq : cL = ((1 / 2048 : ℝ) : EReal) := by
  simp [Ideal.ofBits, Ideal.ieee, -EReal.coe_mul]; norm_num
theorem cD_eq : cD = ((1 / 1024 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem nhalf_eq : Ideal.ofBits .f32 0xBF000000#32 = ((-(1 / 2) : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem one_eq : Ideal.ofBits .f32 0x3F800000#32 = 1 := by
  simp [Ideal.ofBits, Ideal.ieee, -EReal.coe_mul]; norm_num
theorem cE_pos : ∃ e : ℝ, 0 < e ∧ cE = (e : EReal) := by
  refine ⟨_, ?_, (by simp [Ideal.ofBits, Ideal.ieee, -EReal.coe_mul]; rfl)⟩
  norm_num

variable (B : Args5)

/-- The down projection. -/
def ff (s : Fin 8192) (d : Fin 1024) : EReal := ∑ f : Fin 2816, fv B.A s f * B.A.X6 (ix2 f d)
/-- The residual's output. -/
def x3 (s : Fin 8192) (d : Fin 1024) : EReal := B.A.X0 (ix2 s d) + B.A.X2 (ix2 0 d) * ff B s d
/-- The mean square of a row, moved off zero. -/
def ms (s : Fin 8192) : EReal := Ideal.div (∑ d : Fin 1024, x3 B s d * x3 B s d) cN + cE
/-- The inverse root mean square. -/
def rs (s : Fin 8192) : EReal := Ideal.rsqrt (ms B s)
/-- The normalised rows. -/
def xn (s : Fin 8192) (d : Fin 1024) : EReal := x3 B s d * rs B s
/-- The error against the target. -/
def er (s : Fin 8192) (d : Fin 1024) : EReal := xn B s d * B.G (ix2 0 d) - B.T (ix2 s d)
/-- The gradient of the model's output. -/
def go (s : Fin 8192) (d : Fin 1024) : EReal := er B s d * cD
/-- The gradient of the normalised rows. -/
def gn (s : Fin 8192) (d : Fin 1024) : EReal := go B s d * B.G (ix2 0 d)
/-- The gradient of the residual's output. -/
def dx (s : Fin 8192) (d : Fin 1024) : EReal :=
  rs B s * (gn B s d - xn B s d * Ideal.div (∑ e : Fin 1024, gn B s e * xn B s e) cN)
/-- The gradient of the final gain. -/
def dG (d : Fin 1024) : EReal := ∑ s : Fin 8192, go B s d * xn B s d
/-- The loss, feature by feature. -/
def ls (d : Fin 1024) : EReal := (∑ s : Fin 8192, er B s d * er B s d) * cL
/-- The gradient of the gate row. -/
def dg (d : Fin 1024) : EReal := ∑ s : Fin 8192, dx B s d * ff B s d
/-- The eight rows of sums. -/
def acc5 (r : ℕ) (d : Fin 1024) : EReal := if r = 0 then dG B d else if r = 1 then ls B d else if r = 2 then dg B d else 0

/-! ## The down projection by groups of padded columns -/

theorem sum_pf (f g : Fin 2816 → EReal) (j : Fin 4) :
    ∑ l : Fin 768, pf f j l.val * pf g j l.val = ∑ l : Fin 704, f (fcol j l) * g (fcol j l) := by
  rw [Fin.sum_univ_two_halves 704 64 rfl]
  have h2 : ∀ l : Fin 64, pf f j (704 + l.val) * pf g j (704 + l.val) = 0 := fun l => by
    unfold pf
    rw [dif_neg (by omega), zero_mul]
  simp only [h2, Finset.sum_const_zero, add_zero]
  refine Finset.sum_congr rfl fun l _ => ?_
  unfold pf
  rw [dif_pos l.isLt, dif_pos l.isLt]

theorem sum_groups (g : Fin 2816 → EReal) : ∑ j : Fin 4, ∑ l : Fin 704, g (fcol j l) = ∑ f : Fin 2816, g f := by
  let h : ℕ → EReal := fun i => if h : i < 2816 then g ⟨i, h⟩ else 0
  have e : ∀ f : Fin 2816, g f = h f.val := fun f => by
    show g f = if h : f.val < 2816 then g ⟨f.val, h⟩ else 0
    rw [dif_pos f.isLt]
  have h1 : ∀ j : Fin 4, ∑ l : Fin 704, g (fcol j l) = ∑ l : Fin 704, h (j.val * 704 + l.val) := fun j =>
    Finset.sum_congr rfl fun l _ => e _
  rw [Finset.sum_congr rfl fun j _ => h1 j, Fin.sum_univ_univ_mul_add 4 704 h]
  exact Finset.sum_congr rfl fun f _ => (e f).symm

/-- One group's part of the down projection. -/
def part (j : Fin 4) (s : Fin 8192) (d : Fin 1024) : EReal :=
  ∑ l : Fin 768, pf (fv B.A s) j l.val * pf (fun f => B.A.X6 (ix2 f d)) j l.val
theorem ff_parts (s : Fin 8192) (d : Fin 1024) : 0 + part B 0 s d + part B 1 s d + part B 2 s d + part B 3 s d = ff B s d := by
  have e : ∑ j : Fin 4, part B j s d = ff B s d := by
    unfold part ff
    rw [Finset.sum_congr rfl fun j _ => sum_pf (fv B.A s) (fun f => B.A.X6 (ix2 f d)) j]
    exact sum_groups fun f => fv B.A s f * B.A.X6 (ix2 f d)
  rw [← e, Fin.sum_univ_four, zero_add]

/-! ## The convolution's window -/

/-- The up projection eight tokens before token `i`, with the padding columns, zero before the first token. -/
def Bn (A : Args) (a : Fin 2) (j : Fin 4) (i : ℕ) (l : ℕ) : EReal :=
  if h : 8 ≤ i ∧ i < 8200 then pc (up A ⟨i - 8, by omega⟩) a j l else 0
theorem Bn_up (A : Args) (a : Fin 2) (j : Fin 4) (s : Fin 8192) (i l : ℕ) (h : i = s.val + 8) : Bn A a j i l = pc (up A s) a j l := by
  subst h
  unfold Bn
  rw [dif_pos (by omega)]
  congr 2
theorem Bn_back (A : Args) (k : ℕ) (hk : k ≤ 8) (a : Fin 2) (j : Fin 4) (s : Fin 8192) (i l : ℕ) (h : i + k = s.val + 8) :
    Bn A a j i l = pc (back A k s) a j l := by
  unfold Bn pc back
  by_cases hl : l < 704
  · simp only [dif_pos hl]
    by_cases hs : s.val < k
    · rw [dif_neg (by omega), dif_pos hs]
    · rw [dif_pos (by omega), dif_neg hs]
      congr 2
      omega
  · simp only [dif_neg hl, dite_eq_ite, ite_self]
theorem pc_cv (A : Args) (s : Fin 8192) (a : Fin 2) (j : Fin 4) (l : ℕ) :
    pc (fun n => A.X5 (ix2 0 n)) a j l + pc (fun n => A.X4 (ix2 0 n)) a j l * pc (back A 2 s) a j l
      + pc (fun n => A.X4 (ix2 1 n)) a j l * pc (back A 1 s) a j l + pc (fun n => A.X4 (ix2 2 n)) a j l * pc (up A s) a j l = pc (cv A s) a j l := by
  unfold pc
  by_cases h : l < 704
  · simp only [dif_pos h, cv]
    ac_rfl
  · simp only [dif_neg h, mul_zero, add_zero]

/-! ## Sums of tiles -/

theorem mul_const {ι : Type*} (S : Finset ι) (f : ι → EReal) : ∑ i ∈ S, f i * cL = (∑ i ∈ S, f i) * cL := by
  classical
  induction S using Finset.induction_on with
  | empty => simp
  | insert a S ha ih =>
    rw [Finset.sum_insert ha, Finset.sum_insert ha, ih, EReal.right_distrib_of_nonneg_of_ne_top]
    · rw [cL_eq]; exact_mod_cast (by norm_num : (0 : ℝ) ≤ 1 / 2048)
    · rw [cL_eq]; exact EReal.coe_ne_top _

/-- The tiles' sums are the sum over the tokens. -/
theorem fold_tok (F : Fin 8192 → EReal) (p : Fin 32 → Fin 256 → Fin 8192) (hp : ∀ t r, (p t r).val = t.val * 256 + r.val) :
    ∑ t : Fin 32, ∑ r : Fin 256, F (p t r) = ∑ s : Fin 8192, F s := by
  let f : ℕ → EReal := fun i => if h : i < 8192 then F ⟨i, h⟩ else 0
  have e : ∀ s : Fin 8192, F s = f s.val := fun s => by
    show F s = if h : s.val < 8192 then F ⟨s.val, h⟩ else 0
    rw [dif_pos s.isLt]
  have h1 : ∀ t : Fin 32, ∑ r : Fin 256, F (p t r) = ∑ r : Fin 256, f (t.val * 256 + r.val) := fun t =>
    Finset.sum_congr rfl fun r _ => (e _).trans (congrArg f (hp t r))
  rw [Finset.sum_congr rfl fun t _ => h1 t, Fin.sum_univ_univ_mul_add 32 256 f]
  exact Finset.sum_congr rfl fun s _ => (e s).symm

/-! ## The gradient through the norm -/

theorem coe_sum {N : ℕ} (f : Fin N → ℝ) : ((∑ i, f i : ℝ) : EReal) = ∑ i, (f i : EReal) := by
  classical
  induction (Finset.univ : Finset (Fin N)) using Finset.induction_on with
  | empty => simp
  | insert a S ha ih => rw [Finset.sum_insert ha, Finset.sum_insert ha, EReal.coe_add, ih]

theorem sum_mul_coe {N : ℕ} (f : Fin N → EReal) (r : ℝ) (hr : 0 ≤ r) : ∑ i, f i * (r : EReal) = (∑ i, f i) * (r : EReal) := by
  classical
  induction (Finset.univ : Finset (Fin N)) using Finset.induction_on with
  | empty => simp
  | insert a S ha ih =>
    rw [Finset.sum_insert ha, Finset.sum_insert ha, ih, EReal.right_distrib_of_nonneg_of_ne_top (by exact_mod_cast hr) (EReal.coe_ne_top _)]

theorem sq_nonneg (x : EReal) : 0 ≤ x * x := by
  induction x with
  | bot => simp
  | top => simp
  | coe a => exact_mod_cast mul_self_nonneg a

theorem sq_top {x : EReal} (h : ¬ Rl x) : x * x = ⊤ := by
  induction x with
  | bot => simp
  | top => simp
  | coe a => exact absurd ⟨a, rfl⟩ h

/-- A real number times a value, twice, is twice the number times the value. -/
theorem add_twice (u : ℝ) (x : EReal) : (u : EReal) * x + (u : EReal) * x = ((u + u : ℝ) : EReal) * x := by
  induction x with
  | coe a => norm_cast; ring
  | top =>
    rcases lt_trichotomy u 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy u 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

variable {B}

/-- A row's mean square is infinite, or the row is real. -/
theorem ms_cases (s : Fin 8192) : ms B s = ⊤ ∨ ∃ p : ℝ, 0 < p ∧ ms B s = p ∧ ∀ d, Rl (x3 B s d) := by
  obtain ⟨e, he, hE⟩ := cE_pos
  by_cases h : ∀ d, Rl (x3 B s d)
  · refine Or.inr ?_
    choose X hX using h
    refine ⟨(∑ d, X d * X d) * (1 / 1024) + e, ?_, ?_, fun d => ⟨X d, hX d⟩⟩
    · have : 0 ≤ ∑ d, X d * X d := Finset.sum_nonneg fun d _ => mul_self_nonneg _
      positivity
    · unfold ms
      rw [hE, cN_eq, Ideal.div_coe (by norm_num)]
      simp only [hX]
      rw [EReal.coe_add, EReal.coe_mul, coe_sum]
      simp only [EReal.coe_mul]
  · refine Or.inl ?_
    push Not at h
    obtain ⟨d, hd⟩ := h
    have e1 : ∑ d : Fin 1024, x3 B s d * x3 B s d = ⊤ := by
      refine top_le_iff.mp ?_
      rw [← sq_top hd]
      exact Finset.single_le_sum (f := fun d => x3 B s d * x3 B s d) (fun i _ => sq_nonneg _) (Finset.mem_univ d)
    unfold ms
    rw [e1, hE, cN_eq, Ideal.div_coe (by norm_num), EReal.top_mul_coe_of_pos (by norm_num), EReal.top_add_coe]

/-- The gradient through the normalisation as the chain rule gives it is the gradient in its short form. -/
theorem dx_chain (s : Fin 8192) (d : Fin 1024) (v : EReal)
    (hv : v = Ideal.div ((∑ e : Fin 1024, x3 B s e * gn B s e) * (Ideal.ofBits .f32 0xBF000000#32 * Ideal.div (rs B s) (ms B s))) cN) :
    gn B s d * rs B s + x3 B s d * v + v * x3 B s d = dx B s d := by
  subst hv
  rcases ms_cases (B := B) s with hm | ⟨p, hp, hm, hX⟩
  · have hr : rs B s = 0 := by
      unfold rs
      rw [hm]; rfl
    unfold dx
    rw [hr, hm, cN_eq, Ideal.div_coe (by norm_num)]
    have e : Ideal.div 0 ⊤ = 0 := by
      unfold Ideal.div
      rw [if_neg EReal.top_ne_zero, zero_mul]
    rw [e]
    simp
  · choose X hX using hX
    have hr0 : 0 ≤ (Real.sqrt p)⁻¹ := inv_nonneg.mpr (Real.sqrt_nonneg p)
    have hrr : (Real.sqrt p)⁻¹ * (Real.sqrt p)⁻¹ = 1 / p := by
      rw [← mul_inv, Real.mul_self_sqrt hp.le, one_div]
    have hr : rs B s = ((Real.sqrt p)⁻¹ : ℝ) := by
      unfold rs
      rw [hm, Ideal.rsqrt_coe, if_neg hp.not_gt, if_neg hp.ne']
    generalize (Real.sqrt p)⁻¹ = r at hr0 hrr hr
    unfold dx xn
    simp only [hr, hm, hX, nhalf_eq, cN_eq]
    rw [Ideal.div_coe (by norm_num), Ideal.div_coe hp.ne', Ideal.div_coe (by norm_num)]
    have e2 : ∑ e : Fin 1024, gn B s e * ((X e : EReal) * (r : EReal)) = (∑ e, (X e : EReal) * gn B s e) * (r : EReal) := by
      rw [← sum_mul_coe _ r hr0]
      exact Finset.sum_congr rfl fun e _ => by rw [← mul_assoc, mul_comm (gn B s e)]
    rw [e2]
    generalize (∑ e : Fin 1024, (X e : EReal) * gn B s e) = S
    generalize gn B s d = g
    have e3 : (X d : EReal) * (S * (((-(1 / 2) : ℝ) : EReal) * ((r : EReal) * ((1 / p : ℝ) : EReal))) * ((1 / 1024 : ℝ) : EReal))
        = ((X d * (-(1 / 2) * (r * (1 / p))) * (1 / 1024) : ℝ) : EReal) * S := by
      simp only [EReal.coe_mul]
      ac_rfl
    rw [mul_comm _ (X d : EReal), e3, add_assoc, add_twice, sub_eq_add_neg, EReal.left_distrib_of_nonneg_of_ne_top (by exact_mod_cast hr0) (EReal.coe_ne_top _), mul_comm g]
    refine congrArg (fun x : EReal => (r : EReal) * g + x) ?_
    have e4 : (r : EReal) * -((X d : EReal) * (r : EReal) * (S * (r : EReal) * ((1 / 1024 : ℝ) : EReal)))
        = ((-(r * (X d * r) * (r * (1 / 1024))) : ℝ) : EReal) * S := by
      rw [EReal.coe_neg, mul_neg, EReal.neg_mul]
      refine congrArg Neg.neg ?_
      simp only [EReal.coe_mul]
      ac_rfl
    rw [e4]
    refine congrArg (fun u : ℝ => (u : EReal) * S) ?_
    rw [← hrr]
    ring

end Cert.FwdFfn
-- ==== Proof.FwdPt.lean ====
module

public import proofs.«01_k».proof.Proof.Gen.Kernel5Ideal.Frame
public import Idealize.ShloMosaic.Lib.Pipeline.ValueKit
public import Idealize.ShloMosaic.Lib.Pointwise
public import Idealize.ShloMosaic.Lib.StableHlo.ReadAt
public import Idealize.ShloMosaic.Lib.Claim
public import proofs.«01_k».proof.Proof.FwdSpec

@[expose] public section

set_option maxRecDepth 16384
noncomputable section

/-! One grid point of the forward ConvFFN: its blocks and what it computes from them. -/
open Idealize.ShloMosaic Idealize.ShloMosaic.TcCoe Idealize.SL.Sem
open Idealize.ShloMosaic.Pipeline (Dat)

namespace Cert.FwdFfn

open Cert.Kernel5Ideal Cert.Kernel5Ideal.Gen Cert.FfnGrad

variable (m : (ℓ : Loc nD τ sig) → Buf (Elt Ideal) ℓ)

/-- The arguments on one device. -/
abbrev aH (c : Dev nD) : FVec Ideal S8192x1024 .f32 := m ((c : Thread nD τ).loc main_arg0)
abbrev aX (c : Dev nD) : FVec Ideal S8192x1024 .f32 := m ((c : Thread nD τ).loc main_arg1)
abbrev aT (c : Dev nD) : FVec Ideal S8192x1024 .f32 := m ((c : Thread nD τ).loc main_arg2)
abbrev aE (c : Dev nD) : FVec Ideal S1x1024 .f32 := m ((c : Thread nD τ).loc main_arg3)
abbrev aG (c : Dev nD) : FVec Ideal S1x1024 .f32 := m ((c : Thread nD τ).loc main_arg4)
abbrev aU (c : Dev nD) : FVec Ideal S1024x5632 .f32 := m ((c : Thread nD τ).loc main_arg5)
abbrev aC (c : Dev nD) : FVec Ideal S3x5632 .f32 := m ((c : Thread nD τ).loc main_arg6)
abbrev aB (c : Dev nD) : FVec Ideal S1x5632 .f32 := m ((c : Thread nD τ).loc main_arg7)
abbrev aD (c : Dev nD) : FVec Ideal S2816x1024 .f32 := m ((c : Thread nD τ).loc main_arg8)

/-- The arguments as the formulas take them. -/
abbrev kB (c : Dev nD) : Args5 := ⟨⟨aX m c, aH m c, aE m c, aU m c, aC m c, aB m c, aD m c⟩, aT m c, aG m c⟩

/-! ## The arrays the call is given -/

theorem sitofp0 (φ : FTy) : (FloatOps.sitofp φ 0#32 : Ideal φ) = 0 := by
  simp [FloatOps.sitofp]

theorem h2_at (c : Dev nD) (s : Fin 8192) (k : Fin 1024) :
    (show FVec Ideal S8192x1024 .bf16 from V m c main_v21) (ix2 s k) = aH m c (ix2 s k) := by
  unfold V
  after_reads_at

theorem vE_at (c : Dev nD) (k : Fin 16) (d : Fin 1024) (hk : k.val = 7) :
    (show FVec Ideal S16x1024 .f32 from V m c main_v20) (ix2 k d) = aE m c (ix2 0 d) := by
  unfold V
  after_reads_at
  after_reads_at
  rw [dif_neg (by omega), dif_pos (by omega)]
  congr 2
  exact Fin.ext (by show k.val - 7 = 0; omega)

theorem vG_at (c : Dev nD) (k : Fin 16) (d : Fin 1024) (hk : k.val = 9) :
    (show FVec Ideal S16x1024 .f32 from V m c main_v20) (ix2 k d) = aG m c (ix2 0 d) := by
  unfold V
  after_reads_at
  after_reads_at
  rw [dif_neg (by omega), dif_neg (by omega), dif_neg (by omega), dif_pos (by omega)]
  congr 2
  exact Fin.ext (by show k.val - 9 = 0; omega)

theorem wup_at (c : Dev nD) (k : Fin 8) (l : Fin 768) (d : Fin 1024) (a : Fin 2) (j : Fin 4) (hk : k.val = a.val * 4 + j.val) :
    (show FVec Ideal S8x768x1024 .bf16 from V m c main_v13) (ix3 k l d) = pc (fun n => aU m c (ix2 d n)) a j l.val := by
  unfold V
  after_reads_at
  unfold pc
  by_cases h : l.val < 704
  · rw [dif_pos h, dif_pos h]
    congr 2
    apply Fin.ext
    show k.val * 704 + l.val = a.val * 2816 + j.val * 704 + l.val
    omega
  · rw [dif_neg h, dif_neg h]
    exact sitofp0 _

theorem wdn_at (c : Dev nD) (j : Fin 4) (l : Fin 768) (d : Fin 1024) :
    (show FVec Ideal S4x768x1024 .bf16 from V m c main_v16) (ix3 j l d) = pf (fun f => aD m c (ix2 f d)) j l.val := by
  unfold V
  after_reads_at
  unfold pf
  by_cases h : l.val < 704
  · rw [dif_pos h, dif_pos h]
    rfl
  · rw [dif_neg h, dif_neg h]
    exact sitofp0 _

theorem wb_at (c : Dev nD) (r : Fin 8) (hr : r.val < 3) (q : Fin 6144) :
    (show FVec Ideal S8x6144 .f32 from V m c main_v9) (ix2 r q) = pq (fun n => aC m c (ix2 ⟨r.val, hr⟩ n)) q := by
  have hq : q.val / 768 < 8 := by omega
  generalize hz : pq (fun n => aC m c (ix2 ⟨r.val, hr⟩ n)) q = z
  unfold V
  after_reads_at
  after_reads_at
  subst hz
  by_cases h : q.val % 768 < 704
  · simp only [hq, h, hr, and_self, dif_pos, pq]
  · simp only [hq, h, hr, and_false, dif_neg, dif_pos, pq, not_false_eq_true]
    exact sitofp0 _

theorem bias_at (c : Dev nD) (r : Fin 8) (hr : r.val = 3) (q : Fin 6144) :
    (show FVec Ideal S8x6144 .f32 from V m c main_v9) (ix2 r q) = pq (fun n => aB m c (ix2 0 n)) q := by
  have hq : q.val / 768 < 8 := by omega
  have hr1 : ¬ r.val < 3 := by omega
  have hr2 : r.val < 4 := by omega
  generalize hz : pq (fun n => aB m c (ix2 0 n)) q = z
  unfold V
  after_reads_at
  after_reads_at
  subst hz
  have hr3 : r.val - 3 < 1 := by omega
  by_cases h : q.val % 768 < 704
  · simp only [hq, h, hr1, hr3, and_self, dif_pos, dif_neg, pq, not_false_eq_true]
  · simp only [hq, h, hr1, hr3, and_false, dif_neg, dif_pos, pq, not_false_eq_true]
    exact sitofp0 _

/-! ## The blocks -/

theorem t_lt (t : Fin cfg0.N) : t.val < 32 := t.isLt
/-- The token of row `r` of a grid point's tile. -/
def tok (t : Fin cfg0.N) (r : Fin 256) : Fin 8192 := ⟨t.val * 256 + r.val, by have := t_lt t; omega⟩

theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] :=
  (by decide +kernel : ∀ t : Fin grid0.N, _)

theorem b0 (c : Dev nD) (t : Fin cfg0.N) (r : Fin 256) (d : Fin 1024) :
    (iblk m c 0 t : FVec Ideal S256x1024 .bf16) (ix2 r d) = aH m c (ix2 (tok t r) d) := by
  rw [← h2_at]
  blk_ext [iblk, idx t, tok]
theorem b1 (c : Dev nD) (t : Fin cfg0.N) (r : Fin 256) (d : Fin 1024) :
    (iblk m c 1 t : FVec Ideal S256x1024 .f32) (ix2 r d) = aX m c (ix2 (tok t r) d) := by
  unfold tok
  blk_ext [iblk, V, idx t]
theorem b2 (c : Dev nD) (t : Fin cfg0.N) (r : Fin 256) (d : Fin 1024) :
    (iblk m c 2 t : FVec Ideal S256x1024 .f32) (ix2 r d) = aT m c (ix2 (tok t r) d) := by
  unfold tok
  blk_ext [iblk, V, idx t]
theorem b3 (c : Dev nD) (t : Fin cfg0.N) (k : Fin 16) (d : Fin 1024) :
    (iblk m c 3 t : FVec Ideal S16x1024 .f32) (ix2 k d) = (show FVec Ideal S16x1024 .f32 from V m c main_v20) (ix2 k d) := by
  blk_ext [iblk, idx t]
theorem b4 (c : Dev nD) (t : Fin cfg0.N) (r : Fin 8) (q : Fin 6144) :
    (iblk m c 4 t : FVec Ideal S8x6144 .f32) (ix2 r q) = (show FVec Ideal S8x6144 .f32 from V m c main_v9) (ix2 r q) := by
  blk_ext [iblk, idx t]

/-- Row `k` of the sixteen vectors. -/
abbrev rv (k : ℕ) (inb : ∀ a, (![k, 0] : Fin 2 → Nat) a + (![1, 1024] : Fin 2 → Nat) a ≤ S16x1024.size a) : Rect S16x1024 := Rect.unit (![k, 0] : Fin 2 → Nat) (![1, 1024] : Fin 2 → Nat) inb
theorem ldE (c : Dev nD) (t : Fin cfg0.N) (inb) (d : Fin 1024) :
    View.ld (Val := Elt Ideal) (S := S16x1024) (e' := .f32) (iblk m c 3 t) (rv 7 inb) (ix2 0 d) = aE m c (ix2 0 d) := by
  refine Eq.trans (congrArg (iblk m c 3 t : FVec Ideal S16x1024 .f32) ?_) ((b3 m c t 7 d).trans (vE_at m c 7 d rfl))
  funext a
  apply Fin.ext
  fin_cases a
  · rfl
  · show 0 + 1 * d.val = d.val
    omega
theorem ldG (c : Dev nD) (t : Fin cfg0.N) (inb) (d : Fin 1024) :
    View.ld (Val := Elt Ideal) (S := S16x1024) (e' := .f32) (iblk m c 3 t) (rv 9 inb) (ix2 0 d) = aG m c (ix2 0 d) := by
  refine Eq.trans (congrArg (iblk m c 3 t : FVec Ideal S16x1024 .f32) ?_) ((b3 m c t 9 d).trans (vG_at m c 9 d rfl))
  funext a
  apply Fin.ext
  fin_cases a
  · rfl
  · show 0 + 1 * d.val = d.val
    omega

/-- A row of one shard's convolution weights: the three taps, then the bias. -/
def row (A : Args) (r : Fin 4) : Fin 5632 → EReal := if h : r.val < 3 then fun n => A.X4 (ix2 ⟨r.val, h⟩ n) else fun n => A.X5 (ix2 0 n)

/-- A loaded row of the convolution's weights is that shard's. -/
def IsRow (A : Args) (r : Fin 4) (a : Fin 2) (j : Fin 4) (b : FVec Ideal S1x768 .f32) : Prop :=
  ∀ l : Fin 768, b (ix2 0 l) = pc (row A r) a j l.val

abbrev rb (r q : ℕ) (inb : ∀ a, (![r, q] : Fin 2 → Nat) a + (![1, 768] : Fin 2 → Nat) a ≤ S8x6144.size a) : Rect S8x6144 := Rect.unit (![r, q] : Fin 2 → Nat) (![1, 768] : Fin 2 → Nat) inb
theorem ldB (c : Dev nD) (t : Fin cfg0.N) (r : Fin 4) (a : Fin 2) (j : Fin 4) (q : ℕ) (hq : q = (a.val * 4 + j.val) * 768) (inb) :
    IsRow (kB m c).A r a j (View.ld (Val := Elt Ideal) (S := S8x6144) (e' := .f32) (iblk m c 4 t) (rb r.val q inb)) := by
  intro l
  have hq' : q + l.val < 6144 := by omega
  rw [← pq_eq _ ⟨q + l.val, hq'⟩ a j l (by simp only [hq])]
  have e := b4 m c t ⟨r.val, by omega⟩ ⟨q + l.val, hq'⟩
  refine Eq.trans (congrArg (iblk m c 4 t : FVec Ideal S8x6144 .f32) ?_) (e.trans ?_)
  · funext a
    apply Fin.ext
    fin_cases a
    · show r.val + 1 * 0 = r.val
      rfl
    · show q + 1 * l.val = q + l.val
      omega
  · unfold row
    by_cases h : r.val < 3
    · rw [dif_pos h]
      exact wb_at m c ⟨r.val, by omega⟩ h _
    · rw [dif_neg h]
      exact bias_at m c ⟨r.val, by omega⟩ (by show r.val = 3; omega) _

/-! ## What a point computes for one shard -/

/-- A tile's rows. -/
abbrev H (c : Dev nD) (t : Fin cfg0.N) : FVec Ideal S256x1024 .bf16 := k0_pay14 (iblk m c 0 t)
theorem H_at (c : Dev nD) (t : Fin cfg0.N) (r : Fin 256) (d : Fin 1024) : H m c t (ix2 r d) = aH m c (ix2 (tok t r) d) := by
  unfold H k0_pay14
  pointwise
  exact b0 m c t r d

/-- A shard's weights as the point reads them. -/
def IsW (A : Args) (a : Fin 2) (j : Fin 4) (W : FVec Ideal S1x1024x768 .bf16) : Prop :=
  ∀ (k : Fin 1024) (l : Fin 768), W (ix3 0 k l) = pc (fun n => A.X3 (ix2 k n)) a j l.val
/-- A group's down weights as the point reads them. -/
def IsD (A : Args) (j : Fin 4) (D : FVec Ideal S1x768x1024 .bf16) : Prop :=
  ∀ (l : Fin 768) (d : Fin 1024), D (ix3 0 l d) = pf (fun f => A.X6 (ix2 f d)) j l.val
/-- The rows carried from the tile before, as the point reads them. -/
def IsX (A : Args) (t : Fin cfg0.N) (a : Fin 2) (j : Fin 4) (X : FVec Ideal S8x768 .f32) : Prop :=
  ∀ (q : Fin 8) (l : Fin 768), X (ix2 q l) = Bn A a j (t.val * 256 + q.val) l.val
/-- A tile of the up projection. -/
def IsU (A : Args) (t : Fin cfg0.N) (a : Fin 2) (j : Fin 4) (U : FVec Ideal S256x768 .f32) : Prop :=
  ∀ (r : Fin 256) (l : Fin 768), U (ix2 r l) = pc (up A (tok t r)) a j l.val
/-- A tile of the convolution. -/
def IsC (A : Args) (t : Fin cfg0.N) (a : Fin 2) (j : Fin 4) (U : FVec Ideal S256x768 .f32) : Prop :=
  ∀ (r : Fin 256) (l : Fin 768), U (ix2 r l) = pc (cv A (tok t r)) a j l.val

theorem up_pt (c : Dev nD) (t : Fin cfg0.N) (a : Fin 2) (j : Fin 4) (W : FVec Ideal S1x1024x768 .bf16) (hW : IsW (kB m c).A a j W) :
    IsU (kB m c).A t a j (k0_pay23 (H m c t) W) := by
  intro r l
  unfold k0_pay23
  pointwise
  have e : ∀ k : Fin 1024, H m c t (ix2 r k) * W (ix3 0 k l) = aH m c (ix2 (tok t r) k) * pc (fun n => aU m c (ix2 k n)) a j l.val := fun k =>
    congrArg₂ (· * ·) (H_at m c t r k) (hW k l)
  refine (Finset.sum_congr rfl fun k _ => e k).trans ?_
  unfold pc
  by_cases h : l.val < 704
  · simp only [dif_pos h, up]
  · simp only [dif_neg h, mul_zero, Finset.sum_const_zero]

theorem cv_pt (A : Args) (t : Fin cfg0.N) (a : Fin 2) (j : Fin 4) (U : FVec Ideal S256x768 .f32) (X : FVec Ideal S8x768 .f32)
    (b w0 w1 w2 : FVec Ideal S1x768 .f32) (hU : IsU A t a j U) (hX : IsX A t a j X) (hb : IsRow A 3 a j b) (h0 : IsRow A 0 a j w0)
    (h1 : IsRow A 1 a j w1) (h2 : IsRow A 2 a j w2) : IsC A t a j (k0_pay56 U X b w0 w1 w2) := by
  intro r l
  have e2 : ∀ q : ℕ, ∀ hq : q + 2 = r.val + 8,
      (if h : q < 8 then X (ix2 ⟨q, h⟩ l) else U (ix2 ⟨q - 8, by omega⟩ l)) = pc (back A 2 (tok t r)) a j l.val := fun q hq => by
    rw [← Bn_back A 2 (by omega) a j (tok t r) (t.val * 256 + q) l.val (by show t.val * 256 + q + 2 = t.val * 256 + r.val + 8; omega)]
    by_cases h : q < 8
    · rw [dif_pos h]; exact hX ⟨q, h⟩ l
    · rw [dif_neg h, hU, Bn_up A a j _ (t.val * 256 + q)]
      show t.val * 256 + q = t.val * 256 + (q - 8) + 8
      omega
  have e1 : ∀ q : ℕ, ∀ hq : q + 1 = r.val + 8,
      (if h : q < 8 then X (ix2 ⟨q, h⟩ l) else U (ix2 ⟨q - 8, by omega⟩ l)) = pc (back A 1 (tok t r)) a j l.val := fun q hq => by
    rw [← Bn_back A 1 (by omega) a j (tok t r) (t.val * 256 + q) l.val (by show t.val * 256 + q + 1 = t.val * 256 + r.val + 8; omega)]
    by_cases h : q < 8
    · rw [dif_pos h]; exact hX ⟨q, h⟩ l
    · rw [dif_neg h, hU, Bn_up A a j _ (t.val * 256 + q)]
      show t.val * 256 + q = t.val * 256 + (q - 8) + 8
      omega
  rw [← pc_cv]
  unfold k0_pay56
  pointwise
  rw [e2 _ (by omega), e1 _ (by omega), hb, h0, h1, h2, hU]
  rfl

/-! ## The gate and the down projection -/

/-- One group's step of the down projection. -/
abbrev step (acc : FVec Ideal S256x1024 .f32) (v g : FVec Ideal S256x768 .f32) (D : FVec Ideal S1x768x1024 .bf16) : FVec Ideal S256x1024 .f32 :=
  k0_pay60 acc v g (tanh (mulf (broadcast S256x768 (Scalar.ofBits .f32 0x3F000000#32)) g)) (Scalar.ofBits .f32 0x3F000000#32) D

theorem step_pt (B : Args5) (t : Fin cfg0.N) (j : Fin 4) (acc : FVec Ideal S256x1024 .f32) (v g : FVec Ideal S256x768 .f32)
    (D : FVec Ideal S1x768x1024 .bf16) (hv : IsC B.A t 0 j v) (hg : IsC B.A t 1 j g) (hD : IsD B.A j D) (r : Fin 256) (d : Fin 1024) :
    step acc v g D (ix2 r d) = acc (ix2 r d) + part B j (tok t r) d := by
  unfold step k0_pay60
  pointwise
  unfold part
  refine congrArg (_ + ·) (Finset.sum_congr rfl fun l _ => ?_)
  rw [hg, hv, hD]
  refine congrArg (· * _) ?_
  have e := sigmoid_tanh (pc (cv B.A (tok t r)) 1 j l.val) _ half_eq
  refine (congrArg (fun z => pc (cv B.A (tok t r)) 1 j l.val * z * pc (cv B.A (tok t r)) 0 j l.val) e).trans ?_
  unfold pc pf
  by_cases h : l.val < 704
  · simp only [dif_pos h, gt_col, vl_col]
    rfl
  · simp only [dif_neg h, mul_zero]

theorem ff_pt (B : Args5) (t : Fin cfg0.N) (v0 v1 v2 v3 g0 g1 g2 g3 : FVec Ideal S256x768 .f32) (D0 D1 D2 D3 : FVec Ideal S1x768x1024 .bf16)
    (hv0 : IsC B.A t 0 0 v0) (hv1 : IsC B.A t 0 1 v1) (hv2 : IsC B.A t 0 2 v2) (hv3 : IsC B.A t 0 3 v3)
    (hg0 : IsC B.A t 1 0 g0) (hg1 : IsC B.A t 1 1 g1) (hg2 : IsC B.A t 1 2 g2) (hg3 : IsC B.A t 1 3 g3)
    (hD0 : IsD B.A 0 D0) (hD1 : IsD B.A 1 D1) (hD2 : IsD B.A 2 D2) (hD3 : IsD B.A 3 D3) (r : Fin 256) (d : Fin 1024) :
    step (step (step (step k0_pay15 v0 g0 D0) v1 g1 D1) v2 g2 D2) v3 g3 D3 (ix2 r d) = ff B (tok t r) d := by
  rw [step_pt B t 3 _ v3 g3 D3 hv3 hg3 hD3, step_pt B t 2 _ v2 g2 D2 hv2 hg2 hD2, step_pt B t 1 _ v1 g1 D1 hv1 hg1 hD1,
    step_pt B t 0 _ v0 g0 D0 hv0 hg0 hD0, ← ff_parts]
  congr 4
  unfold k0_pay15
  pointwise

/-! ## The residual, the normalisation, the loss and its gradient -/

section tail
variable {m}
variable {c : Dev nD} {t : Fin cfg0.N} {o : FVec Ideal S256x1024 .f32} {u v w : FVec Ideal S256x768 .f32} {x : FVec Ideal S1x768 .f32} {D : FVec Ideal S1x768x1024 .bf16}

/-- The point's tile of the down projection is the one wanted. -/
def IsF (m : (ℓ : Loc nD τ sig) → Buf (Elt Ideal) ℓ) (c : Dev nD) (t : Fin cfg0.N) (O : FVec Ideal S256x1024 .f32) : Prop :=
  ∀ (r : Fin 256) (d : Fin 1024), O (ix2 r d) = ff (kB m c) (tok t r) d

abbrev gE (m : (ℓ : Loc nD τ sig) → Buf (Elt Ideal) ℓ) (c : Dev nD) (t : Fin cfg0.N) : FVec Ideal S1x1024 .f32 :=
  View.ld (Val := Elt Ideal) (S := S16x1024) (e' := .f32) (iblk m c 3 t) (rv 7 inb_S16x1024_S1x1024_7_0)
abbrev gG (m : (ℓ : Loc nD τ sig) → Buf (Elt Ideal) ℓ) (c : Dev nD) (t : Fin cfg0.N) : FVec Ideal S1x1024 .f32 :=
  View.ld (Val := Elt Ideal) (S := S16x1024) (e' := .f32) (iblk m c 3 t) (rv 9 inb_S16x1024_S1x1024_9_0)

theorem x3_pt (h : IsF m c t (k0_pay75 o u v w x D)) (r : Fin 256) (d : Fin 1024) :
    k0_pay76 o u v w x D (iblk m c 1 t) (gE m c t) (ix2 r d) = x3 (kB m c) (tok t r) d := by
  unfold k0_pay76
  pointwise
  exact congrArg₂ (· + ·) (b1 m c t r d) (congrArg₂ (· * ·) (ldE m c t _ d) (h r d))
theorem rs_pt (h : IsF m c t (k0_pay75 o u v w x D)) (r : Fin 256) :
    k0_pay77 o u v w x D (iblk m c 1 t) (gE m c t) (ix2 r 0) = rs (kB m c) (tok t r) := by
  unfold k0_pay77
  pointwise
  simp only [x3_pt h]
  rfl
theorem xn_pt (h : IsF m c t (k0_pay75 o u v w x D)) (r : Fin 256) (d : Fin 1024) :
    k0_pay78 o u v w x D (iblk m c 1 t) (gE m c t) (ix2 r d) = xn (kB m c) (tok t r) d := by
  unfold k0_pay78
  pointwise
  rw [x3_pt h, rs_pt h]
  rfl

/-- The point's tile of normalised rows is the one wanted. -/
def IsN (m : (ℓ : Loc nD τ sig) → Buf (Elt Ideal) ℓ) (c : Dev nD) (t : Fin cfg0.N) (O : FVec Ideal S256x1024 .f32) : Prop :=
  ∀ (r : Fin 256) (d : Fin 1024), O (ix2 r d) = xn (kB m c) (tok t r) d

variable {N O : FVec Ideal S256x1024 .f32} {R : FVec Ideal S256x1 .f32}
theorem er_pt (h : IsN m c t N) (r : Fin 256) (d : Fin 1024) : k0_pay80 N (gG m c t) (iblk m c 2 t) (ix2 r d) = er (kB m c) (tok t r) d := by
  unfold k0_pay80 k0_pay79
  pointwise
  exact congrArg₂ (· - ·) (congrArg₂ (· * ·) (h r d) (ldG m c t _ d)) (b2 m c t r d)
theorem go_pt (h : IsN m c t N) (r : Fin 256) (d : Fin 1024) : k0_pay82 N (gG m c t) (iblk m c 2 t) (ix2 r d) = go (kB m c) (tok t r) d := by
  unfold k0_pay82
  pointwise
  rw [er_pt h]
  rfl
theorem dx_pt (h : IsN m c t N) (hR : ∀ r : Fin 256, R (ix2 r 0) = rs (kB m c) (tok t r)) (r : Fin 256) (d : Fin 1024) :
    k0_pay84 R N (gG m c t) (iblk m c 2 t) (ix2 r d) = dx (kB m c) (tok t r) d := by
  unfold k0_pay84 k0_pay79
  pointwise
  have e : ∀ d : Fin 1024, gG m c t (ix2 0 d) = (kB m c).G (ix2 0 d) := fun d => ldG m c t _ d
  unfold IsN at h
  simp only [go_pt h, h, hR, e]
  rfl
theorem ls_pt (h : IsN m c t N) (X : FVec Ideal S1x1024 .f32) (d : Fin 1024) :
    k0_pay81 N (gG m c t) (iblk m c 2 t) X (ix2 0 d) = X (ix2 0 d) + (∑ r : Fin 256, er (kB m c) (tok t r) d * er (kB m c) (tok t r) d) * cL := by
  unfold k0_pay81
  pointwise
  simp only [er_pt h]
theorem dG_pt (h : IsN m c t N) (X : FVec Ideal S1x1024 .f32) (d : Fin 1024) :
    k0_pay83 N (gG m c t) (iblk m c 2 t) X (ix2 0 d) = X (ix2 0 d) + ∑ r : Fin 256, go (kB m c) (tok t r) d * xn (kB m c) (tok t r) d := by
  unfold k0_pay83
  pointwise
  unfold IsN at h
  simp only [go_pt h, h]
theorem dg_pt (h : IsF m c t O) (hN : ∀ (r : Fin 256) (d : Fin 1024), N (ix2 r d) = dx (kB m c) (tok t r) d) (X : FVec Ideal S1x1024 .f32) (d : Fin 1024) :
    k0_pay1 O N X (ix2 0 d) = X (ix2 0 d) + ∑ r : Fin 256, dx (kB m c) (tok t r) d * ff (kB m c) (tok t r) d := by
  unfold k0_pay1
  pointwise
  unfold IsF at h
  simp only [h, hN]

end tail

end Cert.FwdFfn
-- ==== Proof.FwdOuts.lean ====
module

public import proofs.«01_k».proof.Proof.FwdPt
public import proofs.«01_k».proof.Proof.Sums

/-! # What the points of the forward ConvFFN store, and the scratch they carry -/

@[expose] public section

set_option maxRecDepth 16384
noncomputable section

open Idealize.ShloMosaic Idealize.ShloMosaic.TcCoe Idealize.SL.Sem
open Idealize.ShloMosaic.Pipeline (Dat)

namespace Cert.FwdFfn

open Cert.Kernel5Ideal Cert.Kernel5Ideal.Gen Cert.FfnGrad

variable (m : (ℓ : Loc nD τ sig) → Buf (Elt Ideal) ℓ)

/-- What a point reads of its scratch is what the formulas say: the weights' eight shards, the carried rows' eight, the down weights' four. -/
structure Good (A : Args) (t : Fin cfg0.N) (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : Prop where
  hw0 : IsW A 0 0 w0
  hw1 : IsW A 0 1 w1
  hw2 : IsW A 0 2 w2
  hw3 : IsW A 0 3 w3
  hw4 : IsW A 1 0 w4
  hw5 : IsW A 1 1 w5
  hw6 : IsW A 1 2 w6
  hw7 : IsW A 1 3 w7
  hx0 : IsX A t 0 0 x0
  hx1 : IsX A t 0 1 x1
  hx2 : IsX A t 0 2 x2
  hx3 : IsX A t 0 3 x3
  hx4 : IsX A t 1 0 x4
  hx5 : IsX A t 1 1 x5
  hx6 : IsX A t 1 2 x6
  hx7 : IsX A t 1 3 x7
  hd0 : IsD A 0 d0
  hd1 : IsD A 1 d1
  hd2 : IsD A 2 d2
  hd3 : IsD A 3 d3

/-! ## The eight tiles of the convolution -/

section pt
variable (c : Dev nD) (t : Fin cfg0.N)
abbrev bw (r q : ℕ) (inb : ∀ a, (![r, q] : Fin 2 → Nat) a + (![1, 768] : Fin 2 → Nat) a ≤ S8x6144.size a) : FVec Ideal S1x768 .f32 :=
  View.ld (Val := Elt Ideal) (S := S8x6144) (e' := .f32) (iblk m c 4 t) (rb r q inb)

abbrev c0 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w0) x0 (bw m c t 3 0 inb_S8x6144_S1x768_3_0) (bw m c t 0 0 inb_S8x6144_S1x768_0_0) (bw m c t 1 0 inb_S8x6144_S1x768_1_0) (bw m c t 2 0 inb_S8x6144_S1x768_2_0)
abbrev c1 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w1) x1 (bw m c t 3 768 inb_S8x6144_S1x768_3_768) (bw m c t 0 768 inb_S8x6144_S1x768_0_768) (bw m c t 1 768 inb_S8x6144_S1x768_1_768) (bw m c t 2 768 inb_S8x6144_S1x768_2_768)
abbrev c2 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w2) x2 (bw m c t 3 1536 inb_S8x6144_S1x768_3_1536) (bw m c t 0 1536 inb_S8x6144_S1x768_0_1536) (bw m c t 1 1536 inb_S8x6144_S1x768_1_1536) (bw m c t 2 1536 inb_S8x6144_S1x768_2_1536)
abbrev c3 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w3) x3 (bw m c t 3 2304 inb_S8x6144_S1x768_3_2304) (bw m c t 0 2304 inb_S8x6144_S1x768_0_2304) (bw m c t 1 2304 inb_S8x6144_S1x768_1_2304) (bw m c t 2 2304 inb_S8x6144_S1x768_2_2304)
abbrev c4 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w4) x4 (bw m c t 3 3072 inb_S8x6144_S1x768_3_3072) (bw m c t 0 3072 inb_S8x6144_S1x768_0_3072) (bw m c t 1 3072 inb_S8x6144_S1x768_1_3072) (bw m c t 2 3072 inb_S8x6144_S1x768_2_3072)
abbrev c5 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w5) x5 (bw m c t 3 3840 inb_S8x6144_S1x768_3_3840) (bw m c t 0 3840 inb_S8x6144_S1x768_0_3840) (bw m c t 1 3840 inb_S8x6144_S1x768_1_3840) (bw m c t 2 3840 inb_S8x6144_S1x768_2_3840)
abbrev c6 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w6) x6 (bw m c t 3 4608 inb_S8x6144_S1x768_3_4608) (bw m c t 0 4608 inb_S8x6144_S1x768_0_4608) (bw m c t 1 4608 inb_S8x6144_S1x768_1_4608) (bw m c t 2 4608 inb_S8x6144_S1x768_2_4608)
abbrev c7 (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay56 (k0_pay23 (H m c t) w7) x7 (bw m c t 3 5376 inb_S8x6144_S1x768_3_5376) (bw m c t 0 5376 inb_S8x6144_S1x768_0_5376) (bw m c t 1 5376 inb_S8x6144_S1x768_1_5376) (bw m c t 2 5376 inb_S8x6144_S1x768_2_5376)
variable {w0 w1 w2 w3 w4 w5 w6 w7 : FVec Ideal S1x1024x768 .bf16} {x0 x1 x2 x3 x4 x5 x6 x7 : FVec Ideal S8x768 .f32}
  {d0 d1 d2 d3 : FVec Ideal S1x768x1024 .bf16} (h : Good (kB m c).A t w0 w1 w2 w3 w4 w5 w6 w7 x0 x1 x2 x3 x4 x5 x6 x7 d0 d1 d2 d3)
include h
theorem c0_pt : IsC (kB m c).A t 0 0 (c0 m c t w0 w1 w2 w3 w4 w5 w6 w7 x0 x1 x2 x3 x4 x5 x6 x7 d0 d1 d2 d3) :=
  cv_pt _ t 0 0 _ _ _ _ _ _ (up_pt m c t 0 0 _ h.hw0) h.hx0 (ldB m c t 3 0 0 0 rfl _) (ldB m c t 0 0 0 0 rfl _) (ldB m c t 1 0 0 0 rfl _) (ldB m c t 2 0 0 0 rfl _)
theorem c1_pt : IsC (kB m c).A t 0 1 (c1 m c t w0 w1 w2 w3 w4 w5 w6 w7 x0 x1 x2 x3 x4 x5 x6 x7 d0 d1 d2 d3) :=
  cv_pt _ t 0 1 _ _ _ _ _ _ (up_pt m c t 0 1 _ h.hw1) h.hx1 (ldB m c t 3 0 1 768 rfl _) (ldB m c t 0 0 1 768 rfl _) (ldB m c t 1 0 1 768 rfl _) (ldB m c t 2 0 1 768 rfl _)
theorem c2_pt : IsC (kB m c).A t 0 2 (c2 m c t w0 w1 w2 w3 w4 w5 w6 w7 x0 x1 x2 x3 x4 x5 x6 x7 d0 d1 d2 d3) :=
  cv_pt _ t 0 2 _ _ _ _ _ _ (up_pt m c t 0 2 _ h.hw2) h.hx2 (ldB m c t 3 0 2 1536 rfl _) (ldB m c t 0 0 2 1536 rfl _) (ldB m c t 1 0 2 1536 rfl _) (ldB m c t 2 0 2 1536 rfl _)
theorem c3_pt : IsC (kB m c).A t 0 3 (c3 m c t w0 w1 w2 w3 w4 w5 w6 w7 x0 x1 x2 x3 x4 x5 x6 x7 d0 d1 d2 d3) :=
  cv_pt _ t 0 3 _ _ _ _ _ _ (up_pt m c t 0 3 _ h.hw3) h.hx3 (ldB m c t 3 0 3 2304 rfl _) (ldB m c t 0 0 3 2304 rfl _) (ldB m c t 1 0 3 2304 rfl _) (ldB m c t 2 0 3 2304 rfl _)
theorem c4_pt : IsC (kB m c).A t 1 0 (c4 m c t w0 w1 w2 w3 w4 w5 w6 w7 x0 x1 x2 x3 x4 x5 x6 x7 d0 d1 d2 d3) :=
  cv_pt _ t 1 0 _ _ _ _ _ _ (up_pt m c t 1 0 _ h.hw4) h.hx4 (ldB m c t 3 1 0 3072 rfl _) (ldB m c t 0 1 0 3072 rfl _) (ldB m c t 1 1 0 3072 rfl _) (ldB m c t 2 1 0 3072 rfl _)
theorem c5_pt : IsC (kB m c).A t 1 1 (c5 m c t w0 w1 w2 w3 w4 w5 w6 w7 x0 x1 x2 x3 x4 x5 x6 x7 d0 d1 d2 d3) :=
  cv_pt _ t 1 1 _ _ _ _ _ _ (up_pt m c t 1 1 _ h.hw5) h.hx5 (ldB m c t 3 1 1 3840 rfl _) (ldB m c t 0 1 1 3840 rfl _) (ldB m c t 1 1 1 3840 rfl _) (ldB m c t 2 1 1 3840 rfl _)
theorem c6_pt : IsC (kB m c).A t 1 2 (c6 m c t w0 w1 w2 w3 w4 w5 w6 w7 x0 x1 x2 x3 x4 x5 x6 x7 d0 d1 d2 d3) :=
  cv_pt _ t 1 2 _ _ _ _ _ _ (up_pt m c t 1 2 _ h.hw6) h.hx6 (ldB m c t 3 1 2 4608 rfl _) (ldB m c t 0 1 2 4608 rfl _) (ldB m c t 1 1 2 4608 rfl _) (ldB m c t 2 1 2 4608 rfl _)
theorem c7_pt : IsC (kB m c).A t 1 3 (c7 m c t w0 w1 w2 w3 w4 w5 w6 w7 x0 x1 x2 x3 x4 x5 x6 x7 d0 d1 d2 d3) :=
  cv_pt _ t 1 3 _ _ _ _ _ _ (up_pt m c t 1 3 _ h.hw7) h.hx7 (ldB m c t 3 1 3 5376 rfl _) (ldB m c t 0 1 3 5376 rfl _) (ldB m c t 1 1 3 5376 rfl _) (ldB m c t 2 1 3 5376 rfl _)

/-- The point's tile of the down projection. -/
abbrev oP (c : Dev nD) (t : Fin cfg0.N) (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x1024 .f32 :=
  step (step (step k0_pay15 (c0 m c t w0 w1 w2 w3 w4 w5 w6 w7 x0 x1 x2 x3 x4 x5 x6 x7 d0 d1 d2 d3) (c4 m c t w0 w1 w2 w3 w4 w5 w6 w7 x0 x1 x2 x3 x4 x5 x6 x7 d0 d1 d2 d3) d0) (c1 m c t w0 w1 w2 w3 w4 w5 w6 w7 x0 x1 x2 x3 x4 x5 x6 x7 d0 d1 d2 d3) (c5 m c t w0 w1 w2 w3 w4 w5 w6 w7 x0 x1 x2 x3 x4 x5 x6 x7 d0 d1 d2 d3) d1) (c2 m c t w0 w1 w2 w3 w4 w5 w6 w7 x0 x1 x2 x3 x4 x5 x6 x7 d0 d1 d2 d3) (c6 m c t w0 w1 w2 w3 w4 w5 w6 w7 x0 x1 x2 x3 x4 x5 x6 x7 d0 d1 d2 d3) d2
abbrev uP (c : Dev nD) (t : Fin cfg0.N) (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay68 (H m c t) w7
abbrev vP (c : Dev nD) (t : Fin cfg0.N) (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x768 .f32 := k0_pay71 (H m c t) w7 x7 (bw m c t 3 5376 inb_S8x6144_S1x768_3_5376) (bw m c t 0 5376 inb_S8x6144_S1x768_0_5376) (bw m c t 1 5376 inb_S8x6144_S1x768_1_5376)
theorem ff_at : IsF m c t (k0_pay75 (oP m c t w0 w1 w2 w3 w4 w5 w6 w7 x0 x1 x2 x3 x4 x5 x6 x7 d0 d1 d2 d3) (c3 m c t w0 w1 w2 w3 w4 w5 w6 w7 x0 x1 x2 x3 x4 x5 x6 x7 d0 d1 d2 d3) (uP m c t w0 w1 w2 w3 w4 w5 w6 w7 x0 x1 x2 x3 x4 x5 x6 x7 d0 d1 d2 d3) (vP m c t w0 w1 w2 w3 w4 w5 w6 w7 x0 x1 x2 x3 x4 x5 x6 x7 d0 d1 d2 d3) (bw m c t 2 5376 inb_S8x6144_S1x768_2_5376) d3) := fun r d =>
  ff_pt (kB m c) t _ _ _ _ _ _ _ _ _ _ _ _ (c0_pt m c t h) (c1_pt m c t h) (c2_pt m c t h) (c3_pt m c t h)
    (c4_pt m c t h) (c5_pt m c t h) (c6_pt m c t h) (c7_pt m c t h) h.hd0 h.hd1 h.hd2 h.hd3 r d
end pt

/-! ## The pieces of the four results and of the carried rows -/

section lists
variable (c : Dev nD) (t : Fin cfg0.N)
abbrev r5 (q : ℕ) (inb : ∀ a, (![0, q] : Fin 2 → Nat) a + (![256, 768] : Fin 2 → Nat) a ≤ S256x6144.size a) : Rect S256x6144 :=
  Rect.unit (![0, q] : Fin 2 → Nat) (![256, 768] : Fin 2 → Nat) inb
abbrev r14 (q : ℕ) (inb : ∀ a, (![0, q] : Fin 2 → Nat) a + (![8, 768] : Fin 2 → Nat) a ≤ S8x6144.size a) : Rect S8x6144 :=
  Rect.unit (![0, q] : Fin 2 → Nat) (![8, 768] : Fin 2 → Nat) inb
abbrev r11 (q : ℕ) (inb : ∀ a, (![q, 0] : Fin 2 → Nat) a + (![1, 1024] : Fin 2 → Nat) a ≤ S8x1024.size a) : Rect S8x1024 :=
  Rect.unit (![q, 0] : Fin 2 → Nat) (![1, 1024] : Fin 2 → Nat) inb

abbrev upL (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : List (View.Piece (Elt Ideal) S256x6144 .bf16) :=
  [⟨r5 5376 inb_S256x6144_S256x768_0_5376, k0_pay24 (H m c t) w7⟩,
   ⟨r5 2304 inb_S256x6144_S256x768_0_2304, k0_pay24 (H m c t) w3⟩,
   ⟨r5 4608 inb_S256x6144_S256x768_0_4608, k0_pay24 (H m c t) w6⟩,
   ⟨r5 1536 inb_S256x6144_S256x768_0_1536, k0_pay24 (H m c t) w2⟩,
   ⟨r5 3840 inb_S256x6144_S256x768_0_3840, k0_pay24 (H m c t) w5⟩,
   ⟨r5 768 inb_S256x6144_S256x768_0_768, k0_pay24 (H m c t) w1⟩,
   ⟨r5 3072 inb_S256x6144_S256x768_0_3072, k0_pay24 (H m c t) w4⟩,
   ⟨r5 0 inb_S256x6144_S256x768_0_0, k0_pay24 (H m c t) w0⟩]
abbrev cvL (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : List (View.Piece (Elt Ideal) S256x6144 .bf16) :=
  [⟨r5 5376 inb_S256x6144_S256x768_0_5376, k0_pay57 (c7 m c t w0 w1 w2 w3 w4 w5 w6 w7 x0 x1 x2 x3 x4 x5 x6 x7 d0 d1 d2 d3)⟩,
   ⟨r5 2304 inb_S256x6144_S256x768_0_2304, k0_pay57 (c3 m c t w0 w1 w2 w3 w4 w5 w6 w7 x0 x1 x2 x3 x4 x5 x6 x7 d0 d1 d2 d3)⟩,
   ⟨r5 4608 inb_S256x6144_S256x768_0_4608, k0_pay57 (c6 m c t w0 w1 w2 w3 w4 w5 w6 w7 x0 x1 x2 x3 x4 x5 x6 x7 d0 d1 d2 d3)⟩,
   ⟨r5 1536 inb_S256x6144_S256x768_0_1536, k0_pay57 (c2 m c t w0 w1 w2 w3 w4 w5 w6 w7 x0 x1 x2 x3 x4 x5 x6 x7 d0 d1 d2 d3)⟩,
   ⟨r5 3840 inb_S256x6144_S256x768_0_3840, k0_pay57 (c5 m c t w0 w1 w2 w3 w4 w5 w6 w7 x0 x1 x2 x3 x4 x5 x6 x7 d0 d1 d2 d3)⟩,
   ⟨r5 768 inb_S256x6144_S256x768_0_768, k0_pay57 (c1 m c t w0 w1 w2 w3 w4 w5 w6 w7 x0 x1 x2 x3 x4 x5 x6 x7 d0 d1 d2 d3)⟩,
   ⟨r5 3072 inb_S256x6144_S256x768_0_3072, k0_pay57 (c4 m c t w0 w1 w2 w3 w4 w5 w6 w7 x0 x1 x2 x3 x4 x5 x6 x7 d0 d1 d2 d3)⟩,
   ⟨r5 0 inb_S256x6144_S256x768_0_0, k0_pay57 (c0 m c t w0 w1 w2 w3 w4 w5 w6 w7 x0 x1 x2 x3 x4 x5 x6 x7 d0 d1 d2 d3)⟩]
abbrev crL (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : List (View.Piece (Elt Ideal) S8x6144 .f32) :=
  [⟨r14 5376 inb_S8x6144_S8x768_0_5376, k0_pay25 (H m c t) w7⟩,
   ⟨r14 2304 inb_S8x6144_S8x768_0_2304, k0_pay25 (H m c t) w3⟩,
   ⟨r14 4608 inb_S8x6144_S8x768_0_4608, k0_pay25 (H m c t) w6⟩,
   ⟨r14 1536 inb_S8x6144_S8x768_0_1536, k0_pay25 (H m c t) w2⟩,
   ⟨r14 3840 inb_S8x6144_S8x768_0_3840, k0_pay25 (H m c t) w5⟩,
   ⟨r14 768 inb_S8x6144_S8x768_0_768, k0_pay25 (H m c t) w1⟩,
   ⟨r14 3072 inb_S8x6144_S8x768_0_3072, k0_pay25 (H m c t) w4⟩,
   ⟨r14 0 inb_S8x6144_S8x768_0_0, k0_pay25 (H m c t) w0⟩]
abbrev nP (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x1024 .f32 := k0_pay78 (oP m c t w0 w1 w2 w3 w4 w5 w6 w7 x0 x1 x2 x3 x4 x5 x6 x7 d0 d1 d2 d3) (c3 m c t w0 w1 w2 w3 w4 w5 w6 w7 x0 x1 x2 x3 x4 x5 x6 x7 d0 d1 d2 d3) (uP m c t w0 w1 w2 w3 w4 w5 w6 w7 x0 x1 x2 x3 x4 x5 x6 x7 d0 d1 d2 d3) (vP m c t w0 w1 w2 w3 w4 w5 w6 w7 x0 x1 x2 x3 x4 x5 x6 x7 d0 d1 d2 d3) (bw m c t 2 5376 inb_S8x6144_S1x768_2_5376) d3 (iblk m c 1 t) (gE m c t)
abbrev dP (w0 w1 w2 w3 w4 w5 w6 w7 : FVec Ideal S1x1024x768 .bf16) (x0 x1 x2 x3 x4 x5 x6 x7 : FVec Ideal S8x768 .f32)
    (d0 d1 d2 d3 : FVec Ideal S1x768x1024 .bf16) : FVec Ideal S256x1024 .f32 := k0_pay84 (k0_pay77 (oP m c t w0 w1 w2 w3 w4 w5 w6 w7 x0 x1 x2 x3 x4 x5 x6 x7 d0 d1 d2 d3) (c3 m c t w0 w1 w2 w3 w4 w5 w6 w7 x0 x1 x2 x3 x4 x5 x6 x7 d0 d1 d2 d3) (uP m c t w0 w1 w2 w3 w4 w5 w6 w7 x0 x1 x2 x3 x4 x5 x6 x7 d0 d1 d2 d3) (vP m c t w0 w1 w2 w3 w4 w5 w6 w7 x0 x1 x2 x3 x4 x5 x6 x7 d0 d1 d2 d3) (bw m c t 2 5376 inb_S8x6144_S1x768_2_5376) d3 (iblk m c 1 t) (gE m c t)) (nP m c t w0 w1 w2 w3 w4 w5 w6 w7 x0 x1 x2 x3 x4 x5 x6 x7 d0 d1 d2 d3) (gG m c t) (iblk m c 2 t)
abbrev ldA (X : FVec Ideal S8x1024 .f32) (q : ℕ) (inb : ∀ a, (![q, 0] : Fin 2 → Nat) a + (![1, 1024] : Fin 2 → Nat) a ≤ S8x1024.size a) : FVec Ideal S1x1024 .f32 := View.ld (Val := Elt Ideal) (S := S8x1024) (e' := .f32) X (r11 q inb)
abbrev acL (w0 w1 w2 w3 w4 w5 w6 w7 : FVec Ideal S1x1024x768 .bf16) (x0 x1 x2 x3 x4 x5 x6 x7 : FVec Ideal S8x768 .f32)
    (d0 d1 d2 d3 : FVec Ideal S1x768x1024 .bf16) (X : FVec Ideal S8x1024 .f32) : List (View.Piece (Elt Ideal) S8x1024 .f32) :=
  [⟨r11 2 inb_S8x1024_S1x1024_2_0, k0_pay1 (k0_pay75 (oP m c t w0 w1 w2 w3 w4 w5 w6 w7 x0 x1 x2 x3 x4 x5 x6 x7 d0 d1 d2 d3) (c3 m c t w0 w1 w2 w3 w4 w5 w6 w7 x0 x1 x2 x3 x4 x5 x6 x7 d0 d1 d2 d3) (uP m c t w0 w1 w2 w3 w4 w5 w6 w7 x0 x1 x2 x3 x4 x5 x6 x7 d0 d1 d2 d3) (vP m c t w0 w1 w2 w3 w4 w5 w6 w7 x0 x1 x2 x3 x4 x5 x6 x7 d0 d1 d2 d3) (bw m c t 2 5376 inb_S8x6144_S1x768_2_5376) d3) (dP m c t w0 w1 w2 w3 w4 w5 w6 w7 x0 x1 x2 x3 x4 x5 x6 x7 d0 d1 d2 d3) (ldA X 2 inb_S8x1024_S1x1024_2_0)⟩,
   ⟨r11 0 inb_S8x1024_S1x1024_0_0, k0_pay83 (nP m c t w0 w1 w2 w3 w4 w5 w6 w7 x0 x1 x2 x3 x4 x5 x6 x7 d0 d1 d2 d3) (gG m c t) (iblk m c 2 t) (ldA X 0 inb_S8x1024_S1x1024_0_0)⟩,
   ⟨r11 1 inb_S8x1024_S1x1024_1_0, k0_pay81 (nP m c t w0 w1 w2 w3 w4 w5 w6 w7 x0 x1 x2 x3 x4 x5 x6 x7 d0 d1 d2 d3) (gG m c t) (iblk m c 2 t) (ldA X 1 inb_S8x1024_S1x1024_1_0)⟩]

/-- The values of the two big results at a point. -/
def upG (c : Dev nD) (t : Fin cfg0.N) (y : S256x6144.Idx) : EReal := pq (up (kB m c).A (tok t (y 0))) (y 1)
def cvG (c : Dev nD) (t : Fin cfg0.N) (y : S256x6144.Idx) : EReal := pq (cv (kB m c).A (tok t (y 0))) (y 1)
/-- The carried rows: the last eight of the tile. -/
def crG (c : Dev nD) (t : Fin cfg0.N) (y : S8x6144.Idx) : EReal :=
  pq (up (kB m c).A (tok t ⟨248 + (y 0).val, by have : (y 0).val < 8 := (y 0).isLt; omega⟩)) (y 1)
/-- What a point adds to the eight rows of sums. -/
def acT (c : Dev nD) (t : Fin cfg0.N) (k : ℕ) (d : Fin 1024) : EReal :=
  if k = 0 then ∑ r : Fin 256, go (kB m c) (tok t r) d * xn (kB m c) (tok t r) d
  else if k = 1 then (∑ r : Fin 256, er (kB m c) (tok t r) d * er (kB m c) (tok t r) d) * cL
  else if k = 2 then ∑ r : Fin 256, dx (kB m c) (tok t r) d * ff (kB m c) (tok t r) d else 0
def acG (c : Dev nD) (t : Fin cfg0.N) (X : FVec Ideal S8x1024 .f32) (y : S8x1024.Idx) : EReal := X y + acT m c t (y 0).val (y 1)

theorem up_piece (a : Fin 2) (j : Fin 4) (q : ℕ) (hq : q = (a.val * 4 + j.val) * 768) (inb) (w : FVec Ideal S1x1024x768 .bf16) (hw : IsW (kB m c).A a j w)
    (x : S256x768.Idx) : k0_pay24 (H m c t) w x = upG m c t ((r5 q inb).emb x) := by
  idx_vars x
  unfold k0_pay24
  pointwise
  refine (up_pt m c t a j w hw x0 x1).trans ?_
  unfold upG
  have hq' : q + x1.val < 6144 := by omega
  refine (pq_eq _ ⟨q + x1.val, hq'⟩ a j x1 (by simp only [hq])).symm.trans ?_
  refine congrArg₂ (fun s n => pq (up (kB m c).A (tok t s)) n) (Fin.ext ?_) (Fin.ext ?_)
  · show x0.val = 0 + 1 * x0.val
    omega
  · show q + x1.val = q + 1 * x1.val
    omega
theorem cv_piece (a : Fin 2) (j : Fin 4) (q : ℕ) (hq : q = (a.val * 4 + j.val) * 768) (inb) (w : FVec Ideal S256x768 .f32) (hw : IsC (kB m c).A t a j w)
    (x : S256x768.Idx) : k0_pay57 w x = cvG m c t ((r5 q inb).emb x) := by
  idx_vars x
  unfold k0_pay57
  pointwise
  refine (hw x0 x1).trans ?_
  unfold cvG
  have hq' : q + x1.val < 6144 := by omega
  refine (pq_eq _ ⟨q + x1.val, hq'⟩ a j x1 (by simp only [hq])).symm.trans ?_
  refine congrArg₂ (fun s n => pq (cv (kB m c).A (tok t s)) n) (Fin.ext ?_) (Fin.ext ?_)
  · show x0.val = 0 + 1 * x0.val
    omega
  · show q + x1.val = q + 1 * x1.val
    omega
theorem cr_piece (a : Fin 2) (j : Fin 4) (q : ℕ) (hq : q = (a.val * 4 + j.val) * 768) (inb) (w : FVec Ideal S1x1024x768 .bf16) (hw : IsW (kB m c).A a j w)
    (x : S8x768.Idx) : k0_pay25 (H m c t) w x = crG m c t ((r14 q inb).emb x) := by
  idx_vars x
  unfold k0_pay25
  pointwise
  refine (up_pt m c t a j w hw _ x1).trans ?_
  unfold crG
  have hq' : q + x1.val < 6144 := by omega
  refine (pq_eq _ ⟨q + x1.val, hq'⟩ a j x1 (by simp only [hq])).symm.trans ?_
  refine congrArg₂ (fun s n => pq (up (kB m c).A (tok t s)) n) (Fin.ext ?_) (Fin.ext ?_)
  · show 248 + x0.val = 248 + (0 + 1 * x0.val)
    omega
  · show q + x1.val = q + 1 * x1.val
    omega

variable {w0 w1 w2 w3 w4 w5 w6 w7 : FVec Ideal S1x1024x768 .bf16} {x0 x1 x2 x3 x4 x5 x6 x7 : FVec Ideal S8x768 .f32}
  {d0 d1 d2 d3 : FVec Ideal S1x768x1024 .bf16} (h : Good (kB m c).A t w0 w1 w2 w3 w4 w5 w6 w7 x0 x1 x2 x3 x4 x5 x6 x7 d0 d1 d2 d3)
include h
theorem upL_pieces : View.PiecesOf (Val := Elt Ideal) (upG m c t) (upL m c t w0 w1 w2 w3 w4 w5 w6 w7 x0 x1 x2 x3 x4 x5 x6 x7 d0 d1 d2 d3) :=
  ⟨up_piece m c t 1 3 5376 rfl inb_S256x6144_S256x768_0_5376 w7 h.hw7,
   up_piece m c t 0 3 2304 rfl inb_S256x6144_S256x768_0_2304 w3 h.hw3,
   up_piece m c t 1 2 4608 rfl inb_S256x6144_S256x768_0_4608 w6 h.hw6,
   up_piece m c t 0 2 1536 rfl inb_S256x6144_S256x768_0_1536 w2 h.hw2,
   up_piece m c t 1 1 3840 rfl inb_S256x6144_S256x768_0_3840 w5 h.hw5,
   up_piece m c t 0 1 768 rfl inb_S256x6144_S256x768_0_768 w1 h.hw1,
   up_piece m c t 1 0 3072 rfl inb_S256x6144_S256x768_0_3072 w4 h.hw4,
   up_piece m c t 0 0 0 rfl inb_S256x6144_S256x768_0_0 w0 h.hw0, trivial⟩
theorem cvL_pieces : View.PiecesOf (Val := Elt Ideal) (cvG m c t) (cvL m c t w0 w1 w2 w3 w4 w5 w6 w7 x0 x1 x2 x3 x4 x5 x6 x7 d0 d1 d2 d3) :=
  ⟨cv_piece m c t 1 3 5376 rfl inb_S256x6144_S256x768_0_5376 (c7 m c t w0 w1 w2 w3 w4 w5 w6 w7 x0 x1 x2 x3 x4 x5 x6 x7 d0 d1 d2 d3) (c7_pt m c t h),
   cv_piece m c t 0 3 2304 rfl inb_S256x6144_S256x768_0_2304 (c3 m c t w0 w1 w2 w3 w4 w5 w6 w7 x0 x1 x2 x3 x4 x5 x6 x7 d0 d1 d2 d3) (c3_pt m c t h),
   cv_piece m c t 1 2 4608 rfl inb_S256x6144_S256x768_0_4608 (c6 m c t w0 w1 w2 w3 w4 w5 w6 w7 x0 x1 x2 x3 x4 x5 x6 x7 d0 d1 d2 d3) (c6_pt m c t h),
   cv_piece m c t 0 2 1536 rfl inb_S256x6144_S256x768_0_1536 (c2 m c t w0 w1 w2 w3 w4 w5 w6 w7 x0 x1 x2 x3 x4 x5 x6 x7 d0 d1 d2 d3) (c2_pt m c t h),
   cv_piece m c t 1 1 3840 rfl inb_S256x6144_S256x768_0_3840 (c5 m c t w0 w1 w2 w3 w4 w5 w6 w7 x0 x1 x2 x3 x4 x5 x6 x7 d0 d1 d2 d3) (c5_pt m c t h),
   cv_piece m c t 0 1 768 rfl inb_S256x6144_S256x768_0_768 (c1 m c t w0 w1 w2 w3 w4 w5 w6 w7 x0 x1 x2 x3 x4 x5 x6 x7 d0 d1 d2 d3) (c1_pt m c t h),
   cv_piece m c t 1 0 3072 rfl inb_S256x6144_S256x768_0_3072 (c4 m c t w0 w1 w2 w3 w4 w5 w6 w7 x0 x1 x2 x3 x4 x5 x6 x7 d0 d1 d2 d3) (c4_pt m c t h),
   cv_piece m c t 0 0 0 rfl inb_S256x6144_S256x768_0_0 (c0 m c t w0 w1 w2 w3 w4 w5 w6 w7 x0 x1 x2 x3 x4 x5 x6 x7 d0 d1 d2 d3) (c0_pt m c t h), trivial⟩
theorem crL_pieces : View.PiecesOf (Val := Elt Ideal) (crG m c t) (crL m c t w0 w1 w2 w3 w4 w5 w6 w7 x0 x1 x2 x3 x4 x5 x6 x7 d0 d1 d2 d3) :=
  ⟨cr_piece m c t 1 3 5376 rfl inb_S8x6144_S8x768_0_5376 w7 h.hw7,
   cr_piece m c t 0 3 2304 rfl inb_S8x6144_S8x768_0_2304 w3 h.hw3,
   cr_piece m c t 1 2 4608 rfl inb_S8x6144_S8x768_0_4608 w6 h.hw6,
   cr_piece m c t 0 2 1536 rfl inb_S8x6144_S8x768_0_1536 w2 h.hw2,
   cr_piece m c t 1 1 3840 rfl inb_S8x6144_S8x768_0_3840 w5 h.hw5,
   cr_piece m c t 0 1 768 rfl inb_S8x6144_S8x768_0_768 w1 h.hw1,
   cr_piece m c t 1 0 3072 rfl inb_S8x6144_S8x768_0_3072 w4 h.hw4,
   cr_piece m c t 0 0 0 rfl inb_S8x6144_S8x768_0_0 w0 h.hw0, trivial⟩
theorem x3_tile : IsN m c t (nP m c t w0 w1 w2 w3 w4 w5 w6 w7 x0 x1 x2 x3 x4 x5 x6 x7 d0 d1 d2 d3) := fun r d => xn_pt (ff_at m c t h) r d
theorem dx_tile (r : Fin 256) (d : Fin 1024) : dP m c t w0 w1 w2 w3 w4 w5 w6 w7 x0 x1 x2 x3 x4 x5 x6 x7 d0 d1 d2 d3 (ix2 r d) = dx (kB m c) (tok t r) d :=
  dx_pt (x3_tile m c t h) (rs_pt (ff_at m c t h)) r d
theorem ac_emb (X : FVec Ideal S8x1024 .f32) (k : Fin 8) (inb) (d : Fin 1024) (V : EReal) (z : EReal) (hV : V = acT m c t k.val d)
    (hz : z = ldA X k.val inb (ix2 0 d) + V) : z = acG m c t X ((r11 k.val inb).emb (ix2 0 d)) := by
  subst hV hz
  have e : (r11 k.val inb).emb (ix2 0 d) = (ix2 k d : S8x1024.Idx) := by
    funext a
    apply Fin.ext
    fin_cases a
    · show k.val + 1 * 0 = k.val
      rfl
    · exact (Nat.zero_add _).trans (Nat.one_mul _)
  show X ((r11 k.val inb).emb (ix2 0 d)) + _ = _
  rw [e]
  rfl
theorem acL_pieces (X : FVec Ideal S8x1024 .f32) : View.PiecesOf (Val := Elt Ideal) (acG m c t X) (acL m c t w0 w1 w2 w3 w4 w5 w6 w7 x0 x1 x2 x3 x4 x5 x6 x7 d0 d1 d2 d3 X) := by
  refine ⟨fun x => ?_, fun x => ?_, fun x => ?_, trivial⟩
  · idx_vars x
    obtain rfl : x0 = 0 := Subsingleton.elim _ _
    exact ac_emb m c t h X 2 _ x1 _ _ rfl (dg_pt (ff_at m c t h) (dx_tile m c t h) _ x1)
  · idx_vars x
    obtain rfl : x0 = 0 := Subsingleton.elim _ _
    exact ac_emb m c t h X 0 _ x1 _ _ rfl (dG_pt (x3_tile m c t h) _ x1)
  · idx_vars x
    obtain rfl : x0 = 0 := Subsingleton.elim _ _
    exact ac_emb m c t h X 1 _ x1 _ _ rfl (ls_pt (x3_tile m c t h) _ x1)
omit h
theorem upL_cover (w0 w1 w2 w3 w4 w5 w6 w7 : FVec Ideal S1x1024x768 .bf16) (x0 x1 x2 x3 x4 x5 x6 x7 : FVec Ideal S8x768 .f32)
    (d0 d1 d2 d3 : FVec Ideal S1x768x1024 .bf16) (y : S256x6144.Idx) : ∃ p ∈ upL m c t w0 w1 w2 w3 w4 w5 w6 w7 x0 x1 x2 x3 x4 x5 x6 x7 d0 d1 d2 d3, y ∈ p.1.set := View.cover_of_tiledL (upL m c t w0 w1 w2 w3 w4 w5 w6 w7 x0 x1 x2 x3 x4 x5 x6 x7 d0 d1 d2 d3) S256x768.size (by sl_kernel_rfl) y
theorem cvL_cover (w0 w1 w2 w3 w4 w5 w6 w7 : FVec Ideal S1x1024x768 .bf16) (x0 x1 x2 x3 x4 x5 x6 x7 : FVec Ideal S8x768 .f32)
    (d0 d1 d2 d3 : FVec Ideal S1x768x1024 .bf16) (y : S256x6144.Idx) : ∃ p ∈ cvL m c t w0 w1 w2 w3 w4 w5 w6 w7 x0 x1 x2 x3 x4 x5 x6 x7 d0 d1 d2 d3, y ∈ p.1.set := View.cover_of_tiledL (cvL m c t w0 w1 w2 w3 w4 w5 w6 w7 x0 x1 x2 x3 x4 x5 x6 x7 d0 d1 d2 d3) S256x768.size (by sl_kernel_rfl) y
theorem crL_cover (w0 w1 w2 w3 w4 w5 w6 w7 : FVec Ideal S1x1024x768 .bf16) (x0 x1 x2 x3 x4 x5 x6 x7 : FVec Ideal S8x768 .f32)
    (d0 d1 d2 d3 : FVec Ideal S1x768x1024 .bf16) (y : S8x6144.Idx) : ∃ p ∈ crL m c t w0 w1 w2 w3 w4 w5 w6 w7 x0 x1 x2 x3 x4 x5 x6 x7 d0 d1 d2 d3, y ∈ p.1.set := View.cover_of_tiledL (crL m c t w0 w1 w2 w3 w4 w5 w6 w7 x0 x1 x2 x3 x4 x5 x6 x7 d0 d1 d2 d3) S8x768.size (by sl_kernel_rfl) y
theorem acL_off (w0 w1 w2 w3 w4 w5 w6 w7 : FVec Ideal S1x1024x768 .bf16) (x0 x1 x2 x3 x4 x5 x6 x7 : FVec Ideal S8x768 .f32)
    (d0 d1 d2 d3 : FVec Ideal S1x768x1024 .bf16) (X : FVec Ideal S8x1024 .f32) (y : S8x1024.Idx) (hn : ∀ p ∈ acL m c t w0 w1 w2 w3 w4 w5 w6 w7 x0 x1 x2 x3 x4 x5 x6 x7 d0 d1 d2 d3 X, y ∉ p.1.set) : acT m c t (y 0).val (y 1) = 0 := by
  have h1 : (y 1).val < 1024 := (y 1).isLt
  unfold acT
  by_cases e0 : (y 0).val = 0
  · refine absurd ?_ (hn _ (List.mem_cons_of_mem _ List.mem_cons_self))
    exact (Rect.mem_set_unit (inb := inb_S8x1024_S1x1024_0_0)).mpr (Fin.forall_fin_two.mpr
      ⟨⟨by show 0 ≤ (y 0).val; omega, by show (y 0).val < 0 + 1; omega⟩, ⟨Nat.zero_le _, by show (y 1).val < 0 + 1024; omega⟩⟩)
  by_cases e1 : (y 0).val = 1
  · refine absurd ?_ (hn _ (List.mem_cons_of_mem _ (List.mem_cons_of_mem _ List.mem_cons_self)))
    exact (Rect.mem_set_unit (inb := inb_S8x1024_S1x1024_1_0)).mpr (Fin.forall_fin_two.mpr
      ⟨⟨by show 1 ≤ (y 0).val; omega, by show (y 0).val < 1 + 1; omega⟩, ⟨Nat.zero_le _, by show (y 1).val < 0 + 1024; omega⟩⟩)
  by_cases e2 : (y 0).val = 2
  · refine absurd ?_ (hn _ List.mem_cons_self)
    exact (Rect.mem_set_unit (inb := inb_S8x1024_S1x1024_2_0)).mpr (Fin.forall_fin_two.mpr
      ⟨⟨by show 2 ≤ (y 0).val; omega, by show (y 0).val < 2 + 1; omega⟩, ⟨Nat.zero_le _, by show (y 1).val < 0 + 1024; omega⟩⟩)
  rw [if_neg e0, if_neg e1, if_neg e2]
end lists

end Cert.FwdFfn
-- ==== Proof.FwdState.lean ====
module

public import proofs.«01_k».proof.Proof.FwdOuts
public import Idealize.ShloMosaic.Lib.Pipeline.ReadBack
public import Idealize.ShloMosaic.Lib.ValueLayout

/-! # The scratch the points of the forward ConvFFN carry, and their results -/

@[expose] public section

set_option maxRecDepth 16384
noncomputable section

open Idealize.ShloMosaic Idealize.ShloMosaic.TcCoe Idealize.SL.Sem
open Idealize.ShloMosaic.Pipeline (Dat)

namespace Cert.FwdFfn

open Cert.Kernel5Ideal Cert.Kernel5Ideal.Gen Cert.FfnGrad

/-- A staged shard, read back whole. -/
theorem stage_eq {sg : RefSig} {κ : Kind} {sp : Space} (v : View sg κ sp S768x1024 .bf16) (X : FVec Ideal S768x1024 .bf16) (L : List (View.Piece (Elt Ideal) S768x1024 .bf16))
    (inb : ∀ a, (![0, 0] : Fin 2 → Nat) a + (![768, 1024] : Fin 2 → Nat) a ≤ S768x1024.size a) :
    v.readCov (Val := Elt Ideal) (⟨Rect.whole S768x1024, X⟩ :: L) (Rect.unit (s := S768x1024) (![0, 0] : Fin 2 → Nat) (![768, 1024] : Fin 2 → Nat) inb).toLoadRect = X := by
  rw [View.readCov_eq_canon']
  funext y
  have e : (Rect.unit (s := S768x1024) (![0, 0] : Fin 2 → Nat) (![768, 1024] : Fin 2 → Nat) inb).toLoadRect.idx y = (Rect.whole S768x1024).emb y := by
    funext a
    fin_cases a <;> rfl
  show View.canon _ _ = _
  rw [e, View.canon_cons_emb]
theorem down_eq {sg : RefSig} {κ : Kind} {sp : Space} (v : View sg κ sp S4x768x1024 .bf16) (X : FVec Ideal S4x768x1024 .bf16) (r : Rect S4x768x1024) :
    v.readCov (Val := Elt Ideal) [⟨Rect.whole S4x768x1024, X⟩] r.toLoadRect = View.ld (Val := Elt Ideal) (S := S4x768x1024) (e' := .bf16) X r := by
  rw [View.readCov_eq_canon']
  funext y
  have e : r.toLoadRect.idx y = (Rect.whole S4x768x1024).emb (r.toLoadRect.idx y) := (Rect.emb_whole_apply (s := S4x768x1024) _).symm
  show View.canon _ _ = _
  rw [e, View.canon_cons_emb]

theorem canon_whole (X : FVec Ideal S4x768x1024 .bf16) (y : S4x768x1024.Idx) :
    View.canon (Val := Elt Ideal) [(⟨Rect.whole S4x768x1024, X⟩ : View.Piece (Elt Ideal) S4x768x1024 .bf16)] y = X y := by
  have h : y = (Rect.whole S4x768x1024).emb y := (Rect.emb_whole_apply (s := S4x768x1024) y).symm
  exact (congrArg _ h).trans (View.canon_cons_emb _ _ _ _)

variable (m : (ℓ : Loc nD τ sig) → Buf (Elt Ideal) ℓ)

/-! ## The weights the first point stages -/

def stX (m : (ℓ : Loc nD τ sig) → Buf (Elt Ideal) ℓ) (c : Dev nD) (k : ℕ)
    (inb : ∀ a, (![k, 0, 0] : Fin 3 → Nat) a + (![1, 768, 1024] : Fin 3 → Nat) a ≤ S8x768x1024.size a) : FVec Ideal S768x1024 .bf16 :=
  ReadAs.same.apply (View.read (Elt Ideal) (View.reshape (sig := sig) (κ := .tc) (sp := .hbm) (s := S1x768x1024) (e := .bf16) (View.slice (sig := sig) (κ := .tc) (sp := .hbm) (s := S8x768x1024) (e := .bf16) (View.whole main_v13) (Rect.unit (s := S8x768x1024) (![k, 0, 0] : Fin 3 → Nat) (![1, 768, 1024] : Fin 3 → Nat) inb)) S768x1024
    (by decide +kernel : S768x1024.numel = S1x768x1024.numel)) (V m c main_v13))
def stD (m : (ℓ : Loc nD τ sig) → Buf (Elt Ideal) ℓ) (c : Dev nD) : FVec Ideal S4x768x1024 .bf16 :=
  ReadAs.same.apply (View.read (Elt Ideal) (View.whole main_v16) (V m c main_v16))
theorem stX_at (c : Dev nD) (k : Fin 8) (inb) (a : Fin 2) (j : Fin 4) (hk : k.val = a.val * 4 + j.val) (l : Fin 768) (d : Fin 1024) :
    stX m c k.val inb (ix2 l d) = pc (fun n => aU m c (ix2 d n)) a j l.val := by
  refine Eq.trans ?_ (wup_at m c k l d a j hk)
  refine congrArg (show FVec Ideal S8x768x1024 .bf16 from V m c main_v13) ?_
  refine (congrArg (Rect.unit (s := S8x768x1024) (![k.val, 0, 0] : Fin 3 → Nat) (![1, 768, 1024] : Fin 3 → Nat) inb).emb (Idealize.ShloMosaic.ValueIdx.reshapeEquiv_ix2_1ab _ l d)).trans ?_
  funext i
  apply Fin.ext
  fin_cases i
  · exact Nat.add_zero _
  · show 0 + 1 * l.val = l.val
    omega
  · show 0 + 1 * d.val = d.val
    omega
theorem stW (c : Dev nD) (k : ℕ) (inb) (a : Fin 2) (j : Fin 4) (hk : k = a.val * 4 + j.val) : IsW (kB m c).A a j (k0_pay2 (F := Ideal) (stX m c k inb)) := by
  intro d l
  refine Eq.trans ?_ (stX_at m c ⟨k, by omega⟩ inb a j hk l d)
  generalize stX m c k inb = X
  unfold k0_pay2
  pointwise

/-- The weights every point finds in its scratch. -/
def G12 (c : Dev nD) (y : S8x1024x768.Idx) : EReal :=
  pc (fun n => aU m c (ix2 (y 1) n)) ⟨(y 0).val / 4, by have : (y 0).val < 8 := (y 0).isLt; omega⟩ ⟨(y 0).val % 4, by omega⟩ (y 2).val
def G13 (c : Dev nD) (y : S4x768x1024.Idx) : EReal := pf (fun f => aD m c (ix2 f (y 2))) (y 0) (y 1).val

abbrev r12 (k : ℕ) (inb : ∀ a, (![k, 0, 0] : Fin 3 → Nat) a + (![1, 1024, 768] : Fin 3 → Nat) a ≤ S8x1024x768.size a) : Rect S8x1024x768 :=
  Rect.unit (![k, 0, 0] : Fin 3 → Nat) (![1, 1024, 768] : Fin 3 → Nat) inb
abbrev r13 (k : ℕ) (inb : ∀ a, (![k, 0, 0] : Fin 3 → Nat) a + (![1, 768, 1024] : Fin 3 → Nat) a ≤ S4x768x1024.size a) : Rect S4x768x1024 :=
  Rect.unit (![k, 0, 0] : Fin 3 → Nat) (![1, 768, 1024] : Fin 3 → Nat) inb
theorem r12_emb (k : Fin 8) (inb) (d : Fin 1024) (l : Fin 768) : (r12 k.val inb).emb (ix3 0 d l) = (ix3 k d l : S8x1024x768.Idx) := by
  funext i
  apply Fin.ext
  fin_cases i
  · exact Nat.add_zero _
  · show 0 + 1 * d.val = d.val
    omega
  · show 0 + 1 * l.val = l.val
    omega
theorem r13_emb (k : Fin 4) (inb) (l : Fin 768) (d : Fin 1024) : (r13 k.val inb).emb (ix3 0 l d) = (ix3 k l d : S4x768x1024.Idx) := by
  funext i
  apply Fin.ext
  fin_cases i
  · exact Nat.add_zero _
  · show 0 + 1 * l.val = l.val
    omega
  · show 0 + 1 * d.val = d.val
    omega
theorem G12_at (c : Dev nD) (k : Fin 8) (inb) (a : Fin 2) (j : Fin 4) (hk : k.val = a.val * 4 + j.val) (d : Fin 1024) (l : Fin 768) :
    G12 m c ((r12 k.val inb).emb (ix3 0 d l)) = pc (fun n => aU m c (ix2 d n)) a j l.val := by
  rw [r12_emb]
  show pc (fun n => aU m c (ix2 d n)) ⟨k.val / 4, _⟩ ⟨k.val % 4, _⟩ l.val = _
  have h1 : (⟨k.val / 4, by omega⟩ : Fin 2) = a := Fin.ext (by show k.val / 4 = a.val; omega)
  have h2 : (⟨k.val % 4, by omega⟩ : Fin 4) = j := Fin.ext (by show k.val % 4 = j.val; omega)
  rw [h1, h2]

/-- The eight shards' stores. -/
abbrev wL (w0 w1 w2 w3 w4 w5 w6 w7 : FVec Ideal S1x1024x768 .bf16) : List (View.Piece (Elt Ideal) S8x1024x768 .bf16) :=
  [⟨r12 7 inb_S8x1024x768_S1x1024x768_7_0_0, w7⟩,
   ⟨r12 6 inb_S8x1024x768_S1x1024x768_6_0_0, w6⟩,
   ⟨r12 5 inb_S8x1024x768_S1x1024x768_5_0_0, w5⟩,
   ⟨r12 4 inb_S8x1024x768_S1x1024x768_4_0_0, w4⟩,
   ⟨r12 3 inb_S8x1024x768_S1x1024x768_3_0_0, w3⟩,
   ⟨r12 2 inb_S8x1024x768_S1x1024x768_2_0_0, w2⟩,
   ⟨r12 1 inb_S8x1024x768_S1x1024x768_1_0_0, w1⟩,
   ⟨r12 0 inb_S8x1024x768_S1x1024x768_0_0_0, w0⟩]
theorem wL_pt (c : Dev nD) (k : ℕ) (inb) (a : Fin 2) (j : Fin 4) (hk : k = a.val * 4 + j.val) (w : FVec Ideal S1x1024x768 .bf16) (hw : IsW (kB m c).A a j w)
    (x : S1x1024x768.Idx) : w x = G12 m c ((r12 k inb).emb x) := by
  idx_vars x
  obtain rfl : x0 = 0 := Subsingleton.elim _ _
  exact (hw x1 x2).trans (G12_at m c ⟨k, by omega⟩ inb a j hk x1 x2).symm
theorem wL_pieces (c : Dev nD) {w0 w1 w2 w3 w4 w5 w6 w7 : FVec Ideal S1x1024x768 .bf16}
   (h0 : IsW (kB m c).A 0 0 w0) (h1 : IsW (kB m c).A 0 1 w1) (h2 : IsW (kB m c).A 0 2 w2) (h3 : IsW (kB m c).A 0 3 w3) (h4 : IsW (kB m c).A 1 0 w4) (h5 : IsW (kB m c).A 1 1 w5) (h6 : IsW (kB m c).A 1 2 w6) (h7 : IsW (kB m c).A 1 3 w7) :
    View.PiecesOf (Val := Elt Ideal) (G12 m c) (wL w0 w1 w2 w3 w4 w5 w6 w7) :=
  ⟨wL_pt m c 7 inb_S8x1024x768_S1x1024x768_7_0_0 1 3 rfl _ h7,
   wL_pt m c 6 inb_S8x1024x768_S1x1024x768_6_0_0 1 2 rfl _ h6,
   wL_pt m c 5 inb_S8x1024x768_S1x1024x768_5_0_0 1 1 rfl _ h5,
   wL_pt m c 4 inb_S8x1024x768_S1x1024x768_4_0_0 1 0 rfl _ h4,
   wL_pt m c 3 inb_S8x1024x768_S1x1024x768_3_0_0 0 3 rfl _ h3,
   wL_pt m c 2 inb_S8x1024x768_S1x1024x768_2_0_0 0 2 rfl _ h2,
   wL_pt m c 1 inb_S8x1024x768_S1x1024x768_1_0_0 0 1 rfl _ h1,
   wL_pt m c 0 inb_S8x1024x768_S1x1024x768_0_0_0 0 0 rfl _ h0, trivial⟩
theorem wL_cover (w0 w1 w2 w3 w4 w5 w6 w7 : FVec Ideal S1x1024x768 .bf16) (y : S8x1024x768.Idx) : ∃ p ∈ wL w0 w1 w2 w3 w4 w5 w6 w7, y ∈ p.1.set := View.cover_of_tiledL (wL w0 w1 w2 w3 w4 w5 w6 w7) S1x1024x768.size (by sl_kernel_rfl) y
theorem stD_at (c : Dev nD) (y : S4x768x1024.Idx) : stD m c y = G13 m c y := by
  idx_vars y
  exact wdn_at m c y0 y1 y2

theorem w12_A (c : Dev nD) (t : Fin cfg0.N) (hc : t.val % 32 = 0) (y : S8x1024x768.Idx) : (outsAt0 m c t.val t.isLt).2.2.2.2.1 y = G12 m c y := by
  rw [outsAt0_A m c t hc]
  frame_open
  simp (disch := decide) only [↓ View.readCov_skip, ↓ View.readCov_cons_toLoadRect, ↓ View.readCov_fill]
  frame_out
  simp only [stage_eq, down_eq]
  have e := View.canon_append_of_piecesOf (G12 m c) [] (wL _ _ _ _ _ _ _ _) (wL_pieces m c (stW m c 0 inb_S8x768x1024_S1x768x1024_0_0_0 0 0 rfl) (stW m c 1 inb_S8x768x1024_S1x768x1024_1_0_0 0 1 rfl) (stW m c 2 inb_S8x768x1024_S1x768x1024_2_0_0 0 2 rfl) (stW m c 3 inb_S8x768x1024_S1x768x1024_3_0_0 0 3 rfl) (stW m c 4 inb_S8x768x1024_S1x768x1024_4_0_0 1 0 rfl) (stW m c 5 inb_S8x768x1024_S1x768x1024_5_0_0 1 1 rfl) (stW m c 6 inb_S8x768x1024_S1x768x1024_6_0_0 1 2 rfl) (stW m c 7 inb_S8x768x1024_S1x768x1024_7_0_0 1 3 rfl)) y (wL_cover _ _ _ _ _ _ _ _ y)
  refine Eq.trans ?_ e
  refine congrFun (congrArg View.canon ?_) y
  unfold wL
  simp only [List.cons_append, List.nil_append]
  refine congrArg₂ List.cons (congrArg (Sigma.mk _) (by rfl)) ?_
  refine congrArg₂ List.cons (congrArg (Sigma.mk _) (by rfl)) ?_
  refine congrArg₂ List.cons (congrArg (Sigma.mk _) (by rfl)) ?_
  refine congrArg₂ List.cons (congrArg (Sigma.mk _) (by rfl)) ?_
  refine congrArg₂ List.cons (congrArg (Sigma.mk _) (by rfl)) ?_
  refine congrArg₂ List.cons (congrArg (Sigma.mk _) (by rfl)) ?_
  refine congrArg₂ List.cons (congrArg (Sigma.mk _) (by rfl)) ?_
  refine congrArg₂ List.cons (congrArg (Sigma.mk _) (by rfl)) ?_
  rfl
theorem w12_B (c : Dev nD) (t : Fin cfg0.N) (hc : ¬ t.val % 32 = 0) (h' : t.val - 1 < cfg0.N) (y : S8x1024x768.Idx) :
    (outsAt0 m c t.val t.isLt).2.2.2.2.1 y = (outsAt0 m c (t.val - 1) h').2.2.2.2.1 y := by
  rw [outsAt0_B m c t hc]
  rfl
theorem w12_at (c : Dev nD) (n : ℕ) (h : n < cfg0.N) (y : S8x1024x768.Idx) : (outsAt0 m c n h).2.2.2.2.1 y = G12 m c y := by
  induction n with
  | zero => exact w12_A m c ⟨0, h⟩ rfl y
  | succ n ih =>
    have h' : n < cfg0.N := Nat.lt_of_succ_lt h
    have hc : ¬ (⟨n + 1, h⟩ : Fin cfg0.N).val % 32 = 0 := by
      have h' : n + 1 < 32 := h
      show ¬ (n + 1) % 32 = 0
      omega
    exact (w12_B m c ⟨n + 1, h⟩ hc h' y).trans (ih h')
theorem d13_A (c : Dev nD) (t : Fin cfg0.N) (hc : t.val % 32 = 0) (y : S4x768x1024.Idx) : (outsAt0 m c t.val t.isLt).2.2.2.2.2.1 y = G13 m c y := by
  rw [outsAt0_A m c t hc]
  frame_open
  simp (disch := decide) only [↓ View.readCov_skip, ↓ View.readCov_cons_toLoadRect, ↓ View.readCov_fill]
  frame_out
  exact (canon_whole (stD m c) y).trans (stD_at m c y)
theorem d13_B (c : Dev nD) (t : Fin cfg0.N) (hc : ¬ t.val % 32 = 0) (h' : t.val - 1 < cfg0.N) (y : S4x768x1024.Idx) :
    (outsAt0 m c t.val t.isLt).2.2.2.2.2.1 y = (outsAt0 m c (t.val - 1) h').2.2.2.2.2.1 y := by
  rw [outsAt0_B m c t hc]
  rfl
theorem d13_at (c : Dev nD) (n : ℕ) (h : n < cfg0.N) (y : S4x768x1024.Idx) : (outsAt0 m c n h).2.2.2.2.2.1 y = G13 m c y := by
  induction n with
  | zero => exact d13_A m c ⟨0, h⟩ rfl y
  | succ n ih =>
    have h' : n < cfg0.N := Nat.lt_of_succ_lt h
    have hc : ¬ (⟨n + 1, h⟩ : Fin cfg0.N).val % 32 = 0 := by
      have h' : n + 1 < 32 := h
      show ¬ (n + 1) % 32 = 0
      omega
    exact (d13_B m c ⟨n + 1, h⟩ hc h' y).trans (ih h')

/-! ## What a point reads -/

theorem ldW (c : Dev nD) (P : FVec Ideal S8x1024x768 .bf16) (hP : ∀ y, P y = G12 m c y) (k : ℕ) (inb) (a : Fin 2) (j : Fin 4) (hk : k = a.val * 4 + j.val) :
    IsW (kB m c).A a j (View.ld (Val := Elt Ideal) (S := S8x1024x768) (e' := .bf16) P (r12 k inb)) := fun d l =>
  (hP _).trans (G12_at m c ⟨k, by omega⟩ inb a j hk d l)
theorem ldD (c : Dev nD) (P : FVec Ideal S4x768x1024 .bf16) (hP : ∀ y, P y = G13 m c y) (k : ℕ) (inb) (j : Fin 4) (hk : k = j.val) :
    IsD (kB m c).A j (View.ld (Val := Elt Ideal) (S := S4x768x1024) (e' := .bf16) P (r13 k inb)) := fun l d => by
  subst hk
  exact (hP _).trans (congrArg (G13 m c) (r13_emb j inb l d))
theorem ldX0 (c : Dev nD) (t : Fin cfg0.N) (ht : t.val = 0) (q : ℕ) (inb) (a : Fin 2) (j : Fin 4) :
    IsX (kB m c).A t a j (View.ld (Val := Elt Ideal) (S := S8x6144) (e' := .f32) (k0_pay12 (F := Ideal) k0_pay11) (r14 q inb)) := by
  intro r l
  have e : Bn (kB m c).A a j (t.val * 256 + r.val) l.val = 0 := by
    unfold Bn
    exact dif_neg (by omega)
  rw [e]
  unfold k0_pay12 k0_pay11
  pointwise
theorem ldX (c : Dev nD) (t s : Fin cfg0.N) (hs : s.val + 1 = t.val) (P : FVec Ideal S8x6144 .f32) (hP : ∀ y, P y = crG m c s y)
    (a : Fin 2) (j : Fin 4) (q : ℕ) (hq : q = (a.val * 4 + j.val) * 768) (inb) :
    IsX (kB m c).A t a j (View.ld (Val := Elt Ideal) (S := S8x6144) (e' := .f32) P (r14 q inb)) := by
  intro r l
  refine (hP _).trans ?_
  rw [Bn_up (kB m c).A a j (tok s ⟨248 + r.val, by omega⟩) _ _ (by show t.val * 256 + r.val = s.val * 256 + (248 + r.val) + 8; omega)]
  refine Eq.trans ?_ (pq_eq _ ⟨q + l.val, by omega⟩ a j l (by simp only [hq]))
  unfold crG
  refine congrArg₂ (fun s' n => pq (up (kB m c).A (tok s s')) n) (Fin.ext ?_) (Fin.ext ?_)
  · show 248 + (0 + 1 * r.val) = 248 + r.val
    omega
  · show q + 1 * l.val = q + l.val
    omega

theorem good_A (c : Dev nD) (t : Fin cfg0.N) (ht : t.val = 0) : Good (kB m c).A t (k0_pay2 (F := Ideal) (stX m c 0 inb_S8x768x1024_S1x768x1024_0_0_0)) (k0_pay2 (F := Ideal) (stX m c 1 inb_S8x768x1024_S1x768x1024_1_0_0)) (k0_pay2 (F := Ideal) (stX m c 2 inb_S8x768x1024_S1x768x1024_2_0_0)) (k0_pay2 (F := Ideal) (stX m c 3 inb_S8x768x1024_S1x768x1024_3_0_0)) (k0_pay2 (F := Ideal) (stX m c 4 inb_S8x768x1024_S1x768x1024_4_0_0)) (k0_pay2 (F := Ideal) (stX m c 5 inb_S8x768x1024_S1x768x1024_5_0_0)) (k0_pay2 (F := Ideal) (stX m c 6 inb_S8x768x1024_S1x768x1024_6_0_0)) (k0_pay2 (F := Ideal) (stX m c 7 inb_S8x768x1024_S1x768x1024_7_0_0)) (View.ld (Val := Elt Ideal) (S := S8x6144) (e' := .f32) (k0_pay12 (F := Ideal) k0_pay11) (r14 0 inb_S8x6144_S8x768_0_0)) (View.ld (Val := Elt Ideal) (S := S8x6144) (e' := .f32) (k0_pay12 (F := Ideal) k0_pay11) (r14 768 inb_S8x6144_S8x768_0_768)) (View.ld (Val := Elt Ideal) (S := S8x6144) (e' := .f32) (k0_pay12 (F := Ideal) k0_pay11) (r14 1536 inb_S8x6144_S8x768_0_1536)) (View.ld (Val := Elt Ideal) (S := S8x6144) (e' := .f32) (k0_pay12 (F := Ideal) k0_pay11) (r14 2304 inb_S8x6144_S8x768_0_2304)) (View.ld (Val := Elt Ideal) (S := S8x6144) (e' := .f32) (k0_pay12 (F := Ideal) k0_pay11) (r14 3072 inb_S8x6144_S8x768_0_3072)) (View.ld (Val := Elt Ideal) (S := S8x6144) (e' := .f32) (k0_pay12 (F := Ideal) k0_pay11) (r14 3840 inb_S8x6144_S8x768_0_3840)) (View.ld (Val := Elt Ideal) (S := S8x6144) (e' := .f32) (k0_pay12 (F := Ideal) k0_pay11) (r14 4608 inb_S8x6144_S8x768_0_4608)) (View.ld (Val := Elt Ideal) (S := S8x6144) (e' := .f32) (k0_pay12 (F := Ideal) k0_pay11) (r14 5376 inb_S8x6144_S8x768_0_5376)) (View.ld (Val := Elt Ideal) (S := S4x768x1024) (e' := .bf16) (stD m c) (r13 0 inb_S4x768x1024_S1x768x1024_0_0_0)) (View.ld (Val := Elt Ideal) (S := S4x768x1024) (e' := .bf16) (stD m c) (r13 1 inb_S4x768x1024_S1x768x1024_1_0_0)) (View.ld (Val := Elt Ideal) (S := S4x768x1024) (e' := .bf16) (stD m c) (r13 2 inb_S4x768x1024_S1x768x1024_2_0_0)) (View.ld (Val := Elt Ideal) (S := S4x768x1024) (e' := .bf16) (stD m c) (r13 3 inb_S4x768x1024_S1x768x1024_3_0_0)) where
  hw0 := stW m c 0 inb_S8x768x1024_S1x768x1024_0_0_0 0 0 rfl
  hw1 := stW m c 1 inb_S8x768x1024_S1x768x1024_1_0_0 0 1 rfl
  hw2 := stW m c 2 inb_S8x768x1024_S1x768x1024_2_0_0 0 2 rfl
  hw3 := stW m c 3 inb_S8x768x1024_S1x768x1024_3_0_0 0 3 rfl
  hw4 := stW m c 4 inb_S8x768x1024_S1x768x1024_4_0_0 1 0 rfl
  hw5 := stW m c 5 inb_S8x768x1024_S1x768x1024_5_0_0 1 1 rfl
  hw6 := stW m c 6 inb_S8x768x1024_S1x768x1024_6_0_0 1 2 rfl
  hw7 := stW m c 7 inb_S8x768x1024_S1x768x1024_7_0_0 1 3 rfl
  hx0 := ldX0 m c t ht 0 inb_S8x6144_S8x768_0_0 0 0
  hx1 := ldX0 m c t ht 768 inb_S8x6144_S8x768_0_768 0 1
  hx2 := ldX0 m c t ht 1536 inb_S8x6144_S8x768_0_1536 0 2
  hx3 := ldX0 m c t ht 2304 inb_S8x6144_S8x768_0_2304 0 3
  hx4 := ldX0 m c t ht 3072 inb_S8x6144_S8x768_0_3072 1 0
  hx5 := ldX0 m c t ht 3840 inb_S8x6144_S8x768_0_3840 1 1
  hx6 := ldX0 m c t ht 4608 inb_S8x6144_S8x768_0_4608 1 2
  hx7 := ldX0 m c t ht 5376 inb_S8x6144_S8x768_0_5376 1 3
  hd0 := ldD m c _ (stD_at m c) 0 inb_S4x768x1024_S1x768x1024_0_0_0 0 rfl
  hd1 := ldD m c _ (stD_at m c) 1 inb_S4x768x1024_S1x768x1024_1_0_0 1 rfl
  hd2 := ldD m c _ (stD_at m c) 2 inb_S4x768x1024_S1x768x1024_2_0_0 2 rfl
  hd3 := ldD m c _ (stD_at m c) 3 inb_S4x768x1024_S1x768x1024_3_0_0 3 rfl
theorem good_B (c : Dev nD) (t s : Fin cfg0.N) (hs : s.val + 1 = t.val) (P12 : FVec Ideal S8x1024x768 .bf16) (P13 : FVec Ideal S4x768x1024 .bf16) (P14 : FVec Ideal S8x6144 .f32)
    (h12 : ∀ y, P12 y = G12 m c y) (h13 : ∀ y, P13 y = G13 m c y) (h14 : ∀ y, P14 y = crG m c s y) : Good (kB m c).A t (View.ld (Val := Elt Ideal) (S := S8x1024x768) (e' := .bf16) P12 (r12 0 inb_S8x1024x768_S1x1024x768_0_0_0)) (View.ld (Val := Elt Ideal) (S := S8x1024x768) (e' := .bf16) P12 (r12 1 inb_S8x1024x768_S1x1024x768_1_0_0)) (View.ld (Val := Elt Ideal) (S := S8x1024x768) (e' := .bf16) P12 (r12 2 inb_S8x1024x768_S1x1024x768_2_0_0)) (View.ld (Val := Elt Ideal) (S := S8x1024x768) (e' := .bf16) P12 (r12 3 inb_S8x1024x768_S1x1024x768_3_0_0)) (View.ld (Val := Elt Ideal) (S := S8x1024x768) (e' := .bf16) P12 (r12 4 inb_S8x1024x768_S1x1024x768_4_0_0)) (View.ld (Val := Elt Ideal) (S := S8x1024x768) (e' := .bf16) P12 (r12 5 inb_S8x1024x768_S1x1024x768_5_0_0)) (View.ld (Val := Elt Ideal) (S := S8x1024x768) (e' := .bf16) P12 (r12 6 inb_S8x1024x768_S1x1024x768_6_0_0)) (View.ld (Val := Elt Ideal) (S := S8x1024x768) (e' := .bf16) P12 (r12 7 inb_S8x1024x768_S1x1024x768_7_0_0)) (View.ld (Val := Elt Ideal) (S := S8x6144) (e' := .f32) P14 (r14 0 inb_S8x6144_S8x768_0_0)) (View.ld (Val := Elt Ideal) (S := S8x6144) (e' := .f32) P14 (r14 768 inb_S8x6144_S8x768_0_768)) (View.ld (Val := Elt Ideal) (S := S8x6144) (e' := .f32) P14 (r14 1536 inb_S8x6144_S8x768_0_1536)) (View.ld (Val := Elt Ideal) (S := S8x6144) (e' := .f32) P14 (r14 2304 inb_S8x6144_S8x768_0_2304)) (View.ld (Val := Elt Ideal) (S := S8x6144) (e' := .f32) P14 (r14 3072 inb_S8x6144_S8x768_0_3072)) (View.ld (Val := Elt Ideal) (S := S8x6144) (e' := .f32) P14 (r14 3840 inb_S8x6144_S8x768_0_3840)) (View.ld (Val := Elt Ideal) (S := S8x6144) (e' := .f32) P14 (r14 4608 inb_S8x6144_S8x768_0_4608)) (View.ld (Val := Elt Ideal) (S := S8x6144) (e' := .f32) P14 (r14 5376 inb_S8x6144_S8x768_0_5376)) (View.ld (Val := Elt Ideal) (S := S4x768x1024) (e' := .bf16) P13 (r13 0 inb_S4x768x1024_S1x768x1024_0_0_0)) (View.ld (Val := Elt Ideal) (S := S4x768x1024) (e' := .bf16) P13 (r13 1 inb_S4x768x1024_S1x768x1024_1_0_0)) (View.ld (Val := Elt Ideal) (S := S4x768x1024) (e' := .bf16) P13 (r13 2 inb_S4x768x1024_S1x768x1024_2_0_0)) (View.ld (Val := Elt Ideal) (S := S4x768x1024) (e' := .bf16) P13 (r13 3 inb_S4x768x1024_S1x768x1024_3_0_0)) where
  hw0 := ldW m c _ h12 0 inb_S8x1024x768_S1x1024x768_0_0_0 0 0 rfl
  hw1 := ldW m c _ h12 1 inb_S8x1024x768_S1x1024x768_1_0_0 0 1 rfl
  hw2 := ldW m c _ h12 2 inb_S8x1024x768_S1x1024x768_2_0_0 0 2 rfl
  hw3 := ldW m c _ h12 3 inb_S8x1024x768_S1x1024x768_3_0_0 0 3 rfl
  hw4 := ldW m c _ h12 4 inb_S8x1024x768_S1x1024x768_4_0_0 1 0 rfl
  hw5 := ldW m c _ h12 5 inb_S8x1024x768_S1x1024x768_5_0_0 1 1 rfl
  hw6 := ldW m c _ h12 6 inb_S8x1024x768_S1x1024x768_6_0_0 1 2 rfl
  hw7 := ldW m c _ h12 7 inb_S8x1024x768_S1x1024x768_7_0_0 1 3 rfl
  hx0 := ldX m c t s hs _ h14 0 0 0 rfl inb_S8x6144_S8x768_0_0
  hx1 := ldX m c t s hs _ h14 0 1 768 rfl inb_S8x6144_S8x768_0_768
  hx2 := ldX m c t s hs _ h14 0 2 1536 rfl inb_S8x6144_S8x768_0_1536
  hx3 := ldX m c t s hs _ h14 0 3 2304 rfl inb_S8x6144_S8x768_0_2304
  hx4 := ldX m c t s hs _ h14 1 0 3072 rfl inb_S8x6144_S8x768_0_3072
  hx5 := ldX m c t s hs _ h14 1 1 3840 rfl inb_S8x6144_S8x768_0_3840
  hx6 := ldX m c t s hs _ h14 1 2 4608 rfl inb_S8x6144_S8x768_0_4608
  hx7 := ldX m c t s hs _ h14 1 3 5376 rfl inb_S8x6144_S8x768_0_5376
  hd0 := ldD m c _ h13 0 inb_S4x768x1024_S1x768x1024_0_0_0 0 rfl
  hd1 := ldD m c _ h13 1 inb_S4x768x1024_S1x768x1024_1_0_0 1 rfl
  hd2 := ldD m c _ h13 2 inb_S4x768x1024_S1x768x1024_2_0_0 2 rfl
  hd3 := ldD m c _ h13 3 inb_S4x768x1024_S1x768x1024_3_0_0 3 rfl

theorem x14_A (c : Dev nD) (t : Fin cfg0.N) (hc : t.val % 32 = 0) (y : S8x6144.Idx) : (outsAt0 m c t.val t.isLt).2.2.2.2.2.2 y = crG m c t y := by
  rw [outsAt0_A m c t hc]
  frame_open
  simp (disch := decide) only [↓ View.readCov_skip, ↓ View.readCov_cons_toLoadRect, ↓ View.readCov_fill]
  frame_out
  simp only [stage_eq, down_eq]
  exact View.canon_append_of_piecesOf (crG m c t) [_] _ (crL_pieces m c t (good_A m c t (by have := t_lt t; omega))) y (crL_cover m c t _ _ _ _ _ _ _ _ _ _ _ _ _ _ _ _ _ _ _ _ y)
theorem x14_B (c : Dev nD) (t : Fin cfg0.N) (hc : ¬ t.val % 32 = 0) (h' : t.val - 1 < cfg0.N)
    (hg : Good (kB m c).A t (View.ld (Val := Elt Ideal) (S := S8x1024x768) (e' := .bf16) (outsAt0 m c (t.val - 1) h').2.2.2.2.1 (r12 0 inb_S8x1024x768_S1x1024x768_0_0_0)) (View.ld (Val := Elt Ideal) (S := S8x1024x768) (e' := .bf16) (outsAt0 m c (t.val - 1) h').2.2.2.2.1 (r12 1 inb_S8x1024x768_S1x1024x768_1_0_0)) (View.ld (Val := Elt Ideal) (S := S8x1024x768) (e' := .bf16) (outsAt0 m c (t.val - 1) h').2.2.2.2.1 (r12 2 inb_S8x1024x768_S1x1024x768_2_0_0)) (View.ld (Val := Elt Ideal) (S := S8x1024x768) (e' := .bf16) (outsAt0 m c (t.val - 1) h').2.2.2.2.1 (r12 3 inb_S8x1024x768_S1x1024x768_3_0_0)) (View.ld (Val := Elt Ideal) (S := S8x1024x768) (e' := .bf16) (outsAt0 m c (t.val - 1) h').2.2.2.2.1 (r12 4 inb_S8x1024x768_S1x1024x768_4_0_0)) (View.ld (Val := Elt Ideal) (S := S8x1024x768) (e' := .bf16) (outsAt0 m c (t.val - 1) h').2.2.2.2.1 (r12 5 inb_S8x1024x768_S1x1024x768_5_0_0)) (View.ld (Val := Elt Ideal) (S := S8x1024x768) (e' := .bf16) (outsAt0 m c (t.val - 1) h').2.2.2.2.1 (r12 6 inb_S8x1024x768_S1x1024x768_6_0_0)) (View.ld (Val := Elt Ideal) (S := S8x1024x768) (e' := .bf16) (outsAt0 m c (t.val - 1) h').2.2.2.2.1 (r12 7 inb_S8x1024x768_S1x1024x768_7_0_0)) (View.ld (Val := Elt Ideal) (S := S8x6144) (e' := .f32) (outsAt0 m c (t.val - 1) h').2.2.2.2.2.2 (r14 0 inb_S8x6144_S8x768_0_0)) (View.ld (Val := Elt Ideal) (S := S8x6144) (e' := .f32) (outsAt0 m c (t.val - 1) h').2.2.2.2.2.2 (r14 768 inb_S8x6144_S8x768_0_768)) (View.ld (Val := Elt Ideal) (S := S8x6144) (e' := .f32) (outsAt0 m c (t.val - 1) h').2.2.2.2.2.2 (r14 1536 inb_S8x6144_S8x768_0_1536)) (View.ld (Val := Elt Ideal) (S := S8x6144) (e' := .f32) (outsAt0 m c (t.val - 1) h').2.2.2.2.2.2 (r14 2304 inb_S8x6144_S8x768_0_2304)) (View.ld (Val := Elt Ideal) (S := S8x6144) (e' := .f32) (outsAt0 m c (t.val - 1) h').2.2.2.2.2.2 (r14 3072 inb_S8x6144_S8x768_0_3072)) (View.ld (Val := Elt Ideal) (S := S8x6144) (e' := .f32) (outsAt0 m c (t.val - 1) h').2.2.2.2.2.2 (r14 3840 inb_S8x6144_S8x768_0_3840)) (View.ld (Val := Elt Ideal) (S := S8x6144) (e' := .f32) (outsAt0 m c (t.val - 1) h').2.2.2.2.2.2 (r14 4608 inb_S8x6144_S8x768_0_4608)) (View.ld (Val := Elt Ideal) (S := S8x6144) (e' := .f32) (outsAt0 m c (t.val - 1) h').2.2.2.2.2.2 (r14 5376 inb_S8x6144_S8x768_0_5376)) (View.ld (Val := Elt Ideal) (S := S4x768x1024) (e' := .bf16) (outsAt0 m c (t.val - 1) h').2.2.2.2.2.1 (r13 0 inb_S4x768x1024_S1x768x1024_0_0_0)) (View.ld (Val := Elt Ideal) (S := S4x768x1024) (e' := .bf16) (outsAt0 m c (t.val - 1) h').2.2.2.2.2.1 (r13 1 inb_S4x768x1024_S1x768x1024_1_0_0)) (View.ld (Val := Elt Ideal) (S := S4x768x1024) (e' := .bf16) (outsAt0 m c (t.val - 1) h').2.2.2.2.2.1 (r13 2 inb_S4x768x1024_S1x768x1024_2_0_0)) (View.ld (Val := Elt Ideal) (S := S4x768x1024) (e' := .bf16) (outsAt0 m c (t.val - 1) h').2.2.2.2.2.1 (r13 3 inb_S4x768x1024_S1x768x1024_3_0_0)))
    (y : S8x6144.Idx) : (outsAt0 m c t.val t.isLt).2.2.2.2.2.2 y = crG m c t y := by
  rw [outsAt0_B m c t hc]
  frame_out
  simp only [read_unread_whole]
  exact View.canon_append_of_piecesOf (crG m c t) [] _ (crL_pieces m c t hg) y (crL_cover m c t _ _ _ _ _ _ _ _ _ _ _ _ _ _ _ _ _ _ _ _ y)
theorem x14_at (c : Dev nD) (n : ℕ) (h : n < cfg0.N) (y : S8x6144.Idx) : (outsAt0 m c n h).2.2.2.2.2.2 y = crG m c ⟨n, h⟩ y := by
  induction n generalizing y with
  | zero => exact x14_A m c ⟨0, h⟩ rfl y
  | succ n ih =>
    have h' : n < cfg0.N := Nat.lt_of_succ_lt h
    have hc : ¬ (⟨n + 1, h⟩ : Fin cfg0.N).val % 32 = 0 := by
      have h' : n + 1 < 32 := h
      show ¬ (n + 1) % 32 = 0
      omega
    exact x14_B m c ⟨n + 1, h⟩ hc h'
      (good_B m c ⟨n + 1, h⟩ ⟨n, h'⟩ rfl _ _ _ (w12_at m c n h') (d13_at m c n h') (ih h')) y

theorem gB (c : Dev nD) (t : Fin cfg0.N) (hc : ¬ t.val % 32 = 0) (h' : t.val - 1 < cfg0.N) : Good (kB m c).A t (View.ld (Val := Elt Ideal) (S := S8x1024x768) (e' := .bf16) (outsAt0 m c (t.val - 1) h').2.2.2.2.1 (r12 0 inb_S8x1024x768_S1x1024x768_0_0_0)) (View.ld (Val := Elt Ideal) (S := S8x1024x768) (e' := .bf16) (outsAt0 m c (t.val - 1) h').2.2.2.2.1 (r12 1 inb_S8x1024x768_S1x1024x768_1_0_0)) (View.ld (Val := Elt Ideal) (S := S8x1024x768) (e' := .bf16) (outsAt0 m c (t.val - 1) h').2.2.2.2.1 (r12 2 inb_S8x1024x768_S1x1024x768_2_0_0)) (View.ld (Val := Elt Ideal) (S := S8x1024x768) (e' := .bf16) (outsAt0 m c (t.val - 1) h').2.2.2.2.1 (r12 3 inb_S8x1024x768_S1x1024x768_3_0_0)) (View.ld (Val := Elt Ideal) (S := S8x1024x768) (e' := .bf16) (outsAt0 m c (t.val - 1) h').2.2.2.2.1 (r12 4 inb_S8x1024x768_S1x1024x768_4_0_0)) (View.ld (Val := Elt Ideal) (S := S8x1024x768) (e' := .bf16) (outsAt0 m c (t.val - 1) h').2.2.2.2.1 (r12 5 inb_S8x1024x768_S1x1024x768_5_0_0)) (View.ld (Val := Elt Ideal) (S := S8x1024x768) (e' := .bf16) (outsAt0 m c (t.val - 1) h').2.2.2.2.1 (r12 6 inb_S8x1024x768_S1x1024x768_6_0_0)) (View.ld (Val := Elt Ideal) (S := S8x1024x768) (e' := .bf16) (outsAt0 m c (t.val - 1) h').2.2.2.2.1 (r12 7 inb_S8x1024x768_S1x1024x768_7_0_0)) (View.ld (Val := Elt Ideal) (S := S8x6144) (e' := .f32) (outsAt0 m c (t.val - 1) h').2.2.2.2.2.2 (r14 0 inb_S8x6144_S8x768_0_0)) (View.ld (Val := Elt Ideal) (S := S8x6144) (e' := .f32) (outsAt0 m c (t.val - 1) h').2.2.2.2.2.2 (r14 768 inb_S8x6144_S8x768_0_768)) (View.ld (Val := Elt Ideal) (S := S8x6144) (e' := .f32) (outsAt0 m c (t.val - 1) h').2.2.2.2.2.2 (r14 1536 inb_S8x6144_S8x768_0_1536)) (View.ld (Val := Elt Ideal) (S := S8x6144) (e' := .f32) (outsAt0 m c (t.val - 1) h').2.2.2.2.2.2 (r14 2304 inb_S8x6144_S8x768_0_2304)) (View.ld (Val := Elt Ideal) (S := S8x6144) (e' := .f32) (outsAt0 m c (t.val - 1) h').2.2.2.2.2.2 (r14 3072 inb_S8x6144_S8x768_0_3072)) (View.ld (Val := Elt Ideal) (S := S8x6144) (e' := .f32) (outsAt0 m c (t.val - 1) h').2.2.2.2.2.2 (r14 3840 inb_S8x6144_S8x768_0_3840)) (View.ld (Val := Elt Ideal) (S := S8x6144) (e' := .f32) (outsAt0 m c (t.val - 1) h').2.2.2.2.2.2 (r14 4608 inb_S8x6144_S8x768_0_4608)) (View.ld (Val := Elt Ideal) (S := S8x6144) (e' := .f32) (outsAt0 m c (t.val - 1) h').2.2.2.2.2.2 (r14 5376 inb_S8x6144_S8x768_0_5376)) (View.ld (Val := Elt Ideal) (S := S4x768x1024) (e' := .bf16) (outsAt0 m c (t.val - 1) h').2.2.2.2.2.1 (r13 0 inb_S4x768x1024_S1x768x1024_0_0_0)) (View.ld (Val := Elt Ideal) (S := S4x768x1024) (e' := .bf16) (outsAt0 m c (t.val - 1) h').2.2.2.2.2.1 (r13 1 inb_S4x768x1024_S1x768x1024_1_0_0)) (View.ld (Val := Elt Ideal) (S := S4x768x1024) (e' := .bf16) (outsAt0 m c (t.val - 1) h').2.2.2.2.2.1 (r13 2 inb_S4x768x1024_S1x768x1024_2_0_0)) (View.ld (Val := Elt Ideal) (S := S4x768x1024) (e' := .bf16) (outsAt0 m c (t.val - 1) h').2.2.2.2.2.1 (r13 3 inb_S4x768x1024_S1x768x1024_3_0_0)) :=
  good_B m c t ⟨t.val - 1, h'⟩ (by show t.val - 1 + 1 = t.val; omega) _ _ _ (w12_at m c _ h') (d13_at m c _ h') (x14_at m c _ h')
theorem gA (c : Dev nD) (t : Fin cfg0.N) (hc : t.val % 32 = 0) : Good (kB m c).A t (k0_pay2 (F := Ideal) (stX m c 0 inb_S8x768x1024_S1x768x1024_0_0_0)) (k0_pay2 (F := Ideal) (stX m c 1 inb_S8x768x1024_S1x768x1024_1_0_0)) (k0_pay2 (F := Ideal) (stX m c 2 inb_S8x768x1024_S1x768x1024_2_0_0)) (k0_pay2 (F := Ideal) (stX m c 3 inb_S8x768x1024_S1x768x1024_3_0_0)) (k0_pay2 (F := Ideal) (stX m c 4 inb_S8x768x1024_S1x768x1024_4_0_0)) (k0_pay2 (F := Ideal) (stX m c 5 inb_S8x768x1024_S1x768x1024_5_0_0)) (k0_pay2 (F := Ideal) (stX m c 6 inb_S8x768x1024_S1x768x1024_6_0_0)) (k0_pay2 (F := Ideal) (stX m c 7 inb_S8x768x1024_S1x768x1024_7_0_0)) (View.ld (Val := Elt Ideal) (S := S8x6144) (e' := .f32) (k0_pay12 (F := Ideal) k0_pay11) (r14 0 inb_S8x6144_S8x768_0_0)) (View.ld (Val := Elt Ideal) (S := S8x6144) (e' := .f32) (k0_pay12 (F := Ideal) k0_pay11) (r14 768 inb_S8x6144_S8x768_0_768)) (View.ld (Val := Elt Ideal) (S := S8x6144) (e' := .f32) (k0_pay12 (F := Ideal) k0_pay11) (r14 1536 inb_S8x6144_S8x768_0_1536)) (View.ld (Val := Elt Ideal) (S := S8x6144) (e' := .f32) (k0_pay12 (F := Ideal) k0_pay11) (r14 2304 inb_S8x6144_S8x768_0_2304)) (View.ld (Val := Elt Ideal) (S := S8x6144) (e' := .f32) (k0_pay12 (F := Ideal) k0_pay11) (r14 3072 inb_S8x6144_S8x768_0_3072)) (View.ld (Val := Elt Ideal) (S := S8x6144) (e' := .f32) (k0_pay12 (F := Ideal) k0_pay11) (r14 3840 inb_S8x6144_S8x768_0_3840)) (View.ld (Val := Elt Ideal) (S := S8x6144) (e' := .f32) (k0_pay12 (F := Ideal) k0_pay11) (r14 4608 inb_S8x6144_S8x768_0_4608)) (View.ld (Val := Elt Ideal) (S := S8x6144) (e' := .f32) (k0_pay12 (F := Ideal) k0_pay11) (r14 5376 inb_S8x6144_S8x768_0_5376)) (View.ld (Val := Elt Ideal) (S := S4x768x1024) (e' := .bf16) (stD m c) (r13 0 inb_S4x768x1024_S1x768x1024_0_0_0)) (View.ld (Val := Elt Ideal) (S := S4x768x1024) (e' := .bf16) (stD m c) (r13 1 inb_S4x768x1024_S1x768x1024_1_0_0)) (View.ld (Val := Elt Ideal) (S := S4x768x1024) (e' := .bf16) (stD m c) (r13 2 inb_S4x768x1024_S1x768x1024_2_0_0)) (View.ld (Val := Elt Ideal) (S := S4x768x1024) (e' := .bf16) (stD m c) (r13 3 inb_S4x768x1024_S1x768x1024_3_0_0)) :=
  good_A m c t (by have := t_lt t; omega)

end Cert.FwdFfn
-- ==== Proof.FwdRes.lean ====
module

public import proofs.«01_k».proof.Proof.FwdState
public import Idealize.ShloMosaic.Lib.Pipeline.ReadBack
public import Idealize.ShloMosaic.Lib.ValueLayout

/-! # The four results at a point -/

@[expose] public section

set_option maxRecDepth 16384
noncomputable section

open Idealize.ShloMosaic Idealize.ShloMosaic.TcCoe Idealize.SL.Sem
open Idealize.ShloMosaic.Pipeline (Dat)

namespace Cert.FwdFfn

open Cert.Kernel5Ideal Cert.Kernel5Ideal.Gen Cert.FfnGrad

variable (m : (ℓ : Loc nD τ sig) → Buf (Elt Ideal) ℓ)
theorem out_up_A (c : Dev nD) (t : Fin cfg0.N) (hc : t.val % 32 = 0) (y : S256x6144.Idx) : (outsAt0 m c t.val t.isLt).1 y = upG m c t y := by
  rw [outsAt0_A m c t hc]
  frame_open
  simp (disch := decide) only [↓ View.readCov_skip, ↓ View.readCov_cons_toLoadRect, ↓ View.readCov_fill]
  frame_out
  simp only [stage_eq, down_eq]
  exact View.canon_append_of_piecesOf (upG m c t) [] _ (upL_pieces m c t (gA m c t hc)) y (upL_cover m c t _ _ _ _ _ _ _ _ _ _ _ _ _ _ _ _ _ _ _ _ y)
theorem out_up_B (c : Dev nD) (t : Fin cfg0.N) (hc : ¬ t.val % 32 = 0) (h' : t.val - 1 < cfg0.N) (y : S256x6144.Idx) : (outsAt0 m c t.val t.isLt).1 y = upG m c t y := by
  rw [outsAt0_B m c t hc]
  frame_out
  simp only [read_unread_whole]
  exact View.canon_append_of_piecesOf (upG m c t) [] _ (upL_pieces m c t (gB m c t hc h')) y (upL_cover m c t _ _ _ _ _ _ _ _ _ _ _ _ _ _ _ _ _ _ _ _ y)
theorem out_up (c : Dev nD) (t : Fin cfg0.N) (y : S256x6144.Idx) : (outsAt0 m c t.val t.isLt).1 y = upG m c t y := by
  by_cases hc : t.val % 32 = 0
  · exact out_up_A m c t hc y
  · exact out_up_B m c t hc (Nat.lt_of_le_of_lt (Nat.sub_le _ _) t.isLt) y
theorem out_cv_A (c : Dev nD) (t : Fin cfg0.N) (hc : t.val % 32 = 0) (y : S256x6144.Idx) : (outsAt0 m c t.val t.isLt).2.1 y = cvG m c t y := by
  rw [outsAt0_A m c t hc]
  frame_open
  simp (disch := decide) only [↓ View.readCov_skip, ↓ View.readCov_cons_toLoadRect, ↓ View.readCov_fill]
  frame_out
  simp only [stage_eq, down_eq]
  exact View.canon_append_of_piecesOf (cvG m c t) [] _ (cvL_pieces m c t (gA m c t hc)) y (cvL_cover m c t _ _ _ _ _ _ _ _ _ _ _ _ _ _ _ _ _ _ _ _ y)
theorem out_cv_B (c : Dev nD) (t : Fin cfg0.N) (hc : ¬ t.val % 32 = 0) (h' : t.val - 1 < cfg0.N) (y : S256x6144.Idx) : (outsAt0 m c t.val t.isLt).2.1 y = cvG m c t y := by
  rw [outsAt0_B m c t hc]
  frame_out
  simp only [read_unread_whole]
  exact View.canon_append_of_piecesOf (cvG m c t) [] _ (cvL_pieces m c t (gB m c t hc h')) y (cvL_cover m c t _ _ _ _ _ _ _ _ _ _ _ _ _ _ _ _ _ _ _ _ y)
theorem out_cv (c : Dev nD) (t : Fin cfg0.N) (y : S256x6144.Idx) : (outsAt0 m c t.val t.isLt).2.1 y = cvG m c t y := by
  by_cases hc : t.val % 32 = 0
  · exact out_cv_A m c t hc y
  · exact out_cv_B m c t hc (Nat.lt_of_le_of_lt (Nat.sub_le _ _) t.isLt) y
theorem out_dx_A (c : Dev nD) (t : Fin cfg0.N) (hc : t.val % 32 = 0) (y : S256x1024.Idx) : (outsAt0 m c t.val t.isLt).2.2.1 y = dx (kB m c) (tok t (y 0)) (y 1) := by
  rw [outsAt0_A m c t hc]
  frame_open
  simp (disch := decide) only [↓ View.readCov_skip, ↓ View.readCov_cons_toLoadRect, ↓ View.readCov_fill]
  frame_out
  simp only [stage_eq, down_eq]
  idx_vars y
  exact dx_tile m c t (gA m c t hc) y0 y1
theorem out_dx_B (c : Dev nD) (t : Fin cfg0.N) (hc : ¬ t.val % 32 = 0) (h' : t.val - 1 < cfg0.N) (y : S256x1024.Idx) : (outsAt0 m c t.val t.isLt).2.2.1 y = dx (kB m c) (tok t (y 0)) (y 1) := by
  rw [outsAt0_B m c t hc]
  frame_out
  simp only [read_unread_whole]
  idx_vars y
  exact dx_tile m c t (gB m c t hc h') y0 y1
theorem out_dx (c : Dev nD) (t : Fin cfg0.N) (y : S256x1024.Idx) : (outsAt0 m c t.val t.isLt).2.2.1 y = dx (kB m c) (tok t (y 0)) (y 1) := by
  by_cases hc : t.val % 32 = 0
  · exact out_dx_A m c t hc y
  · exact out_dx_B m c t hc (Nat.lt_of_le_of_lt (Nat.sub_le _ _) t.isLt) y
theorem ac_zero (y : S8x1024.Idx) : (k0_pay13 (F := Ideal) : FVec Ideal S8x1024 .f32) y = 0 := by
  idx_vars y
  unfold k0_pay13
  pointwise
theorem out_ac_A (c : Dev nD) (t : Fin cfg0.N) (hc : t.val % 32 = 0) (y : S8x1024.Idx) : (outsAt0 m c t.val t.isLt).2.2.2.1 y = 0 + acT m c t (y 0).val (y 1) := by
  rw [outsAt0_A m c t hc]
  frame_open
  simp (disch := decide) only [↓ View.readCov_skip, ↓ View.readCov_cons_toLoadRect, ↓ View.readCov_fill]
  frame_out
  simp only [stage_eq, down_eq]
  have hP := acL_pieces m c t (gA m c t hc) (k0_pay13 (F := Ideal))
  have hoff := fun h => acL_off m c t (k0_pay2 (F := Ideal) (stX m c 0 inb_S8x768x1024_S1x768x1024_0_0_0)) (k0_pay2 (F := Ideal) (stX m c 1 inb_S8x768x1024_S1x768x1024_1_0_0)) (k0_pay2 (F := Ideal) (stX m c 2 inb_S8x768x1024_S1x768x1024_2_0_0)) (k0_pay2 (F := Ideal) (stX m c 3 inb_S8x768x1024_S1x768x1024_3_0_0)) (k0_pay2 (F := Ideal) (stX m c 4 inb_S8x768x1024_S1x768x1024_4_0_0)) (k0_pay2 (F := Ideal) (stX m c 5 inb_S8x768x1024_S1x768x1024_5_0_0)) (k0_pay2 (F := Ideal) (stX m c 6 inb_S8x768x1024_S1x768x1024_6_0_0)) (k0_pay2 (F := Ideal) (stX m c 7 inb_S8x768x1024_S1x768x1024_7_0_0)) (View.ld (Val := Elt Ideal) (S := S8x6144) (e' := .f32) (k0_pay12 (F := Ideal) k0_pay11) (r14 0 inb_S8x6144_S8x768_0_0)) (View.ld (Val := Elt Ideal) (S := S8x6144) (e' := .f32) (k0_pay12 (F := Ideal) k0_pay11) (r14 768 inb_S8x6144_S8x768_0_768)) (View.ld (Val := Elt Ideal) (S := S8x6144) (e' := .f32) (k0_pay12 (F := Ideal) k0_pay11) (r14 1536 inb_S8x6144_S8x768_0_1536)) (View.ld (Val := Elt Ideal) (S := S8x6144) (e' := .f32) (k0_pay12 (F := Ideal) k0_pay11) (r14 2304 inb_S8x6144_S8x768_0_2304)) (View.ld (Val := Elt Ideal) (S := S8x6144) (e' := .f32) (k0_pay12 (F := Ideal) k0_pay11) (r14 3072 inb_S8x6144_S8x768_0_3072)) (View.ld (Val := Elt Ideal) (S := S8x6144) (e' := .f32) (k0_pay12 (F := Ideal) k0_pay11) (r14 3840 inb_S8x6144_S8x768_0_3840)) (View.ld (Val := Elt Ideal) (S := S8x6144) (e' := .f32) (k0_pay12 (F := Ideal) k0_pay11) (r14 4608 inb_S8x6144_S8x768_0_4608)) (View.ld (Val := Elt Ideal) (S := S8x6144) (e' := .f32) (k0_pay12 (F := Ideal) k0_pay11) (r14 5376 inb_S8x6144_S8x768_0_5376)) (View.ld (Val := Elt Ideal) (S := S4x768x1024) (e' := .bf16) (stD m c) (r13 0 inb_S4x768x1024_S1x768x1024_0_0_0)) (View.ld (Val := Elt Ideal) (S := S4x768x1024) (e' := .bf16) (stD m c) (r13 1 inb_S4x768x1024_S1x768x1024_1_0_0)) (View.ld (Val := Elt Ideal) (S := S4x768x1024) (e' := .bf16) (stD m c) (r13 2 inb_S4x768x1024_S1x768x1024_2_0_0)) (View.ld (Val := Elt Ideal) (S := S4x768x1024) (e' := .bf16) (stD m c) (r13 3 inb_S4x768x1024_S1x768x1024_3_0_0)) (k0_pay13 (F := Ideal)) y h
  revert hP hoff
  refine fun hP hoff => ?_
  by_cases ho : ∃ p ∈ acL m c t (k0_pay2 (F := Ideal) (stX m c 0 inb_S8x768x1024_S1x768x1024_0_0_0)) (k0_pay2 (F := Ideal) (stX m c 1 inb_S8x768x1024_S1x768x1024_1_0_0)) (k0_pay2 (F := Ideal) (stX m c 2 inb_S8x768x1024_S1x768x1024_2_0_0)) (k0_pay2 (F := Ideal) (stX m c 3 inb_S8x768x1024_S1x768x1024_3_0_0)) (k0_pay2 (F := Ideal) (stX m c 4 inb_S8x768x1024_S1x768x1024_4_0_0)) (k0_pay2 (F := Ideal) (stX m c 5 inb_S8x768x1024_S1x768x1024_5_0_0)) (k0_pay2 (F := Ideal) (stX m c 6 inb_S8x768x1024_S1x768x1024_6_0_0)) (k0_pay2 (F := Ideal) (stX m c 7 inb_S8x768x1024_S1x768x1024_7_0_0)) (View.ld (Val := Elt Ideal) (S := S8x6144) (e' := .f32) (k0_pay12 (F := Ideal) k0_pay11) (r14 0 inb_S8x6144_S8x768_0_0)) (View.ld (Val := Elt Ideal) (S := S8x6144) (e' := .f32) (k0_pay12 (F := Ideal) k0_pay11) (r14 768 inb_S8x6144_S8x768_0_768)) (View.ld (Val := Elt Ideal) (S := S8x6144) (e' := .f32) (k0_pay12 (F := Ideal) k0_pay11) (r14 1536 inb_S8x6144_S8x768_0_1536)) (View.ld (Val := Elt Ideal) (S := S8x6144) (e' := .f32) (k0_pay12 (F := Ideal) k0_pay11) (r14 2304 inb_S8x6144_S8x768_0_2304)) (View.ld (Val := Elt Ideal) (S := S8x6144) (e' := .f32) (k0_pay12 (F := Ideal) k0_pay11) (r14 3072 inb_S8x6144_S8x768_0_3072)) (View.ld (Val := Elt Ideal) (S := S8x6144) (e' := .f32) (k0_pay12 (F := Ideal) k0_pay11) (r14 3840 inb_S8x6144_S8x768_0_3840)) (View.ld (Val := Elt Ideal) (S := S8x6144) (e' := .f32) (k0_pay12 (F := Ideal) k0_pay11) (r14 4608 inb_S8x6144_S8x768_0_4608)) (View.ld (Val := Elt Ideal) (S := S8x6144) (e' := .f32) (k0_pay12 (F := Ideal) k0_pay11) (r14 5376 inb_S8x6144_S8x768_0_5376)) (View.ld (Val := Elt Ideal) (S := S4x768x1024) (e' := .bf16) (stD m c) (r13 0 inb_S4x768x1024_S1x768x1024_0_0_0)) (View.ld (Val := Elt Ideal) (S := S4x768x1024) (e' := .bf16) (stD m c) (r13 1 inb_S4x768x1024_S1x768x1024_1_0_0)) (View.ld (Val := Elt Ideal) (S := S4x768x1024) (e' := .bf16) (stD m c) (r13 2 inb_S4x768x1024_S1x768x1024_2_0_0)) (View.ld (Val := Elt Ideal) (S := S4x768x1024) (e' := .bf16) (stD m c) (r13 3 inb_S4x768x1024_S1x768x1024_3_0_0)) (k0_pay13 (F := Ideal)), y ∈ p.1.set
  · exact (View.canon_append_of_piecesOf (acG m c t (k0_pay13 (F := Ideal))) [_] _ hP y ho).trans (congrArg (· + _) (ac_zero y))
  · have hn : ∀ p ∈ acL m c t (k0_pay2 (F := Ideal) (stX m c 0 inb_S8x768x1024_S1x768x1024_0_0_0)) (k0_pay2 (F := Ideal) (stX m c 1 inb_S8x768x1024_S1x768x1024_1_0_0)) (k0_pay2 (F := Ideal) (stX m c 2 inb_S8x768x1024_S1x768x1024_2_0_0)) (k0_pay2 (F := Ideal) (stX m c 3 inb_S8x768x1024_S1x768x1024_3_0_0)) (k0_pay2 (F := Ideal) (stX m c 4 inb_S8x768x1024_S1x768x1024_4_0_0)) (k0_pay2 (F := Ideal) (stX m c 5 inb_S8x768x1024_S1x768x1024_5_0_0)) (k0_pay2 (F := Ideal) (stX m c 6 inb_S8x768x1024_S1x768x1024_6_0_0)) (k0_pay2 (F := Ideal) (stX m c 7 inb_S8x768x1024_S1x768x1024_7_0_0)) (View.ld (Val := Elt Ideal) (S := S8x6144) (e' := .f32) (k0_pay12 (F := Ideal) k0_pay11) (r14 0 inb_S8x6144_S8x768_0_0)) (View.ld (Val := Elt Ideal) (S := S8x6144) (e' := .f32) (k0_pay12 (F := Ideal) k0_pay11) (r14 768 inb_S8x6144_S8x768_0_768)) (View.ld (Val := Elt Ideal) (S := S8x6144) (e' := .f32) (k0_pay12 (F := Ideal) k0_pay11) (r14 1536 inb_S8x6144_S8x768_0_1536)) (View.ld (Val := Elt Ideal) (S := S8x6144) (e' := .f32) (k0_pay12 (F := Ideal) k0_pay11) (r14 2304 inb_S8x6144_S8x768_0_2304)) (View.ld (Val := Elt Ideal) (S := S8x6144) (e' := .f32) (k0_pay12 (F := Ideal) k0_pay11) (r14 3072 inb_S8x6144_S8x768_0_3072)) (View.ld (Val := Elt Ideal) (S := S8x6144) (e' := .f32) (k0_pay12 (F := Ideal) k0_pay11) (r14 3840 inb_S8x6144_S8x768_0_3840)) (View.ld (Val := Elt Ideal) (S := S8x6144) (e' := .f32) (k0_pay12 (F := Ideal) k0_pay11) (r14 4608 inb_S8x6144_S8x768_0_4608)) (View.ld (Val := Elt Ideal) (S := S8x6144) (e' := .f32) (k0_pay12 (F := Ideal) k0_pay11) (r14 5376 inb_S8x6144_S8x768_0_5376)) (View.ld (Val := Elt Ideal) (S := S4x768x1024) (e' := .bf16) (stD m c) (r13 0 inb_S4x768x1024_S1x768x1024_0_0_0)) (View.ld (Val := Elt Ideal) (S := S4x768x1024) (e' := .bf16) (stD m c) (r13 1 inb_S4x768x1024_S1x768x1024_1_0_0)) (View.ld (Val := Elt Ideal) (S := S4x768x1024) (e' := .bf16) (stD m c) (r13 2 inb_S4x768x1024_S1x768x1024_2_0_0)) (View.ld (Val := Elt Ideal) (S := S4x768x1024) (e' := .bf16) (stD m c) (r13 3 inb_S4x768x1024_S1x768x1024_3_0_0)) (k0_pay13 (F := Ideal)), y ∉ p.1.set := fun p hp hy => ho ⟨p, hp, hy⟩
    rw [hoff hn, add_zero]
    refine (KernelIdeal.Sums.canon_append_off y [_] (acL m c t (k0_pay2 (F := Ideal) (stX m c 0 inb_S8x768x1024_S1x768x1024_0_0_0)) (k0_pay2 (F := Ideal) (stX m c 1 inb_S8x768x1024_S1x768x1024_1_0_0)) (k0_pay2 (F := Ideal) (stX m c 2 inb_S8x768x1024_S1x768x1024_2_0_0)) (k0_pay2 (F := Ideal) (stX m c 3 inb_S8x768x1024_S1x768x1024_3_0_0)) (k0_pay2 (F := Ideal) (stX m c 4 inb_S8x768x1024_S1x768x1024_4_0_0)) (k0_pay2 (F := Ideal) (stX m c 5 inb_S8x768x1024_S1x768x1024_5_0_0)) (k0_pay2 (F := Ideal) (stX m c 6 inb_S8x768x1024_S1x768x1024_6_0_0)) (k0_pay2 (F := Ideal) (stX m c 7 inb_S8x768x1024_S1x768x1024_7_0_0)) (View.ld (Val := Elt Ideal) (S := S8x6144) (e' := .f32) (k0_pay12 (F := Ideal) k0_pay11) (r14 0 inb_S8x6144_S8x768_0_0)) (View.ld (Val := Elt Ideal) (S := S8x6144) (e' := .f32) (k0_pay12 (F := Ideal) k0_pay11) (r14 768 inb_S8x6144_S8x768_0_768)) (View.ld (Val := Elt Ideal) (S := S8x6144) (e' := .f32) (k0_pay12 (F := Ideal) k0_pay11) (r14 1536 inb_S8x6144_S8x768_0_1536)) (View.ld (Val := Elt Ideal) (S := S8x6144) (e' := .f32) (k0_pay12 (F := Ideal) k0_pay11) (r14 2304 inb_S8x6144_S8x768_0_2304)) (View.ld (Val := Elt Ideal) (S := S8x6144) (e' := .f32) (k0_pay12 (F := Ideal) k0_pay11) (r14 3072 inb_S8x6144_S8x768_0_3072)) (View.ld (Val := Elt Ideal) (S := S8x6144) (e' := .f32) (k0_pay12 (F := Ideal) k0_pay11) (r14 3840 inb_S8x6144_S8x768_0_3840)) (View.ld (Val := Elt Ideal) (S := S8x6144) (e' := .f32) (k0_pay12 (F := Ideal) k0_pay11) (r14 4608 inb_S8x6144_S8x768_0_4608)) (View.ld (Val := Elt Ideal) (S := S8x6144) (e' := .f32) (k0_pay12 (F := Ideal) k0_pay11) (r14 5376 inb_S8x6144_S8x768_0_5376)) (View.ld (Val := Elt Ideal) (S := S4x768x1024) (e' := .bf16) (stD m c) (r13 0 inb_S4x768x1024_S1x768x1024_0_0_0)) (View.ld (Val := Elt Ideal) (S := S4x768x1024) (e' := .bf16) (stD m c) (r13 1 inb_S4x768x1024_S1x768x1024_1_0_0)) (View.ld (Val := Elt Ideal) (S := S4x768x1024) (e' := .bf16) (stD m c) (r13 2 inb_S4x768x1024_S1x768x1024_2_0_0)) (View.ld (Val := Elt Ideal) (S := S4x768x1024) (e' := .bf16) (stD m c) (r13 3 inb_S4x768x1024_S1x768x1024_3_0_0)) (k0_pay13 (F := Ideal))) hn).trans ?_
    exact View.canon_append_of_piecesOf (fun _ => 0) []
      ([⟨Rect.unit (![0, 0] : Fin 2 → Nat) (![8, 1024] : Fin 2 → Nat) inb_S8x1024_S8x1024_0_0, k0_pay13 (F := Ideal)⟩] :
        List (View.Piece (Elt Ideal) S8x1024 .f32))
      ⟨fun x => ac_zero x, trivial⟩ y ⟨_, List.mem_cons_self, View.mem_set_unit_zero (by decide) inb_S8x1024_S8x1024_0_0 y⟩
theorem out_ac_B (c : Dev nD) (t : Fin cfg0.N) (hc : ¬ t.val % 32 = 0) (h' : t.val - 1 < cfg0.N) (y : S8x1024.Idx) :
    (outsAt0 m c t.val t.isLt).2.2.2.1 y = (outsAt0 m c (t.val - 1) h').2.2.2.1 y + acT m c t (y 0).val (y 1) := by
  rw [outsAt0_B m c t hc]
  frame_out
  simp only [read_unread_whole]
  have hP := acL_pieces m c t (gB m c t hc h') (outsAt0 m c (t.val - 1) h').2.2.2.1
  refine KernelIdeal.Sums.read_writes_G (s := S8x1024) (e := .f32) _ _ (acG m c t (outsAt0 m c (t.val - 1) h').2.2.2.1) _ hP y fun hn => ?_
  refine Eq.trans ?_ (congrArg ((outsAt0 m c (t.val - 1) h').2.2.2.1 y + ·) (acL_off m c t _ _ _ _ _ _ _ _ _ _ _ _ _ _ _ _ _ _ _ _ _ y hn).symm)
  rw [add_zero]
  exact congrFun (Memref.IsWhole.read_unread _ _) y
end Cert.FwdFfn
-- ==== Proof.FwdFinal.lean ====
module

public import proofs.«01_k».proof.Proof.FwdRes
public import Idealize.ShloMosaic.Lib.Pipeline.ValueKit

/-! # The four arrays the kernel ends with -/

@[expose] public section

set_option maxRecDepth 16384
noncomputable section

open Idealize.ShloMosaic Idealize.ShloMosaic.TcCoe Idealize.SL.Sem
open Idealize.ShloMosaic.Pipeline (Dat)

namespace Cert.FwdFfn

open Cert.Kernel5Ideal Cert.Kernel5Ideal.Gen Cert.FfnGrad

variable (m : (ℓ : Loc nD τ sig) → Buf (Elt Ideal) ℓ)

/-- The padded up projection. -/
def R0 (c : Dev nD) (y : S8192x6144.Idx) : EReal := pq (up (kB m c).A (y 0)) (y 1)
/-- The padded convolution. -/
def R1 (c : Dev nD) (y : S8192x6144.Idx) : EReal := pq (cv (kB m c).A (y 0)) (y 1)
/-- The gradient of the residual's output. -/
def R2 (c : Dev nD) (y : S8192x1024.Idx) : EReal := dx (kB m c) (y 0) (y 1)
/-- The rows of sums. -/
def R3 (c : Dev nD) (y : S8x1024.Idx) : EReal := acc5 (kB m c) (y 0).val (y 1)

theorem final0 (c : Dev nD) : (dats m 0 c).arrAt 5 (cfgs 0).N = R0 m c := by
  refine (dats m 0 c).arrAt_eq_of_covers 5 _ (by decide +kernel) fun t hf y => ?_
  blk_simp
  rw [after0_5]
  refine (out_up m c t y).trans ?_
  idx_vars y
  have E : (((cfg0.win 5).blk t).view.emb (ix2 y0 y1) : S8192x6144.Idx) = ix2 (tok t y0) y1 := by
    blk_ext [idx t, tok]
  refine Eq.trans ?_ (congrArg (R0 m c) E.symm)
  rfl
theorem final1 (c : Dev nD) : (dats m 0 c).arrAt 6 (cfgs 0).N = R1 m c := by
  refine (dats m 0 c).arrAt_eq_of_covers 6 _ (by decide +kernel) fun t hf y => ?_
  blk_simp
  rw [after0_6]
  refine (out_cv m c t y).trans ?_
  idx_vars y
  have E : (((cfg0.win 6).blk t).view.emb (ix2 y0 y1) : S8192x6144.Idx) = ix2 (tok t y0) y1 := by
    blk_ext [idx t, tok]
  refine Eq.trans ?_ (congrArg (R1 m c) E.symm)
  rfl
theorem final2 (c : Dev nD) : (dats m 0 c).arrAt 7 (cfgs 0).N = R2 m c := by
  refine (dats m 0 c).arrAt_eq_of_covers 7 _ (by decide +kernel) fun t hf y => ?_
  blk_simp
  rw [after0_7]
  refine (out_dx m c t y).trans ?_
  idx_vars y
  have E : (((cfg0.win 7).blk t).view.emb (ix2 y0 y1) : S8192x1024.Idx) = ix2 (tok t y0) y1 := by
    blk_ext [idx t, tok]
  refine Eq.trans ?_ (congrArg (R2 m c) E.symm)
  rfl

/-- The sums over the points are the sums over all tokens. -/
theorem acc_sum (c : Dev nD) (p : Fin 32 → Fin cfg0.N) (hp : ∀ i, (p i).val = i.val) (k : ℕ) (d : Fin 1024) :
    ∑ i : Fin 32, acT m c (p i) k d = acc5 (kB m c) k d := by
  have hq : ∀ (i : Fin 32) (r : Fin 256), (tok (p i) r).val = i.val * 256 + r.val := fun i r => by
    show (p i).val * 256 + r.val = _
    rw [hp i]
  unfold acT acc5
  by_cases h0 : k = 0
  · simp only [if_pos h0]
    exact fold_tok (fun s => go (kB m c) s d * xn (kB m c) s d) _ hq
  · by_cases h1 : k = 1
    · simp only [if_neg h0, if_pos h1]
      rw [mul_const]
      exact congrArg (· * cL) (fold_tok (fun s => er (kB m c) s d * er (kB m c) s d) _ hq)
    · by_cases h2 : k = 2
      · simp only [if_neg h0, if_neg h1, if_pos h2]
        exact fold_tok (fun s => dx (kB m c) s d * ff (kB m c) s d) _ hq
      · simp only [if_neg h0, if_neg h1, if_neg h2]
        exact Finset.sum_const_zero

theorem final3 (c : Dev nD) : (dats m 0 c).arrAt 8 (cfgs 0).N = R3 m c := by
  refine (dats m 0 c).arrAt_eq_of_covers 8 _ (by decide +kernel) fun t hf y => ?_
  blk_simp
  rw [after0_8]
  refine (Pipeline.eq_sum_fin_of_reset_step_apply_of_flush (fun n h => (outsAt0 m c n h).2.2.2.1) 32 (fun _ => 0)
    (fun t y => acT m c t (y 0).val (y 1))
    (fun t h y => out_ac_A m c t h y) (fun t h y => out_ac_B m c t h _ y) t ((flush0_8 t).mp hf) y).trans ?_
  rw [zero_add]
  idx_vars y
  have E : (((cfg0.win 8).blk t).view.emb (ix2 y0 y1) : S8x1024.Idx) = ix2 y0 y1 := by
    blk_ext [idx t]
  refine Eq.trans ?_ (congrArg (R3 m c) E.symm)
  exact acc_sum m c _ (fun s => by
    show 32 * (t.val / 32) + s.val = s.val
    have := t_lt t
    omega) y0.val y1

end Cert.FwdFfn
-- ==== Proof.FwdRef.lean ====
module

public import proofs.«01_k».proof.Proof.Gen.Reference5Ideal.Read
public import proofs.«01_k».proof.Proof.FwdSpec

@[expose] public section

set_option maxRecDepth 16384
noncomputable section

/-! The reference's values at an index. -/
namespace Cert.FwdFfn.RefAt

open Idealize.ShloMosaic Idealize.ShloMosaic.TcCoe Idealize.SL.Sem
open Cert.Reference5Ideal Cert.Reference5Ideal.Gen Cert.Reference5Ideal.Read Cert.FfnGrad Cert.FwdFfn

variable (x0 x1 x2 : FVec Ideal S8192x1024 .f32) (x3 x4 : FVec Ideal S1x1024 .f32) (x5 : FVec Ideal S1024x5632 .f32)
  (x6 : FVec Ideal S3x5632 .f32) (x7 : FVec Ideal S1x5632 .f32) (x8 : FVec Ideal S2816x1024 .f32)

/-- The reference's arguments. -/
abbrev ra : Args5 := ⟨⟨x1, x0, x3, x5, x6, x7, x8⟩, x2, x4⟩

theorem v0_at (s : Fin 8192) (n : Fin 5632) : val_main_v0 (F := Ideal) x0 x5 (ix2 s n) = up (ra x0 x1 x2 x3 x4 x5 x6 x7 x8).A s n := by
  unfold val_main_v0 up
  pointwise

theorem v4_at (s : Fin 8192) (n : Fin 5632) : val_main_v4 (F := Ideal) x0 x5 (ix2 s n) = back (ra x0 x1 x2 x3 x4 x5 x6 x7 x8).A 2 s n := by
  unfold val_main_v4 val_main_v3 val_main_v2 val_main_cst
  pointwise
  simp only [v0_at x0 x1 x2 x3 x4 x5 x6 x7 x8]
  rfl

theorem v10_at (s : Fin 8192) (n : Fin 5632) : val_main_v10 (F := Ideal) x0 x5 (ix2 s n) = back (ra x0 x1 x2 x3 x4 x5 x6 x7 x8).A 1 s n := by
  unfold val_main_v10 val_main_v9 val_main_v8 val_main_cst_0
  pointwise
  simp only [v0_at x0 x1 x2 x3 x4 x5 x6 x7 x8]
  rfl

theorem v19_at (s : Fin 8192) (n : Fin 5632) : val_main_v19 (F := Ideal) x0 x5 x6 x7 (ix2 s n) = cv (ra x0 x1 x2 x3 x4 x5 x6 x7 x8).A s n := by
  unfold val_main_v19 val_main_v18 val_main_v17 val_main_v16 val_main_v15 val_main_v14 val_main_v13 val_main_v12 val_main_v11 val_main_v7 val_main_v6 val_main_v5 val_main_v1 cv
  pointwise
  simp only [v0_at x0 x1 x2 x3 x4 x5 x6 x7 x8, v4_at x0 x1 x2 x3 x4 x5 x6 x7 x8, v10_at x0 x1 x2 x3 x4 x5 x6 x7 x8]

theorem cN_eq' : Ideal.ofBits .f32 0x44800000#32 = ((1024 : ℝ) : EReal) := cN_eq

theorem v20_at (s : Fin 8192) (f : Fin 2816) : val_main_v20 (F := Ideal) x0 x5 x6 x7 (ix2 s f) = vl (ra x0 x1 x2 x3 x4 x5 x6 x7 x8).A s f := by
  unfold val_main_v20
  pointwise
  exact v19_at x0 x1 x2 x3 x4 x5 x6 x7 x8 s _

theorem v21_at (s : Fin 8192) (f : Fin 2816) : val_main_v21 (F := Ideal) x0 x5 x6 x7 (ix2 s f) = gt (ra x0 x1 x2 x3 x4 x5 x6 x7 x8).A s f := by
  unfold val_main_v21
  pointwise
  exact v19_at x0 x1 x2 x3 x4 x5 x6 x7 x8 s _

theorem v23_at (s : Fin 8192) (f : Fin 2816) : val_main_v23 (F := Ideal) x0 x5 x6 x7 (ix2 s f) = fv (ra x0 x1 x2 x3 x4 x5 x6 x7 x8).A s f := by
  unfold val_main_v23 val_main_v22 val_main_call0_v5 val_main_call0_v4 val_main_call0_v3 val_main_call0_v2 val_main_call0_v1 val_main_call0_v0 val_main_call0_cst_0 val_main_call0_cst
  pointwise
  simp only [v20_at x0 x1 x2 x3 x4 x5 x6 x7 x8, v21_at x0 x1 x2 x3 x4 x5 x6 x7 x8]
  rfl

theorem v24_at (s : Fin 8192) (d : Fin 1024) : val_main_v24 (F := Ideal) x0 x5 x6 x7 x8 (ix2 s d) = ff (ra x0 x1 x2 x3 x4 x5 x6 x7 x8) s d := by
  unfold val_main_v24 ff
  pointwise
  simp only [v23_at x0 x1 x2 x3 x4 x5 x6 x7 x8]

theorem v27_at (s : Fin 8192) (d : Fin 1024) : val_main_v27 (F := Ideal) x0 x1 x3 x5 x6 x7 x8 (ix2 s d) = Cert.FwdFfn.x3 (ra x0 x1 x2 x3 x4 x5 x6 x7 x8) s d := by
  unfold val_main_v27 val_main_v26 val_main_v25 Cert.FwdFfn.x3
  pointwise
  simp only [v24_at x0 x1 x2 x3 x4 x5 x6 x7 x8]

theorem v34_at (s : Fin 8192) : val_main_v34 (F := Ideal) x0 x1 x3 x5 x6 x7 x8 (ix2 s 0) = ms (ra x0 x1 x2 x3 x4 x5 x6 x7 x8) s := by
  unfold val_main_v34 val_main_v33 val_main_cst_3 val_main_v32 val_main_v31 val_main_cst_2 val_main_v30 val_main_v29 val_main_cst_1 val_main_v28 ms
  pointwise
  simp only [v27_at x0 x1 x2 x3 x4 x5 x6 x7 x8]

theorem v35_at (s : Fin 8192) : val_main_v35 (F := Ideal) x0 x1 x3 x5 x6 x7 x8 (ix2 s 0) = rs (ra x0 x1 x2 x3 x4 x5 x6 x7 x8) s := by
  unfold val_main_v35 rs
  pointwise
  rw [v34_at x0 x1 x2 x3 x4 x5 x6 x7 x8]

theorem v40_at (s : Fin 8192) (d : Fin 1024) : val_main_v40 (F := Ideal) x0 x1 x3 x5 x6 x7 x8 (ix2 s d) = xn (ra x0 x1 x2 x3 x4 x5 x6 x7 x8) s d := by
  unfold val_main_v40 val_main_v39 xn
  pointwise
  rw [v27_at x0 x1 x2 x3 x4 x5 x6 x7 x8, v35_at x0 x1 x2 x3 x4 x5 x6 x7 x8]

theorem v43_at (s : Fin 8192) (d : Fin 1024) : val_main_v43 (F := Ideal) x0 x1 x2 x3 x4 x5 x6 x7 x8 (ix2 s d) = er (ra x0 x1 x2 x3 x4 x5 x6 x7 x8) s d := by
  unfold val_main_v43 val_main_v42 val_main_v41 er
  pointwise
  rw [v40_at x0 x1 x2 x3 x4 x5 x6 x7 x8]

theorem v59_at (s : Fin 8192) (d : Fin 1024) : val_main_v59 (F := Ideal) (ix2 s d) = ((1 / 2048 : ℝ) : EReal) := by
  unfold val_main_v59 val_main_v58 val_main_cst_12 val_main_v57 val_main_v56 val_main_cst_11 val_main_v55 val_main_v54 val_main_cst_10 val_main_v53 val_main_cst_9
  pointwise
  rw [Fin.sum_univ_one, half_eq, cN_eq', Ideal.div_coe (by norm_num), one_mul, ← EReal.coe_mul]
  norm_num

theorem v60_at (s : Fin 8192) (d : Fin 1024) : val_main_v60 (F := Ideal) x0 x1 x2 x3 x4 x5 x6 x7 x8 (ix2 s d) = go (ra x0 x1 x2 x3 x4 x5 x6 x7 x8) s d := by
  unfold val_main_v60 val_main_v46 val_main_v45 val_main_cst_5 go
  pointwise
  rw [v59_at, v43_at x0 x1 x2 x3 x4 x5 x6 x7 x8, two_eq, cD_eq, ← mul_assoc, ← EReal.coe_mul, mul_comm]
  norm_num

theorem v63_at (d : Fin 1024) : val_main_v63 (F := Ideal) x0 x1 x2 x3 x4 x5 x6 x7 x8 (ix2 0 d) = dG (ra x0 x1 x2 x3 x4 x5 x6 x7 x8) d := by
  unfold val_main_v63 val_main_v62 val_main_cst_13 val_main_v61 dG
  pointwise
  refine Finset.sum_congr rfl fun s _ => ?_
  rw [v40_at x0 x1 x2 x3 x4 x5 x6 x7 x8, v60_at x0 x1 x2 x3 x4 x5 x6 x7 x8, mul_comm]

theorem v52_at (d : Fin 1024) : val_main_v52 (F := Ideal) x0 x1 x2 x3 x4 x5 x6 x7 x8 (ix2 0 d) = ls (ra x0 x1 x2 x3 x4 x5 x6 x7 x8) d := by
  unfold val_main_v52 val_main_v51 val_main_cst_8 val_main_v50 val_main_v49 val_main_cst_7 val_main_v48 val_main_v47 val_main_cst_6 val_main_v44 ls
  pointwise
  simp only [v43_at x0 x1 x2 x3 x4 x5 x6 x7 x8]
  rw [half_eq, cN_eq', cL_eq, Ideal.div_coe (by norm_num), mul_comm ((1 / 2 : ℝ) : EReal), mul_assoc, ← EReal.coe_mul]
  norm_num

theorem v65_at (s : Fin 8192) (d : Fin 1024) : val_main_v65 (F := Ideal) x0 x1 x2 x3 x4 x5 x6 x7 x8 (ix2 s d) = gn (ra x0 x1 x2 x3 x4 x5 x6 x7 x8) s d := by
  unfold val_main_v65 val_main_v64 gn
  pointwise
  rw [v60_at x0 x1 x2 x3 x4 x5 x6 x7 x8]

theorem v75_at (s : Fin 8192) (d : Fin 1024) : val_main_v75 (F := Ideal) x0 x1 x2 x3 x4 x5 x6 x7 x8 (ix2 s d)
    = Ideal.div ((∑ e : Fin 1024, Cert.FwdFfn.x3 (ra x0 x1 x2 x3 x4 x5 x6 x7 x8) s e * gn (ra x0 x1 x2 x3 x4 x5 x6 x7 x8) s e)
      * (Ideal.ofBits .f32 0xBF000000#32 * Ideal.div (rs (ra x0 x1 x2 x3 x4 x5 x6 x7 x8) s) (ms (ra x0 x1 x2 x3 x4 x5 x6 x7 x8) s))) cN := by
  unfold val_main_v75 val_main_v74 val_main_cst_16 val_main_v73 val_main_v72 val_main_cst_15 val_main_v71 val_main_v68 val_main_v67 val_main_cst_14 val_main_v66
    val_main_v38 val_main_v37 val_main_cst_4 val_main_v36
  pointwise
  rw [Fin.sum_univ_one]
  simp only [v27_at x0 x1 x2 x3 x4 x5 x6 x7 x8, v65_at x0 x1 x2 x3 x4 x5 x6 x7 x8]
  rw [v35_at x0 x1 x2 x3 x4 x5 x6 x7 x8, v34_at x0 x1 x2 x3 x4 x5 x6 x7 x8]

theorem v79_at (s : Fin 8192) (d : Fin 1024) :
    val_main_v79 (F := Ideal) x0 x1 x2 x3 x4 x5 x6 x7 x8 (ix2 s d) = dx (ra x0 x1 x2 x3 x4 x5 x6 x7 x8) s d := by
  unfold val_main_v79 val_main_v78 val_main_v77 val_main_v76 val_main_v70 val_main_v69
  pointwise
  rw [v27_at x0 x1 x2 x3 x4 x5 x6 x7 x8, v65_at x0 x1 x2 x3 x4 x5 x6 x7 x8, v35_at x0 x1 x2 x3 x4 x5 x6 x7 x8]
  exact dx_chain s d _ (v75_at x0 x1 x2 x3 x4 x5 x6 x7 x8 s d)

theorem v82_at (d : Fin 1024) :
    val_main_v82 (F := Ideal) x0 x1 x2 x3 x4 x5 x6 x7 x8 (ix2 0 d) = dg (ra x0 x1 x2 x3 x4 x5 x6 x7 x8) d := by
  unfold val_main_v82 val_main_v81 val_main_cst_17 val_main_v80 dg
  pointwise
  refine Finset.sum_congr rfl fun s _ => ?_
  rw [v79_at x0 x1 x2 x3 x4 x5 x6 x7 x8, v24_at x0 x1 x2 x3 x4 x5 x6 x7 x8]

theorem v84_at (r : Fin 8) (d : Fin 1024) :
    val_main_v84 (F := Ideal) x0 x1 x2 x3 x4 x5 x6 x7 x8 (ix2 r d) = acc5 (ra x0 x1 x2 x3 x4 x5 x6 x7 x8) r.val d := by
  unfold val_main_v84 val_main_v83 val_main_cst_18 acc5
  pointwise
  by_cases h0 : r.val = 0
  · rw [dif_pos (by omega), if_pos h0]
    refine Eq.trans (congrArg _ ?_) (v63_at x0 x1 x2 x3 x4 x5 x6 x7 x8 d)
    exact congrArg (ix2 · d) (Subsingleton.elim _ _)
  · rw [dif_neg (by omega), if_neg h0]
    by_cases h1 : r.val = 1
    · rw [dif_pos (by omega), if_pos h1]
      refine Eq.trans (congrArg _ ?_) (v52_at x0 x1 x2 x3 x4 x5 x6 x7 x8 d)
      exact congrArg (ix2 · d) (Subsingleton.elim _ _)
    · rw [dif_neg (by omega), if_neg h1]
      by_cases h2 : r.val = 2
      · rw [dif_pos (by omega), if_pos h2]
        refine Eq.trans (congrArg _ ?_) (v82_at x0 x1 x2 x3 x4 x5 x6 x7 x8 d)
        exact congrArg (ix2 · d) (Subsingleton.elim _ _)
      · rw [dif_neg (by omega), if_neg h2]

theorem sitofp0 (φ : FTy) : (FloatOps.sitofp φ 0#32 : Ideal φ) = 0 := by
  simp [FloatOps.sitofp]

theorem v88_at (s : Fin 8192) (q : Fin 6144) : val_main_v88 (F := Ideal) x0 x5 (ix2 s q) = pq (up (ra x0 x1 x2 x3 x4 x5 x6 x7 x8).A s) q := by
  unfold val_main_v88 val_main_v87 val_main_v86 val_main_v85 val_main_call1_v0 val_main_c pq
  pointwise
  have hq : q.val / 768 < 8 := by omega
  by_cases hl : q.val % 768 < 704
  · rw [dif_pos ⟨hq, hl⟩, dif_pos hl]
    exact v0_at x0 x1 x2 x3 x4 x5 x6 x7 x8 s _
  · rw [dif_neg (fun h => hl h.2), dif_neg hl]
    exact sitofp0 _

theorem v92_at (s : Fin 8192) (q : Fin 6144) : val_main_v92 (F := Ideal) x0 x5 x6 x7 (ix2 s q) = pq (cv (ra x0 x1 x2 x3 x4 x5 x6 x7 x8).A s) q := by
  unfold val_main_v92 val_main_v91 val_main_v90 val_main_v89 val_main_call2_v0 val_main_c_19 pq
  pointwise
  have hq : q.val / 768 < 8 := by omega
  by_cases hl : q.val % 768 < 704
  · rw [dif_pos ⟨hq, hl⟩, dif_pos hl]
    exact v19_at x0 x1 x2 x3 x4 x5 x6 x7 x8 s _
  · rw [dif_neg (fun h => hl h.2), dif_neg hl]
    exact sitofp0 _

end Cert.FwdFfn.RefAt
-- ==== Proof.FfnMeet.lean ====
module

public import proofs.«01_k».proof.Proof.FwdFinal
public import proofs.«01_k».proof.Proof.FwdRef

/-! The kernel and the reference end with the same four arrays. -/

@[expose] public section

set_option maxRecDepth 16384
noncomputable section

open Idealize.ShloMosaic Idealize.ShloMosaic.TcCoe Idealize.SL.Sem

namespace Cert.FwdFfn

open Cert.FfnGrad

open Cert.Reference5Ideal Cert.Reference5Ideal.Read Cert.FwdFfn.RefAt

section meet
variable {m : (ℓ : Loc Kernel5Ideal.nD Kernel5Ideal.τ Kernel5Ideal.sig) → Buf (Elt Ideal) ℓ} {c : Dev Kernel5Ideal.nD}
  {z0 z1 z2 : FVec Ideal S8192x1024 .f32} {z3 z4 : FVec Ideal S1x1024 .f32} {z5 : FVec Ideal S1024x5632 .f32}
  {z6 : FVec Ideal S3x5632 .f32} {z7 : FVec Ideal S1x5632 .f32} {z8 : FVec Ideal S2816x1024 .f32}

theorem meet0 (e0 : z0 = aH m c) (e5 : z5 = aU m c) : val_main_v88 (F := Ideal) z0 z5 = R0 m c := by
  subst e0 e5
  funext y
  idx_vars y
  exact v88_at (aH m c) (aX m c) (aT m c) (aE m c) (aG m c) (aU m c) (aC m c) (aB m c) (aD m c) y0 y1

theorem meet1 (e0 : z0 = aH m c) (e5 : z5 = aU m c) (e6 : z6 = aC m c) (e7 : z7 = aB m c) :
    val_main_v92 (F := Ideal) z0 z5 z6 z7 = R1 m c := by
  subst e0 e5 e6 e7
  funext y
  idx_vars y
  exact v92_at (aH m c) (aX m c) (aT m c) (aE m c) (aG m c) (aU m c) (aC m c) (aB m c) (aD m c) y0 y1

variable (e0 : z0 = aH m c) (e1 : z1 = aX m c) (e2 : z2 = aT m c) (e3 : z3 = aE m c) (e4 : z4 = aG m c)
  (e5 : z5 = aU m c) (e6 : z6 = aC m c) (e7 : z7 = aB m c) (e8 : z8 = aD m c)
include e0 e1 e2 e3 e4 e5 e6 e7 e8

theorem meet2 : val_main_v79 (F := Ideal) z0 z1 z2 z3 z4 z5 z6 z7 z8 = R2 m c := by
  subst e0 e1 e2 e3 e4 e5 e6 e7 e8
  funext y
  idx_vars y
  exact v79_at (aH m c) (aX m c) (aT m c) (aE m c) (aG m c) (aU m c) (aC m c) (aB m c) (aD m c) y0 y1

theorem meet3 : val_main_v84 (F := Ideal) z0 z1 z2 z3 z4 z5 z6 z7 z8 = R3 m c := by
  subst e0 e1 e2 e3 e4 e5 e6 e7 e8
  funext y
  idx_vars y
  exact v84_at (aH m c) (aX m c) (aT m c) (aE m c) (aG m c) (aU m c) (aC m c) (aB m c) (aD m c) y0 y1

end meet

end Cert.FwdFfn
-- ==== Proof.AdaGrad.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Claim
public import proofs.«01_k».proof.Proof.Spec

/-! # The modulation weights: their gradient from the conditioning, and their AdamW step -/

@[expose] public section

set_option maxRecDepth 16384
noncomputable section

open Idealize.ShloMosaic Idealize.ShloMosaic.TcCoe Idealize.SL.Sem
open Idealize.ShloMosaic.Pipeline (Dat)

namespace Cert.AdaGrad

section
open Cert.Kernel6Ideal Cert.Kernel6Ideal.Gen

/-- The arguments: the conditioning, the modulation's gradient, the weights and their two moments. -/
structure Args where
  c : FVec Ideal S8x1024 .f32
  dm : FVec Ideal S8x768 .f32
  w : FVec Ideal S1x1024x768 .f32
  m : FVec Ideal S1x1024x768 .f32
  v : FVec Ideal S1x1024x768 .f32

/-- The conditioning's activation. -/
def act (A : Args) (b : Fin 8) (d : Fin 1024) : EReal := A.c (ix2 b d) * Ideal.logistic (A.c (ix2 b d))
/-- The weights' gradient. -/
def grad (A : Args) (d : Fin 1024) (q : Fin 768) : EReal := ∑ b : Fin 8, act A b d * A.dm (ix2 b q)
/-- The first moment after the step. -/
def mom (A : Args) (d : Fin 1024) (q : Fin 768) : EReal :=
  Ideal.ofBits .f32 0x3F666666#32 * A.m (ix3 0 d q) + Ideal.ofBits .f32 0x3DCCCCCD#32 * grad A d q
/-- The second moment after the step. -/
def vel (A : Args) (d : Fin 1024) (q : Fin 768) : EReal :=
  Ideal.ofBits .f32 0x3F7FBE77#32 * A.v (ix3 0 d q) + Ideal.ofBits .f32 0x3A83126F#32 * (grad A d q * grad A d q)
/-- The step of a weight, from the new moments. -/
def step (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

variable (m : (ℓ : Loc nD τ sig) → Buf (Elt Ideal) ℓ)

/-- The arguments on one device. -/
abbrev kA (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

theorem ct_at (c : Dev nD) (d : Fin 1024) (b : Fin 8) :
    (show FVec Ideal S1024x8 .f32 from V m c main_v0) (ix2 d b) = (kA m c).c (ix2 b d) := by
  unfold V
  after_reads_at

theorem t_lt (t : Fin cfg0.N) : t.val < 4 := t.isLt
/-- The weights' row of row `r` of a grid point's tile. -/
def tok (t : Fin cfg0.N) (r : Fin 256) : Fin 1024 := ⟨t.val * 256 + r.val, by have := t_lt t; omega⟩

theorem idx : ∀ t : Fin cfg0.N, win0_0.index t = ![t.val, 0] ∧ win0_1.index t = ![0, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

theorem b0 (c : Dev nD) (t : Fin cfg0.N) (r : Fin 256) (b : Fin 8) :
    (iblk m c 0 t : FVec Ideal S256x8 .f32) (ix2 r b) = (kA m c).c (ix2 b (tok t r)) := by
  rw [← ct_at]
  unfold tok
  blk_ext [iblk, idx t]
theorem b1 (c : Dev nD) (t : Fin cfg0.N) (b : Fin 8) (q : Fin 768) :
    (iblk m c 1 t : FVec Ideal S8x768 .f32) (ix2 b q) = (kA m c).dm (ix2 b q) := by
  blk_ext [iblk, V, idx t]
theorem b2 (c : Dev nD) (t : Fin cfg0.N) (r : Fin 256) (q : Fin 768) :
    (iblk m c 2 t : FVec Ideal S1x256x768 .f32) (ix3 0 r q) = (kA m c).w (ix3 0 (tok t r) q) := by
  unfold tok
  blk_ext [iblk, V, idx t]
theorem b3 (c : Dev nD) (t : Fin cfg0.N) (r : Fin 256) (q : Fin 768) :
    (iblk m c 3 t : FVec Ideal S1x256x768 .f32) (ix3 0 r q) = (kA m c).m (ix3 0 (tok t r) q) := by
  unfold tok
  blk_ext [iblk, V, idx t]
theorem b4 (c : Dev nD) (t : Fin cfg0.N) (r : Fin 256) (q : Fin 768) :
    (iblk m c 4 t : FVec Ideal S1x256x768 .f32) (ix3 0 r q) = (kA m c).v (ix3 0 (tok t r) q) := by
  unfold tok
  blk_ext [iblk, V, idx t]

theorem half_eq : Ideal.ofBits .f32 0x3F000000#32 = ((1 / 2 : ℝ) : EReal) := by
  simp [Ideal.ofBits, Ideal.ieee, -EReal.coe_mul]; norm_num

theorem act_at (x : FVec Ideal S256x8 .f32) (r : Fin 256) (b : Fin 8) : k0_pay4 (F := Ideal) x (ix2 r b) = x (ix2 r b) * Ideal.logistic (x (ix2 r b)) := by
  unfold k0_pay4
  pointwise
  rw [Cert.FfnGrad.sigmoid_tanh _ _ half_eq]

theorem sum_at (x : FVec Ideal S256x8 .f32) (a0 a1 a2 a3 a4 a5 a6 a7 : FVec Ideal S1x768 .f32) (r : Fin 256) (q : Fin 768) :
    k0_pay7 (k0_pay4 (F := Ideal) x) (k0_pay5 x a0 a1 a2 a3 a4) (k0_pay6 x) a5 a6 a7 (ix2 r q)
      = k0_pay4 (F := Ideal) x (ix2 r 0) * a0 (ix2 0 q) + k0_pay4 (F := Ideal) x (ix2 r 1) * a1 (ix2 0 q) + k0_pay4 (F := Ideal) x (ix2 r 2) * a2 (ix2 0 q)
        + k0_pay4 (F := Ideal) x (ix2 r 3) * a3 (ix2 0 q) + k0_pay4 (F := Ideal) x (ix2 r 4) * a4 (ix2 0 q) + k0_pay4 (F := Ideal) x (ix2 r 5) * a5 (ix2 0 q)
        + k0_pay4 (F := Ideal) x (ix2 r 6) * a6 (ix2 0 q) + k0_pay4 (F := Ideal) x (ix2 r 7) * a7 (ix2 0 q) := by
  unfold k0_pay7 k0_pay5 k0_pay6
  generalize k0_pay4 (F := Ideal) x = ca
  pointwise

theorem row_at (B : FVec Ideal S8x768 .f32) (b : Fin 8) (inb) (q : Fin 768) :
    View.ld (Val := Elt Ideal) (S := S8x768) (e' := .f32) B (Rect.unit (![b.val, 0] : Fin 2 → Nat) (![1, 768] : Fin 2 → Nat) inb) (ix2 0 q) = B (ix2 b q) := by
  refine congrArg B ?_
  funext a
  apply Fin.ext
  fin_cases a
  · show b.val + 1 * 0 = b.val
    rfl
  · show 0 + 1 * q.val = q.val
    omega

/-- A tile's gradient. -/
abbrev G (c : Dev nD) (t : Fin cfg0.N) : FVec Ideal S256x768 .f32 :=
  k0_pay7 (k0_pay12 (iblk m c 0 t) (iblk m c 1 t) (iblk m c 2 t) (iblk m c 3 t) (iblk m c 4 t))
    (k0_pay13 (iblk m c 0 t) (iblk m c 1 t) (iblk m c 2 t) (iblk m c 3 t) (iblk m c 4 t))
    (k0_pay14 (iblk m c 0 t) (iblk m c 1 t) (iblk m c 2 t) (iblk m c 3 t) (iblk m c 4 t))
    (View.ld (iblk m c 1 t) r0_6) (View.ld (iblk m c 1 t) r0_7) (View.ld (iblk m c 1 t) r0_8)

theorem x_at (c : Dev nD) (t : Fin cfg0.N) (r : Fin 256) (b : Fin 8) :
    (View.ld (Val := Elt Ideal) (S := S256x8) (e' := .f32) (iblk m c 0 t) r0_0 : FVec Ideal S256x8 .f32) (ix2 r b) = (kA m c).c (ix2 b (tok t r)) := by
  refine Eq.trans (congrArg (iblk m c 0 t : FVec Ideal S256x8 .f32) ?_) (b0 m c t r b)
  funext a
  apply Fin.ext
  fin_cases a
  · show 0 + 1 * r.val = r.val
    omega
  · show 0 + 1 * b.val = b.val
    omega

theorem term_at (c : Dev nD) (t : Fin cfg0.N) (r : Fin 256) (q : Fin 768) (b : Fin 8) (inb) :
    k0_pay4 (View.ld (Val := Elt Ideal) (S := S256x8) (e' := .f32) (iblk m c 0 t) r0_0) (ix2 r b)
      * View.ld (Val := Elt Ideal) (S := S8x768) (e' := .f32) (iblk m c 1 t) (Rect.unit (![b.val, 0] : Fin 2 → Nat) (![1, 768] : Fin 2 → Nat) inb) (ix2 0 q)
      = act (kA m c) b (tok t r) * (kA m c).dm (ix2 b q) := by
  rw [act_at, x_at, row_at, b1]
  rfl

theorem G_at (c : Dev nD) (t : Fin cfg0.N) (r : Fin 256) (q : Fin 768) : G m c t (ix2 r q) = grad (kA m c) (tok t r) q := by
  unfold G k0_pay12 k0_pay13 k0_pay14
  refine (sum_at _ _ _ _ _ _ _ _ _ r q).trans ?_
  unfold grad
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact term_at m c t r q 0 _
  · exact term_at m c t r q 1 _
  · exact term_at m c t r q 2 _
  · exact term_at m c t r q 3 _
  · exact term_at m c t r q 4 _
  · exact term_at m c t r q 5 _
  · exact term_at m c t r q 6 _
  · exact term_at m c t r q 7 _

/-- A function of a tile's rows and columns. -/
def spread (f : Fin 256 → Fin 768 → EReal) (y : S1x256x768.Idx) : EReal := f (y 1) (y 2)
/-- A whole store. -/
abbrev one (p : FVec Ideal S1x256x768 .f32) : List (View.Piece (Elt Ideal) S1x256x768 .f32) := [⟨r0_9, p⟩]

theorem one_pieces (p : FVec Ideal S1x256x768 .f32) (f : Fin 256 → Fin 768 → EReal) (h : ∀ r q, p (ix3 0 r q) = f r q) :
    View.PiecesOf (Val := Elt Ideal) (spread f) (one p) := by
  refine ⟨fun x => ?_, trivial⟩
  idx_vars x
  have e : x0 = 0 := Fin.ext (by omega)
  subst e
  refine (h x1 x2).trans (congrArg₂ f (Fin.ext ?_) (Fin.ext ?_))
  · show x1.val = 0 + 1 * x1.val
    omega
  · show x2.val = 0 + 1 * x2.val
    omega

/-- A whole store leaves what it stores. -/
theorem whole (p : FVec Ideal S1x256x768 .f32) (f : Fin 256 → Fin 768 → EReal) (h : ∀ r q, p (ix3 0 r q) = f r q) (y : S1x256x768.Idx) :
    View.canon (one p) y = f (y 1) (y 2) := by
  have hc : ∃ b ∈ one p, y ∈ b.1.set := cover0_5 (F := Ideal) p y
  exact View.canon_append_of_piecesOf (spread f) [] (one p) (one_pieces p f h) y hc

/-- A tile's new first moments. -/
abbrev M (c : Dev nD) (t : Fin cfg0.N) : FVec Ideal S256x768 .f32 :=
  k0_pay15 (iblk m c 0 t) (iblk m c 1 t) (iblk m c 2 t) (iblk m c 3 t) (iblk m c 4 t)
/-- A tile's new second moments. -/
abbrev W (c : Dev nD) (t : Fin cfg0.N) : FVec Ideal S256x768 .f32 :=
  k0_pay16 (iblk m c 0 t) (iblk m c 1 t) (iblk m c 2 t) (iblk m c 3 t) (iblk m c 4 t)

theorem M_at (c : Dev nD) (t : Fin cfg0.N) (r : Fin 256) (q : Fin 768) : M m c t (ix2 r q) = mom (kA m c) (tok t r) q := by
  unfold M k0_pay15 k0_pay10
  pointwise
  unfold mom
  refine congrArg₂ (fun a b : EReal => Ideal.ofBits .f32 0x3F666666#32 * a + Ideal.ofBits .f32 0x3DCCCCCD#32 * b) ?_ (G_at m c t r q)
  exact b3 m c t r q
theorem W_at (c : Dev nD) (t : Fin cfg0.N) (r : Fin 256) (q : Fin 768) : W m c t (ix2 r q) = vel (kA m c) (tok t r) q := by
  unfold W k0_pay16 k0_pay11
  pointwise
  unfold vel
  refine congrArg₂ (fun a b : EReal => Ideal.ofBits .f32 0x3F7FBE77#32 * a + Ideal.ofBits .f32 0x3A83126F#32 * (b * b)) ?_ (G_at m c t r q)
  exact b4 m c t r q

theorem step_at (w a b : FVec Ideal S256x768 .f32) (r : Fin 256) (q : Fin 768) :
    k0_pay1 w a b (Scalar.ofBits .f32 0x3F26BD02#32) (ix3 0 r q) = step (w (ix2 r q)) (a (ix2 r q)) (b (ix2 r q)) := by
  unfold k0_pay1
  pointwise
  rfl

theorem out5_at (c : Dev nD) (t : Fin cfg0.N) (y : S1x256x768.Idx) :
    out0_5 (iblk m c 0 t) (iblk m c 1 t) (iblk m c 2 t) (iblk m c 3 t) (iblk m c 4 t) y = grad (kA m c) (tok t (y 1)) (y 2) := by
  unfold out0_5
  refine whole _ (fun r q => grad (kA m c) (tok t r) q) (fun r q => ?_) y
  unfold k0_pay8
  pointwise
  exact G_at m c t r q
theorem out6_at (c : Dev nD) (t : Fin cfg0.N) (y : S1x256x768.Idx) :
    out0_6 (iblk m c 0 t) (iblk m c 1 t) (iblk m c 2 t) (iblk m c 3 t) (iblk m c 4 t) y
      = step ((kA m c).w (ix3 0 (tok t (y 1)) (y 2))) (mom (kA m c) (tok t (y 1)) (y 2)) (vel (kA m c) (tok t (y 1)) (y 2)) := by
  unfold out0_6
  refine whole _ (fun r q => step ((kA m c).w (ix3 0 (tok t r) q)) (mom (kA m c) (tok t r) q) (vel (kA m c) (tok t r) q)) (fun r q => ?_) y
  refine (step_at _ _ _ r q).trans ?_
  refine (congrArg₂ (step _) (M_at m c t r q) (W_at m c t r q)).trans (congrArg (fun a : EReal => step a _ _) ?_)
  unfold k0_pay9
  pointwise
  exact b2 m c t r q
theorem out7_at (c : Dev nD) (t : Fin cfg0.N) (y : S1x256x768.Idx) :
    out0_7 (iblk m c 0 t) (iblk m c 1 t) (iblk m c 2 t) (iblk m c 3 t) (iblk m c 4 t) y = mom (kA m c) (tok t (y 1)) (y 2) := by
  unfold out0_7
  refine whole _ (fun r q => mom (kA m c) (tok t r) q) (fun r q => ?_) y
  unfold k0_pay2
  pointwise
  exact M_at m c t r q
theorem out8_at (c : Dev nD) (t : Fin cfg0.N) (y : S1x256x768.Idx) :
    out0_8 (iblk m c 0 t) (iblk m c 1 t) (iblk m c 2 t) (iblk m c 3 t) (iblk m c 4 t) y = vel (kA m c) (tok t (y 1)) (y 2) := by
  unfold out0_8
  refine whole _ (fun r q => vel (kA m c) (tok t r) q) (fun r q => ?_) y
  unfold k0_pay3
  pointwise
  exact W_at m c t r q

/-- The results. -/
def R0 (c : Dev nD) (y : S1x1024x768.Idx) : EReal := grad (kA m c) (y 1) (y 2)
def R1 (c : Dev nD) (y : S1x1024x768.Idx) : EReal := step ((kA m c).w (ix3 0 (y 1) (y 2))) (mom (kA m c) (y 1) (y 2)) (vel (kA m c) (y 1) (y 2))
def R2 (c : Dev nD) (y : S1x1024x768.Idx) : EReal := mom (kA m c) (y 1) (y 2)
def R3 (c : Dev nD) (y : S1x1024x768.Idx) : EReal := vel (kA m c) (y 1) (y 2)

theorem final0 (c : Dev nD) : (dats m 0 c).arrAt 5 (cfgs 0).N = R0 m c := by
  refine (dats m 0 c).arrAt_eq_of_covers 5 _ (by decide +kernel) fun t hf y => ?_
  blk_simp
  rw [after0_5]
  refine (out5_at m c t y).trans ?_
  idx_vars y
  have e : y0 = 0 := Fin.ext (by omega)
  subst e
  have E : (((cfg0.win 5).blk t).view.emb (ix3 0 y1 y2) : S1x1024x768.Idx) = ix3 0 (tok t y1) y2 := by
    blk_ext [idx t, tok]
  refine Eq.trans ?_ (congrArg (R0 m c) E.symm)
  rfl
theorem final1 (c : Dev nD) : (dats m 0 c).arrAt 6 (cfgs 0).N = R1 m c := by
  refine (dats m 0 c).arrAt_eq_of_covers 6 _ (by decide +kernel) fun t hf y => ?_
  blk_simp
  rw [after0_6]
  refine (out6_at m c t y).trans ?_
  idx_vars y
  have e : y0 = 0 := Fin.ext (by omega)
  subst e
  have E : (((cfg0.win 6).blk t).view.emb (ix3 0 y1 y2) : S1x1024x768.Idx) = ix3 0 (tok t y1) y2 := by
    blk_ext [idx t, tok]
  refine Eq.trans ?_ (congrArg (R1 m c) E.symm)
  rfl
theorem final2 (c : Dev nD) : (dats m 0 c).arrAt 7 (cfgs 0).N = R2 m c := by
  refine (dats m 0 c).arrAt_eq_of_covers 7 _ (by decide +kernel) fun t hf y => ?_
  blk_simp
  rw [after0_7]
  refine (out7_at m c t y).trans ?_
  idx_vars y
  have e : y0 = 0 := Fin.ext (by omega)
  subst e
  have E : (((cfg0.win 7).blk t).view.emb (ix3 0 y1 y2) : S1x1024x768.Idx) = ix3 0 (tok t y1) y2 := by
    blk_ext [idx t, tok]
  refine Eq.trans ?_ (congrArg (R2 m c) E.symm)
  rfl
theorem final3 (c : Dev nD) : (dats m 0 c).arrAt 8 (cfgs 0).N = R3 m c := by
  refine (dats m 0 c).arrAt_eq_of_covers 8 _ (by decide +kernel) fun t hf y => ?_
  blk_simp
  rw [after0_8]
  refine (out8_at m c t y).trans ?_
  idx_vars y
  have e : y0 = 0 := Fin.ext (by omega)
  subst e
  have E : (((cfg0.win 8).blk t).view.emb (ix3 0 y1 y2) : S1x1024x768.Idx) = ix3 0 (tok t y1) y2 := by
    blk_ext [idx t, tok]
  refine Eq.trans ?_ (congrArg (R3 m c) E.symm)
  rfl

end

section
open Cert.Reference6Ideal Cert.Reference6Ideal.Read

theorem one_eq : Ideal.ofBits .f32 0x3F800000#32 = 1 := by
  simp [Ideal.ofBits, Ideal.ieee, -EReal.coe_mul]; norm_num

theorem ref0 (A : Args) (b : Fin 8) (d : Fin 1024) : val_main_v0 (F := Ideal) A.c (ix2 b d) = act A b d := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  have z1 : (FloatOps.ofBits FTy.f32 0x3F800000#32 : Ideal .f32) = 1 := one_eq
  rw [z1]
  rfl

theorem ref5 (A : Args) (y : S1x1024x768.Idx) : val_main_v5 (F := Ideal) A.c A.dm y = grad A (y 1) (y 2) := by
  rw [val_main_v5_apply, val_main_v4_apply, val_main_v3_apply]
  refine Finset.sum_congr rfl fun b _ => (mul_comm _ _).trans (congrArg₂ (· * ·) ?_ (congrArg A.dm ?_))
  · refine Eq.trans (congrArg (val_main_v0 (F := Ideal) A.c) ?_) (ref0 A b (y 1))
    funext a; fin_cases a <;> rfl
  · funext a; fin_cases a <;> rfl

theorem ref10 (A : Args) (y : S1x1024x768.Idx) : val_main_v10 (F := Ideal) A.c A.dm A.m y = mom A (y 1) (y 2) := by
  idx_vars y
  have e : y0 = 0 := Fin.ext (by omega)
  subst e
  rw [val_main_v10_apply, val_main_v9_apply, val_main_v8_apply, val_main_v7_apply, val_main_v6_apply, val_main_cst_apply, val_main_cst_0_apply, ref5]
  rfl
theorem ref16 (A : Args) (y : S1x1024x768.Idx) : val_main_v16 (F := Ideal) A.c A.dm A.v y = vel A (y 1) (y 2) := by
  idx_vars y
  have e : y0 = 0 := Fin.ext (by omega)
  subst e
  rw [val_main_v16_apply, val_main_v15_apply, val_main_v14_apply, val_main_v13_apply, val_main_v12_apply, val_main_v11_apply, val_main_cst_1_apply,
    val_main_cst_2_apply, ref5]
  rfl
theorem ref29 (A : Args) (y : S1x1024x768.Idx) :
    val_main_v29 (F := Ideal) A.c A.dm A.w A.m A.v y = step (A.w (ix3 0 (y 1) (y 2))) (mom A (y 1) (y 2)) (vel A (y 1) (y 2)) := by
  idx_vars y
  have e : y0 = 0 := Fin.ext (by omega)
  subst e
  rw [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply, val_main_cst_3_apply,
    val_main_cst_4_apply, val_main_cst_5_apply, val_main_cst_6_apply, val_main_cst_7_apply, ref10, ref16]
  rfl

section meet
variable {m : (ℓ : Loc Kernel6Ideal.nD Kernel6Ideal.τ Kernel6Ideal.sig) → Buf (Elt Ideal) ℓ} {c : Dev Kernel6Ideal.nD} {z0 : FVec Ideal S8x1024 .f32}
  {z1 : FVec Ideal S8x768 .f32} {z2 z3 z4 : FVec Ideal S1x1024x768 .f32}

theorem meet0 (e0 : z0 = (kA m c).c) (e1 : z1 = (kA m c).dm) : val_main_v5 (F := Ideal) z0 z1 = R0 m c := by
  subst e0 e1
  exact funext (ref5 (kA m c))
theorem meet1 (e0 : z0 = (kA m c).c) (e1 : z1 = (kA m c).dm) (e2 : z2 = (kA m c).w) (e3 : z3 = (kA m c).m) (e4 : z4 = (kA m c).v) :
    val_main_v29 (F := Ideal) z0 z1 z2 z3 z4 = R1 m c := by
  subst e0 e1 e2 e3 e4
  exact funext (ref29 (kA m c))
theorem meet2 (e0 : z0 = (kA m c).c) (e1 : z1 = (kA m c).dm) (e3 : z3 = (kA m c).m) : val_main_v10 (F := Ideal) z0 z1 z3 = R2 m c := by
  subst e0 e1 e3
  exact funext (ref10 (kA m c))
theorem meet3 (e0 : z0 = (kA m c).c) (e1 : z1 = (kA m c).dm) (e4 : z4 = (kA m c).v) : val_main_v16 (F := Ideal) z0 z1 z4 = R3 m c := by
  subst e0 e1 e4
  exact funext (ref16 (kA m c))
end meet

end

end Cert.AdaGrad
-- ==== Proof.ModPart.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt
public import Idealize.ShloMosaic.Lib.Claim
public import proofs.«01_k».proof.Proof.Spec

/-! # The modulation: the activated conditioning times the weights, with the bias -/

@[expose] public section

set_option maxRecDepth 16384
noncomputable section

open Idealize.ShloMosaic Idealize.ShloMosaic.TcCoe Idealize.SL.Sem
open Idealize.ShloMosaic.Pipeline (Dat)

namespace Cert.ModPart

section
open Cert.Kernel7Ideal Cert.Kernel7Ideal.Gen

/-- The arguments: the conditioning, the weights and the bias. -/
structure Args where
  c : FVec Ideal S8x1024 .f32
  w : FVec Ideal S1x1024x768 .f32
  b : FVec Ideal S1x768 .f32

/-- The conditioning's activation. -/
def act (A : Args) (r : Fin 8) (d : Fin 1024) : EReal := A.c (ix2 r d) * Ideal.logistic (A.c (ix2 r d))
/-- The modulation. -/
def mod (A : Args) (r : Fin 8) (q : Fin 768) : EReal := (∑ d : Fin 1024, act A r d * A.w (ix3 0 d q)) + A.b (ix2 0 q)

variable (m : (ℓ : Loc nD τ sig) → Buf (Elt Ideal) ℓ)

/-- The arguments on one device. -/
abbrev kA (c : Dev nD) : Args :=
  ⟨m ((c : Thread nD τ).loc main_arg0), m ((c : Thread nD τ).loc main_arg1), m ((c : Thread nD τ).loc main_arg2)⟩

theorem c_at (c : Dev nD) (r : Fin 8) (d : Fin 1024) :
    (show FVec Ideal S8x1x1024 .f32 from V m c main_v0) (ix3 r 0 d) = (kA m c).c (ix2 r d) := by
  unfold V
  after_reads_at

theorem idx : ∀ t : Fin cfg0.N, win0_0.index t = ![0, 0, 0] ∧ win0_1.index t = ![0, 0, 0] ∧ win0_2.index t = ![0, 0]
    ∧ win0_3.index t = ![0, 0] :=
  (by decide +kernel : ∀ t : Fin grid0.N, _)

theorem b0 (c : Dev nD) (t : Fin cfg0.N) (r : Fin 8) (d : Fin 1024) :
    (iblk m c 0 t : FVec Ideal S8x1x1024 .f32) (ix3 r 0 d) = (kA m c).c (ix2 r d) := by
  rw [← c_at]
  blk_ext [iblk, idx t]
theorem b1 (c : Dev nD) (t : Fin cfg0.N) (d : Fin 1024) (q : Fin 768) :
    (iblk m c 1 t : FVec Ideal S1x1024x768 .f32) (ix3 0 d q) = (kA m c).w (ix3 0 d q) := by
  blk_ext [iblk, V, idx t]
theorem b2 (c : Dev nD) (t : Fin cfg0.N) (q : Fin 768) :
    (iblk m c 2 t : FVec Ideal S1x768 .f32) (ix2 0 q) = (kA m c).b (ix2 0 q) := by
  blk_ext [iblk, V, idx t]

theorem half_eq : Ideal.ofBits .f32 0x3F000000#32 = ((1 / 2 : ℝ) : EReal) := by
  simp [Ideal.ofBits, Ideal.ieee, -EReal.coe_mul]; norm_num

theorem pay_at (x : FVec Ideal S8x1x1024 .f32) (w : FVec Ideal S1x1024x768 .f32) (b : FVec Ideal S1x768 .f32) (r : Fin 8) (q : Fin 768) :
    k0_pay1 (F := Ideal) x w b (ix2 r q)
      = (∑ d : Fin 1024, x (ix3 r 0 d) * Ideal.logistic (x (ix3 r 0 d)) * w (ix3 0 d q)) + b (ix2 0 q) := by
  unfold k0_pay1
  pointwise
  simp only [Cert.FfnGrad.sigmoid_tanh _ _ half_eq]

/-- The one store. -/
abbrev one (p : FVec Ideal S8x768 .f32) : List (View.Piece (Elt Ideal) S8x768 .f32) := [⟨r0_3, p⟩]
/-- A function of the rows and columns. -/
def spread (f : Fin 8 → Fin 768 → EReal) (y : S8x768.Idx) : EReal := f (y 0) (y 1)

theorem one_pieces (p : FVec Ideal S8x768 .f32) (f : Fin 8 → Fin 768 → EReal) (h : ∀ r q, p (ix2 r q) = f r q) :
    View.PiecesOf (Val := Elt Ideal) (spread f) (one p) := by
  refine ⟨fun x => ?_, trivial⟩
  idx_vars x
  refine (h x0 x1).trans (congrArg₂ f (Fin.ext ?_) (Fin.ext ?_))
  · show x0.val = 0 + 1 * x0.val
    omega
  · show x1.val = 0 + 1 * x1.val
    omega

theorem whole (p : FVec Ideal S8x768 .f32) (f : Fin 8 → Fin 768 → EReal) (h : ∀ r q, p (ix2 r q) = f r q) (y : S8x768.Idx) :
    View.canon (one p) y = f (y 0) (y 1) := by
  have hc : ∃ b ∈ one p, y ∈ b.1.set := cover0_3 (F := Ideal) p y
  exact View.canon_append_of_piecesOf (spread f) [] (one p) (one_pieces p f h) y hc

theorem ld0 (B : FVec Ideal S8x1x1024 .f32) (r : Fin 8) (d : Fin 1024) :
    View.ld (Val := Elt Ideal) (S := S8x1x1024) (e' := .f32) B r0_0 (ix3 r 0 d) = B (ix3 r 0 d) := by
  refine congrArg B ?_
  funext a
  apply Fin.ext
  fin_cases a
  · show 0 + 1 * r.val = r.val
    omega
  · rfl
  · show 0 + 1 * d.val = d.val
    omega
theorem ld1 (B : FVec Ideal S1x1024x768 .f32) (d : Fin 1024) (q : Fin 768) :
    View.ld (Val := Elt Ideal) (S := S1x1024x768) (e' := .f32) B r0_1 (ix3 0 d q) = B (ix3 0 d q) := by
  refine congrArg B ?_
  funext a
  apply Fin.ext
  fin_cases a
  · rfl
  · show 0 + 1 * d.val = d.val
    omega
  · show 0 + 1 * q.val = q.val
    omega
theorem ld2 (B : FVec Ideal S1x768 .f32) (q : Fin 768) :
    View.ld (Val := Elt Ideal) (S := S1x768) (e' := .f32) B r0_2 (ix2 0 q) = B (ix2 0 q) := by
  refine congrArg B ?_
  funext a
  apply Fin.ext
  fin_cases a
  · rfl
  · show 0 + 1 * q.val = q.val
    omega

theorem out3_at (c : Dev nD) (t : Fin cfg0.N) (y : S8x768.Idx) :
    out0_3 (iblk m c 0 t) (iblk m c 1 t) (iblk m c 2 t) y = mod (kA m c) (y 0) (y 1) := by
  unfold out0_3
  refine whole _ (mod (kA m c)) (fun r q => ?_) y
  refine (pay_at _ _ _ r q).trans ?_
  unfold mod act
  refine congrArg₂ (· + ·) (Finset.sum_congr rfl fun d _ => ?_) ((ld2 _ q).trans (b2 m c t q))
  exact congrArg₂ (fun a b : EReal => a * Ideal.logistic a * b) ((ld0 _ r d).trans (b0 m c t r d)) ((ld1 _ d q).trans (b1 m c t d q))

/-- The result. -/
def R (c : Dev nD) (y : S8x768.Idx) : EReal := mod (kA m c) (y 0) (y 1)

theorem final (c : Dev nD) : (dats m 0 c).arrAt 3 (cfgs 0).N = R m c := by
  refine (dats m 0 c).arrAt_eq_of_covers 3 _ (by decide +kernel) fun t hf y => ?_
  blk_simp
  rw [after0_3]
  refine (out3_at m c t y).trans ?_
  idx_vars y
  have E : (((cfg0.win 3).blk t).view.emb (ix2 y0 y1) : S8x768.Idx) = ix2 y0 y1 := by
    blk_ext [idx t]
  refine Eq.trans ?_ (congrArg (R m c) E.symm)
  rfl

end

section
open Cert.Reference7Ideal Cert.Reference7Ideal.Read

theorem one_eq : Ideal.ofBits .f32 0x3F800000#32 = 1 := by
  simp [Ideal.ofBits, Ideal.ieee, -EReal.coe_mul]; norm_num

theorem ref0 (A : Args) (r : Fin 8) (d : Fin 1024) : val_main_v0 (F := Ideal) A.c (ix2 r d) = act A r d := by
  rw [val_main_v0_apply, val_main_call0_v5_apply, val_main_call0_v4_apply, val_main_call0_v3_apply, val_main_call0_v2_apply,
    val_main_call0_v1_apply, val_main_call0_v0_apply, val_main_call0_cst_apply, val_main_call0_cst_0_apply]
  have z1 : (FloatOps.ofBits FTy.f32 0x3F800000#32 : Ideal .f32) = 1 := one_eq
  rw [z1]
  rfl

theorem ref1 (A : Args) (d : Fin 1024) (q : Fin 768) : val_main_v1 (F := Ideal) A.w (ix2 d q) = A.w (ix3 0 d q) := by
  rw [val_main_v1_apply]
  refine congrArg A.w ?_
  funext a
  apply Fin.ext
  fin_cases a
  · rfl
  · show (d.val * 768 + q.val) / 768 % 1024 = d.val
    omega
  · show (d.val * 768 + q.val) % 768 = q.val
    omega

theorem ref4 (A : Args) (y : S8x768.Idx) : val_main_v4 (F := Ideal) A.c A.w A.b y = mod A (y 0) (y 1) := by
  rw [val_main_v4_apply, val_main_v3_apply, val_main_v2_apply]
  refine congrArg₂ (· + ·) (Finset.sum_congr rfl fun d _ => congrArg₂ (· * ·) ?_ ?_) (congrArg A.b ?_)
  · refine Eq.trans (congrArg (val_main_v0 (F := Ideal) A.c) ?_) (ref0 A (y 0) d)
    funext a; fin_cases a <;> rfl
  · refine Eq.trans (congrArg (val_main_v1 (F := Ideal) A.w) ?_) (ref1 A d (y 1))
    funext a; fin_cases a <;> rfl
  · funext a; fin_cases a <;> rfl

section meet
variable {m : (ℓ : Loc Kernel7Ideal.nD Kernel7Ideal.τ Kernel7Ideal.sig) → Buf (Elt Ideal) ℓ} {c : Dev Kernel7Ideal.nD} {z0 : FVec Ideal S8x1024 .f32}
  {z1 : FVec Ideal S1x1024x768 .f32} {z2 : FVec Ideal S1x768 .f32}

theorem meet (e0 : z0 = (kA m c).c) (e1 : z1 = (kA m c).w) (e2 : z2 = (kA m c).b) : val_main_v4 (F := Ideal) z0 z1 z2 = R m c := by
  subst e0 e1 e2
  exact funext (ref4 (kA m c))
end meet

end

end Cert.ModPart
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5
public import proofs.«01_k».proof.Proof.Gen.Reference5Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4.Run
public import proofs.«01_k».proof.Proof.Gen.Reference5.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Quiescent
public import proofs.«01_k».proof.Proof.Meet
public import proofs.«01_k».proof.Proof.DwIn
public import proofs.«01_k».proof.Proof.DwOut
public import proofs.«01_k».proof.Proof.FwdIn
public import proofs.«01_k».proof.Proof.FfnMeet
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6.Run
public import proofs.«01_k».proof.Proof.AdaGrad
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7.Run
public import proofs.«01_k».proof.Proof.ModPart

@[expose] public section

noncomputable section

namespace Cert.Proof

open Idealize.ShloMosaic Idealize.SL.Sem Cert.Kernel

/-- Every argument of the kernel holds real numbers. -/
theorem real_kernel [hPre : Cert.Pre_finite.Facts] (m : (ℓ : Loc Cert.KernelIdeal.nD Cert.KernelIdeal.τ Cert.KernelIdeal.sig) → Buf (Elt Ideal) ℓ) (hp : Cert.Pre_KernelIdeal_finite m) (c : Dev Cert.KernelIdeal.nD) :
    Cert.FfnGrad.Real (Cert.KernelIdeal.HostAt.kA m c) :=
  Cert.PreAt.real_args _ _ _ _ _ _ _ (hp c)

/-- The reference ends, its arguments unchanged and every semaphore at zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => (h c).2.2.2.2,
    Idealize.ShloMosaic.sem_eq_zero_of_no_sems (by decide) r.2⟩) (Cert.ReferenceIdeal.Value.run m g)

theorem algebraic_holds : Cert.algebraic_KernelIdeal_ReferenceIdeal_pre_finite := by
  intro m g m' g' hp hag
  refine ⟨fun c => Cert.KernelIdeal.Final.R0 m c, fun c => Cert.KernelIdeal.Final.R1 m c, fun c => Cert.KernelIdeal.Final.R2 m c,
    fun c => Cert.KernelIdeal.Final.R3 m c, ?_, ?_⟩
  · exact (θ_run Cert.KernelIdeal.defs _ _).mono (fun r h c => ⟨(h c).1.trans (Cert.KernelIdeal.Final.final0 c),
      (h c).2.1.trans (Cert.KernelIdeal.Final.final1 c), (h c).2.2.1.trans (Cert.KernelIdeal.Final.final2 c),
      (h c).2.2.2.1.trans (Cert.KernelIdeal.Final.final3 c), (h c).2.2.2.2⟩) (Cert.KernelIdeal.Value.run_blocks m g)
  · refine (θ_run Cert.ReferenceIdeal.defs _ _).mono (fun r h c => ?_) (Cert.ReferenceIdeal.Value.run m' g')
    have hA := real_kernel m hp c
    obtain ⟨e0, e1, e2, e3, e4, e5, e6⟩ := hag c
    exact ⟨(h c).1.trans ((Cert.ReferenceIdeal.Read.val_main_v74_eq m' c).trans (Cert.Meet.ref74 hA e0 e1 e2 e3 e4 e5 e6)),
      (h c).2.1.trans ((Cert.ReferenceIdeal.Read.val_main_v84_eq m' c).trans (Cert.Meet.ref84 hA e0 e1 e2 e3 e4 e5 e6)),
      (h c).2.2.1.trans ((Cert.ReferenceIdeal.Read.val_main_v85_eq m' c).trans (Cert.Meet.ref85 hA e0 e1 e2 e3 e4 e5 e6)),
      (h c).2.2.2.1.trans ((Cert.ReferenceIdeal.Read.val_main_v82_eq m' c).trans (Cert.Meet.ref82 hA e0 e1 e2 e3 e4 e5 e6)),
      (h c).2.2.2.2⟩

/-- The reference of program 2 ends, its arguments unchanged and every semaphore at zero. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run Cert.Reference2Ideal.defs _ _).mono (fun r h => ⟨fun c => (h c).2,
    Idealize.ShloMosaic.sem_eq_zero_of_no_sems (by decide) r.2⟩) (Cert.Reference2Ideal.Value.run m g)

theorem algebraic_holds2 : Cert.algebraic_Kernel2Ideal_Reference2Ideal := by
  intro m g m' g' hp hag
  refine ⟨fun c => Cert.DwIn.R m c, ?_, ?_⟩
  · exact (θ_run Cert.Kernel2Ideal.defs _ _).mono (fun r h c => ⟨(h c).1.trans (Cert.DwIn.final m c), (h c).2⟩) (Cert.Kernel2Ideal.Value.run_blocks m g)
  · refine (θ_run Cert.Reference2Ideal.defs _ _).mono (fun r h c => ?_) (Cert.Reference2Ideal.Value.run m' g')
    obtain ⟨e0, e1⟩ := hag c
    exact ⟨(h c).1.trans ((Cert.Reference2Ideal.Read.val_main_v5_eq _ _).trans (Cert.DwIn.meet e0 e1)),
      (h c).2⟩

/-- The reference of program 3 ends, its arguments unchanged and every semaphore at zero. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2,
    Idealize.ShloMosaic.sem_eq_zero_of_no_sems (by decide) r.2⟩) (Cert.Reference3Ideal.Value.run m g)

theorem algebraic_holds3 : Cert.algebraic_Kernel3Ideal_Reference3Ideal := by
  intro m g m' g' hp hag
  refine ⟨fun c => Cert.DwOut.R m c, ?_, ?_⟩
  · exact (θ_run Cert.Kernel3Ideal.defs _ _).mono (fun r h c => ⟨(h c).1.trans (Cert.DwOut.final m c), (h c).2⟩) (Cert.Kernel3Ideal.Value.run_blocks m g)
  · refine (θ_run Cert.Reference3Ideal.defs _ _).mono (fun r h c => ?_) (Cert.Reference3Ideal.Value.run m' g')
    obtain ⟨e0, e1⟩ := hag c
    exact ⟨(h c).1.trans ((Cert.Reference3Ideal.Read.val_main_v4_eq _ _).trans (Cert.DwOut.meet e0 e1)),
      (h c).2⟩

/-- The reference of program 4 ends, its arguments unchanged and every semaphore at zero. -/
theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run Cert.Reference4Ideal.defs _ _).mono (fun r h => ⟨fun c => (h c).2.2.2,
    Idealize.ShloMosaic.sem_eq_zero_of_no_sems (by decide) r.2⟩) (Cert.Reference4Ideal.Value.run m g)

/-- The reference of program 4 ends in the machine formats, its arguments unchanged and every semaphore at zero. -/
theorem frame_bits4 (m : (ℓ : Loc Cert.Reference4.nD Cert.Reference4.τ Cert.Reference4.sig) → Buf (Elt Bits) ℓ) (g : Dev Cert.Reference4.nD → PrngReg) :
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4))
      ∧ r.2.sem = fun _ => 0) :=
  (θ_run Cert.Reference4.defs _ _).mono (fun r h => ⟨fun c => (h c).2.2.2,
    Idealize.ShloMosaic.sem_eq_zero_of_no_sems (by decide) r.2⟩) (Cert.Reference4.Value.run m g)

theorem algebraic_holds4 : Cert.algebraic_Kernel4Ideal_Reference4Ideal := by
  intro m g m' g' hp hag
  refine ⟨fun c => Cert.FwdIn.R0 m c, fun c => Cert.FwdIn.R1 m c, fun c => Cert.FwdIn.R2 m c, ?_, ?_⟩
  · exact (θ_run Cert.Kernel4Ideal.defs _ _).mono (fun r h c => ⟨(h c).1.trans (Cert.FwdIn.final0 m c), (h c).2.1.trans (Cert.FwdIn.final1 m c), (h c).2.2.1.trans (Cert.FwdIn.final2 m c), (h c).2.2.2⟩) (Cert.Kernel4Ideal.Value.run_blocks m g)
  · refine (θ_run Cert.Reference4Ideal.defs _ _).mono (fun r h c => ?_) (Cert.Reference4Ideal.Value.run m' g')
    obtain ⟨e0, e1, e2, e3, e4⟩ := hag c
    exact ⟨(h c).1.trans ((Cert.Reference4Ideal.Read.val_main_v18_eq _ _ _ _ _).trans (Cert.FwdIn.meet0 e0 e1 e2 e3 e4)),
      (h c).2.1.trans ((Cert.Reference4Ideal.Read.val_main_v29_eq _ _ _ _ _).trans (Cert.FwdIn.meet1 e0 e1 e2 e3 e4)),
      (h c).2.2.1.trans ((Cert.Reference4Ideal.Read.val_main_v31_eq _ _ _ _).trans (Cert.FwdIn.meet2 e0 e1 e2 e3)),
      (h c).2.2.2⟩

/-- The reference of program 5 ends, its arguments unchanged and every semaphore at zero. -/
theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0) :=
  (θ_run Cert.Reference5Ideal.defs _ _).mono (fun r h => ⟨fun c => (h c).2.2.2.2,
    Idealize.ShloMosaic.sem_eq_zero_of_no_sems (by decide) r.2⟩) (Cert.Reference5Ideal.Value.run m g)

/-- The reference of program 5 ends in the machine formats, its arguments unchanged and every semaphore at zero. -/
theorem frame_bits5 (m : (ℓ : Loc Cert.Reference5.nD Cert.Reference5.τ Cert.Reference5.sig) → Buf (Elt Bits) ℓ) (g : Dev Cert.Reference5.nD → PrngReg) :
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3)
      ∧ r.2.mem ((c.tc : Thread Cert.Reference5.nD Cert.Reference5.τ).loc Cert.Reference5.main_arg4) = m ((c.tc : Thread Cert.Reference5.nD Cert.Reference5.τ).loc Cert.Reference5.main_arg4)
      ∧ r.2.mem ((c.tc : Thread Cert.Reference5.nD Cert.Reference5.τ).loc Cert.Reference5.main_arg5) = m ((c.tc : Thread Cert.Reference5.nD Cert.Reference5.τ).loc Cert.Reference5.main_arg5)
      ∧ r.2.mem ((c.tc : Thread Cert.Reference5.nD Cert.Reference5.τ).loc Cert.Reference5.main_arg6) = m ((c.tc : Thread Cert.Reference5.nD Cert.Reference5.τ).loc Cert.Reference5.main_arg6)
      ∧ r.2.mem ((c.tc : Thread Cert.Reference5.nD Cert.Reference5.τ).loc Cert.Reference5.main_arg7) = m ((c.tc : Thread Cert.Reference5.nD Cert.Reference5.τ).loc Cert.Reference5.main_arg7)
      ∧ r.2.mem ((c.tc : Thread Cert.Reference5.nD Cert.Reference5.τ).loc Cert.Reference5.main_arg8) = m ((c.tc : Thread Cert.Reference5.nD Cert.Reference5.τ).loc Cert.Reference5.main_arg8))
      ∧ r.2.sem = fun _ => 0) :=
  (θ_run Cert.Reference5.defs _ _).mono (fun r h => ⟨fun c => (h c).2.2.2.2,
    Idealize.ShloMosaic.sem_eq_zero_of_no_sems (by decide) r.2⟩) (Cert.Reference5.Value.run m g)

theorem algebraic_holds5 : Cert.algebraic_Kernel5Ideal_Reference5Ideal := by
  intro m g m' g' hp hag
  refine ⟨fun c => Cert.FwdFfn.R0 m c, fun c => Cert.FwdFfn.R1 m c, fun c => Cert.FwdFfn.R2 m c, fun c => Cert.FwdFfn.R3 m c, ?_, ?_⟩
  · exact (θ_run Cert.Kernel5Ideal.defs _ _).mono (fun r h c => ⟨(h c).1.trans (Cert.FwdFfn.final0 m c), (h c).2.1.trans (Cert.FwdFfn.final1 m c), (h c).2.2.1.trans (Cert.FwdFfn.final2 m c), (h c).2.2.2.1.trans (Cert.FwdFfn.final3 m c), (h c).2.2.2.2⟩) (Cert.Kernel5Ideal.Value.run_blocks m g)
  · refine (θ_run Cert.Reference5Ideal.defs _ _).mono (fun r h c => ?_) (Cert.Reference5Ideal.Value.run m' g')
    obtain ⟨e0, e1, e2, e3, e4, e5, e6, e7, e8⟩ := hag c
    exact ⟨(h c).1.trans ((Cert.Reference5Ideal.Read.val_main_v88_eq _).trans (Cert.FwdFfn.meet0 e0 e5)),
      (h c).2.1.trans ((Cert.Reference5Ideal.Read.val_main_v92_eq _).trans (Cert.FwdFfn.meet1 e0 e5 e6 e7)),
      (h c).2.2.1.trans ((Cert.Reference5Ideal.Read.val_main_v79_eq _).trans (Cert.FwdFfn.meet2 e0 e1 e2 e3 e4 e5 e6 e7 e8)),
      (h c).2.2.2.1.trans ((Cert.Reference5Ideal.Read.val_main_v84_eq _).trans (Cert.FwdFfn.meet3 e0 e1 e2 e3 e4 e5 e6 e7 e8)),
      (h c).2.2.2.2⟩

/-- The reference of program 6 ends, its arguments unchanged and every semaphore at zero. -/
theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run Cert.Reference6Ideal.defs _ _).mono (fun r h => ⟨fun c => (h c).2.2.2.2,
    Idealize.ShloMosaic.sem_eq_zero_of_no_sems (by decide) r.2⟩) (Cert.Reference6Ideal.Value.run m g)

/-- The reference of program 6 ends in the machine formats, its arguments unchanged and every semaphore at zero. -/
theorem frame_bits6 (m : (ℓ : Loc Cert.Reference6.nD Cert.Reference6.τ Cert.Reference6.sig) → Buf (Elt Bits) ℓ) (g : Dev Cert.Reference6.nD → PrngReg) :
    θ_run (Cert.Reference6.defs (F := Bits)) (onTc (τ := Cert.Reference6.τ) (Cert.Reference6.main (F := Bits))) ⟨m, fun _ => 0, g⟩ (fun r => (∀ c : Dev Cert.Reference6.nD,
      r.2.mem ((c.tc : Thread Cert.Reference6.nD Cert.Reference6.τ).loc Cert.Reference6.main_arg0) = m ((c.tc : Thread Cert.Reference6.nD Cert.Reference6.τ).loc Cert.Reference6.main_arg0)
      ∧ r.2.mem ((c.tc : Thread Cert.Reference6.nD Cert.Reference6.τ).loc Cert.Reference6.main_arg1) = m ((c.tc : Thread Cert.Reference6.nD Cert.Reference6.τ).loc Cert.Reference6.main_arg1)
      ∧ r.2.mem ((c.tc : Thread Cert.Reference6.nD Cert.Reference6.τ).loc Cert.Reference6.main_arg2) = m ((c.tc : Thread Cert.Reference6.nD Cert.Reference6.τ).loc Cert.Reference6.main_arg2)
      ∧ r.2.mem ((c.tc : Thread Cert.Reference6.nD Cert.Reference6.τ).loc Cert.Reference6.main_arg3) = m ((c.tc : Thread Cert.Reference6.nD Cert.Reference6.τ).loc Cert.Reference6.main_arg3)
      ∧ r.2.mem ((c.tc : Thread Cert.Reference6.nD Cert.Reference6.τ).loc Cert.Reference6.main_arg4) = m ((c.tc : Thread Cert.Reference6.nD Cert.Reference6.τ).loc Cert.Reference6.main_arg4))
      ∧ r.2.sem = fun _ => 0) :=
  (θ_run Cert.Reference6.defs _ _).mono (fun r h => ⟨fun c => (h c).2.2.2.2,
    Idealize.ShloMosaic.sem_eq_zero_of_no_sems (by decide) r.2⟩) (Cert.Reference6.Value.run m g)

theorem algebraic_holds6 : Cert.algebraic_Kernel6Ideal_Reference6Ideal := by
  intro m g m' g' hp hag
  refine ⟨fun c => Cert.AdaGrad.R0 m c, fun c => Cert.AdaGrad.R1 m c, fun c => Cert.AdaGrad.R2 m c, fun c => Cert.AdaGrad.R3 m c, ?_, ?_⟩
  · exact (θ_run Cert.Kernel6Ideal.defs _ _).mono (fun r h c => ⟨(h c).1.trans (Cert.AdaGrad.final0 m c), (h c).2.1.trans (Cert.AdaGrad.final1 m c), (h c).2.2.1.trans (Cert.AdaGrad.final2 m c), (h c).2.2.2.1.trans (Cert.AdaGrad.final3 m c), (h c).2.2.2.2⟩) (Cert.Kernel6Ideal.Value.run_blocks m g)
  · refine (θ_run Cert.Reference6Ideal.defs _ _).mono (fun r h c => ?_) (Cert.Reference6Ideal.Value.run m' g')
    obtain ⟨e0, e1, e2, e3, e4⟩ := hag c
    exact ⟨(h c).1.trans ((Cert.Reference6Ideal.Read.val_main_v5_eq _ _).trans (Cert.AdaGrad.meet0 e0 e1)),
      (h c).2.1.trans ((Cert.Reference6Ideal.Read.val_main_v29_eq _ _ _ _ _).trans (Cert.AdaGrad.meet1 e0 e1 e2 e3 e4)),
      (h c).2.2.1.trans ((Cert.Reference6Ideal.Read.val_main_v10_eq _ _ _).trans (Cert.AdaGrad.meet2 e0 e1 e3)),
      (h c).2.2.2.1.trans ((Cert.Reference6Ideal.Read.val_main_v16_eq _ _ _).trans (Cert.AdaGrad.meet3 e0 e1 e4)),
      (h c).2.2.2.2⟩

/-- The reference of program 7 ends, its arguments unchanged and every semaphore at zero. -/
theorem frame_reference7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run Cert.Reference7Ideal.defs _ _).mono (fun r h => ⟨fun c => (h c).2,
    Idealize.ShloMosaic.sem_eq_zero_of_no_sems (by decide) r.2⟩) (Cert.Reference7Ideal.Value.run m g)

/-- The reference of program 7 ends in the machine formats, its arguments unchanged and every semaphore at zero. -/
theorem frame_bits7 (m : (ℓ : Loc Cert.Reference7.nD Cert.Reference7.τ Cert.Reference7.sig) → Buf (Elt Bits) ℓ) (g : Dev Cert.Reference7.nD → PrngReg) :
    θ_run (Cert.Reference7.defs (F := Bits)) (onTc (τ := Cert.Reference7.τ) (Cert.Reference7.main (F := Bits))) ⟨m, fun _ => 0, g⟩ (fun r => (∀ c : Dev Cert.Reference7.nD,
      r.2.mem ((c.tc : Thread Cert.Reference7.nD Cert.Reference7.τ).loc Cert.Reference7.main_arg0) = m ((c.tc : Thread Cert.Reference7.nD Cert.Reference7.τ).loc Cert.Reference7.main_arg0)
      ∧ r.2.mem ((c.tc : Thread Cert.Reference7.nD Cert.Reference7.τ).loc Cert.Reference7.main_arg1) = m ((c.tc : Thread Cert.Reference7.nD Cert.Reference7.τ).loc Cert.Reference7.main_arg1)
      ∧ r.2.mem ((c.tc : Thread Cert.Reference7.nD Cert.Reference7.τ).loc Cert.Reference7.main_arg2) = m ((c.tc : Thread Cert.Reference7.nD Cert.Reference7.τ).loc Cert.Reference7.main_arg2))
      ∧ r.2.sem = fun _ => 0) :=
  (θ_run Cert.Reference7.defs _ _).mono (fun r h => ⟨fun c => (h c).2,
    Idealize.ShloMosaic.sem_eq_zero_of_no_sems (by decide) r.2⟩) (Cert.Reference7.Value.run m g)

theorem algebraic_holds7 : Cert.algebraic_Kernel7Ideal_Reference7Ideal := by
  intro m g m' g' hp hag
  refine ⟨fun c => Cert.ModPart.R m c, ?_, ?_⟩
  · exact (θ_run Cert.Kernel7Ideal.defs _ _).mono (fun r h c => ⟨(h c).1.trans (Cert.ModPart.final m c), (h c).2⟩) (Cert.Kernel7Ideal.Value.run_blocks m g)
  · refine (θ_run Cert.Reference7Ideal.defs _ _).mono (fun r h c => ?_) (Cert.Reference7Ideal.Value.run m' g')
    obtain ⟨e0, e1, e2⟩ := hag c
    exact ⟨(h c).1.trans ((Cert.Reference7Ideal.Read.val_main_v4_eq _ _ _).trans (Cert.ModPart.meet e0 e1 e2)),
      (h c).2⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4.Gen.facts, Cert.Reference4Ideal.Gen.facts, Cert.Kernel5.Gen.facts, Cert.Kernel5Ideal.Gen.facts, Cert.Reference5.Gen.facts, Cert.Reference5Ideal.Gen.facts, Cert.Kernel6.Gen.facts, Cert.Kernel6Ideal.Gen.facts, Cert.Reference6.Gen.facts, Cert.Reference6Ideal.Gen.facts, Cert.Kernel7.Gen.facts, Cert.Kernel7Ideal.Gen.facts, Cert.Reference7.Gen.facts, Cert.Reference7Ideal.Gen.facts, Cert.Pre_finite.Gen.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.Kernel2.Gen.frame m g,
  fun m g _ => Cert.Kernel2Ideal.Gen.frame m g,
  fun m g _ => frame_reference2 m g,
  fun m g _ => Cert.Kernel3.Gen.frame m g,
  fun m g _ => Cert.Kernel3Ideal.Gen.frame m g,
  fun m g _ => frame_reference3 m g,
  fun m g _ => Cert.Kernel4.Gen.frame m g,
  fun m g _ => Cert.Kernel4Ideal.Gen.frame m g,
  fun m g _ => frame_bits4 m g,
  fun m g _ => frame_reference4 m g,
  fun m g _ => Cert.Kernel5.Gen.frame m g,
  fun m g _ => Cert.Kernel5Ideal.Gen.frame m g,
  fun m g _ => frame_bits5 m g,
  fun m g _ => frame_reference5 m g,
  fun m g _ => Cert.Kernel6.Gen.frame m g,
  fun m g _ => Cert.Kernel6Ideal.Gen.frame m g,
  fun m g _ => frame_bits6 m g,
  fun m g _ => frame_reference6 m g,
  fun m g _ => Cert.Kernel7.Gen.frame m g,
  fun m g _ => Cert.Kernel7Ideal.Gen.frame m g,
  fun m g _ => frame_bits7 m g,
  fun m g _ => frame_reference7 m g,
  trivial, algebraic_holds, trivial, algebraic_holds2, trivial, algebraic_holds3, trivial, algebraic_holds4, trivial, algebraic_holds5, trivial, algebraic_holds6, trivial, algebraic_holds7⟩

end Cert.Proof

end
